-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v110) = v0 c
          ∧ r.2.mem ((c.tc : Thread Cert.Reference4Ideal.nD Cert.Reference4Ideal.τ).loc Cert.Reference4Ideal.main_v111) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v109) = v0 c
          ∧ r.2.mem ((c.tc : Thread Cert.Reference5Ideal.nD Cert.Reference5Ideal.τ).loc Cert.Reference5Ideal.main_v110) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v42_0)) (v1 : (c : Dev Cert.Kernel6Ideal.nD) → Buf (Elt Ideal) ((c.tc : Thread Cert.Kernel6Ideal.nD Cert.Kernel6Ideal.τ).loc Cert.Kernel6Ideal.main_v42_1)) (v2 : (c : Dev Cert.Kernel6Ideal.nD) → Buf (Elt Ideal) ((c.tc : Thread Cert.Kernel6Ideal.nD Cert.Kernel6Ideal.τ).loc Cert.Kernel6Ideal.main_v42_2)) (v3 : (c : Dev Cert.Kernel6Ideal.nD) → Buf (Elt Ideal) ((c.tc : Thread Cert.Kernel6Ideal.nD Cert.Kernel6Ideal.τ).loc Cert.Kernel6Ideal.main_v42_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v42_0) = v0 c
          ∧ r.2.mem ((c.tc : Thread Cert.Kernel6Ideal.nD Cert.Kernel6Ideal.τ).loc Cert.Kernel6Ideal.main_v42_1) = v1 c
          ∧ r.2.mem ((c.tc : Thread Cert.Kernel6Ideal.nD Cert.Kernel6Ideal.τ).loc Cert.Kernel6Ideal.main_v42_2) = v2 c
          ∧ r.2.mem ((c.tc : Thread Cert.Kernel6Ideal.nD Cert.Kernel6Ideal.τ).loc Cert.Kernel6Ideal.main_v42_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v123) = v0 c
          ∧ r.2.mem ((c.tc : Thread Cert.Reference6Ideal.nD Cert.Reference6Ideal.τ).loc Cert.Reference6Ideal.main_v124) = v1 c
          ∧ r.2.mem ((c.tc : Thread Cert.Reference6Ideal.nD Cert.Reference6Ideal.τ).loc Cert.Reference6Ideal.main_v125) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x4352x512 : Shape := ⟨3, ![8, 4352, 512]⟩
abbrev S8x4352x128 : Shape := ⟨3, ![8, 4352, 128]⟩
abbrev S8x4352x1664 : Shape := ⟨3, ![8, 4352, 1664]⟩
abbrev S_ : Shape := ⟨0, ![]⟩

class Facts : Prop where
  concatenates_S8x4352x512_S8x4352x512_S8x4352x512_S8x4352x128_S8x4352x1664_d2 : Shape.Concatenates [S8x4352x512, S8x4352x512, S8x4352x512, S8x4352x128] S8x4352x1664 2
  bcast_S_S8x4352x1664 : S_.BroadcastsInDim S8x4352x1664 (![] : Fin 0 → Fin S8x4352x1664.rank)

variable [Facts]

def fn {F : FTy → Type} [FloatOps F] (main_arg0 : FVec F S8x4352x512 .f32) (main_arg1 : FVec F S8x4352x512 .f32) (main_arg2 : FVec F S8x4352x512 .f32) (main_arg3 : FVec F S8x4352x128 .f32) : IVec S8x4352x1664 1 :=
  let main_v0 : FVec F S8x4352x1664 .f32 := concatenate S8x4352x1664 2 [⟨S8x4352x512, main_arg0⟩, ⟨S8x4352x512, main_arg1⟩, ⟨S8x4352x512, main_arg2⟩, ⟨S8x4352x128, main_arg3⟩] concatenates_S8x4352x512_S8x4352x512_S8x4352x512_S8x4352x128_S8x4352x1664_d2
  let main_v1 : FVec F S8x4352x1664 .f32 := Host.absf main_v0
  let main_cst : FVec F S_ .f32 := constant S_ .f32 0x7F800000#32
  let main_v2 : FVec F S8x4352x1664 .f32 := broadcastInDim S8x4352x1664 ![] bcast_S_S8x4352x1664 main_cst
  let main_v3 : IVec S8x4352x1664 1 := cmpf .olt main_v1 main_v2
  main_v3
-- ==== Kernel.lean ====
abbrev S8x4352x512 : Shape := ⟨3, ![8, 4352, 512]⟩
abbrev S8x4352x128 : Shape := ⟨3, ![8, 4352, 128]⟩
abbrev S8x64x512 : Shape := ⟨3, ![8, 64, 512]⟩
abbrev S8x64x128 : Shape := ⟨3, ![8, 64, 128]⟩
abbrev S32x128x128 : Shape := ⟨3, ![32, 128, 128]⟩
abbrev S64x64 : Shape := ⟨2, ![64, 64]⟩
abbrev S1x64x128 : Shape := ⟨3, ![1, 64, 128]⟩
abbrev S64x128 : Shape := ⟨2, ![64, 128]⟩
abbrev S64x1024 : Shape := ⟨2, ![64, 1024]⟩
abbrev S128x64 : Shape := ⟨2, ![128, 64]⟩
abbrev S64x1 : Shape := ⟨2, ![64, 1]⟩
abbrev S1x64 : Shape := ⟨2, ![1, 64]⟩
abbrev S1x64x1 : Shape := ⟨3, ![1, 64, 1]⟩
abbrev S32x64x1 : Shape := ⟨3, ![32, 64, 1]⟩
abbrev S1x1x64 : Shape := ⟨3, ![1, 1, 64]⟩
abbrev S32x1x64 : Shape := ⟨3, ![32, 1, 64]⟩
abbrev S32x64x64 : Shape := ⟨3, ![32, 64, 64]⟩
abbrev S1x64x64 : Shape := ⟨3, ![1, 64, 64]⟩
abbrev S32x64x128 : Shape := ⟨3, ![32, 64, 128]⟩
abbrev S32x128x64 : Shape := ⟨3, ![32, 128, 64]⟩
abbrev S32x64x256 : Shape := ⟨3, ![32, 64, 256]⟩
abbrev S32x1x1 : Shape := ⟨3, ![32, 1, 1]⟩

abbrev nBuf : Space → Nat
  | .hbm => 5
  | .vmem => 11
  | .smem => 0
  | _ => 0

abbrev bufTy : (tb : Table) → Fin (tcTables nBuf tb) → BufTy
  | .hbm, ⟨0, _⟩ => ⟨S8x4352x512, .f32⟩
  | .hbm, ⟨1, _⟩ => ⟨S8x4352x512, .f32⟩
  | .hbm, ⟨2, _⟩ => ⟨S8x4352x512, .f32⟩
  | .hbm, ⟨3, _⟩ => ⟨S8x4352x128, .f32⟩
  | .hbm, ⟨4, _⟩ => ⟨S8x4352x512, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S8x64x512, .f32⟩
  | .local _ .vmem, ⟨5, _⟩ => ⟨S8x64x512, .f32⟩
  | .local _ .vmem, ⟨6, _⟩ => ⟨S8x64x128, .f32⟩
  | .local _ .vmem, ⟨7, _⟩ => ⟨S8x64x128, .f32⟩
  | .local _ .vmem, ⟨8, _⟩ => ⟨S8x64x512, .f32⟩
  | .local _ .vmem, ⟨9, _⟩ => ⟨S8x64x512, .f32⟩
  | .local _ .vmem, ⟨10, _⟩ => ⟨S32x128x128, .f32⟩
  | _, _ => ⟨S8x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x4352x512 : Shape := ⟨3, ![8, 4352, 512]⟩
abbrev S8x4352x128 : Shape := ⟨3, ![8, 4352, 128]⟩
abbrev S8x4352x4 : Shape := ⟨3, ![8, 4352, 4]⟩
abbrev S8x4352x4x128 : Shape := ⟨4, ![8, 4352, 4, 128]⟩
abbrev S_ : Shape := ⟨0, ![]⟩
abbrev S8x4x128x128 : Shape := ⟨4, ![8, 4, 128, 128]⟩
abbrev S4352x8x4x128 : Shape := ⟨4, ![4352, 8, 4, 128]⟩
abbrev S4352x8x4 : Shape := ⟨3, ![4352, 8, 4]⟩
abbrev S1x8x4x128 : Shape := ⟨4, ![1, 8, 4, 128]⟩
abbrev S8x4x128 : Shape := ⟨3, ![8, 4, 128]⟩
abbrev S1x8x4 : Shape := ⟨3, ![1, 8, 4]⟩
abbrev S8x4 : Shape := ⟨2, ![8, 4]⟩
abbrev S8x4x1x1 : Shape := ⟨4, ![8, 4, 1, 1]⟩
abbrev S8x4x1 : Shape := ⟨3, ![8, 4, 1]⟩
abbrev S8x4x128x1 : Shape := ⟨4, ![8, 4, 128, 1]⟩
abbrev S8x4x1x128 : Shape := ⟨4, ![8, 4, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x4352x512, .f32⟩
  | .hbm, ⟨1, _⟩ => ⟨S8x4352x512, .f32⟩
  | .hbm, ⟨2, _⟩ => ⟨S8x4352x512, .f32⟩
  | .hbm, ⟨3, _⟩ => ⟨S8x4352x128, .f32⟩
  | .hbm, ⟨4, _⟩ => ⟨S8x4352x4, .f32⟩
  | .hbm, ⟨5, _⟩ => ⟨S8x4352x4, .f32⟩
  | .hbm, ⟨6, _⟩ => ⟨S8x4352x4x128, .f32⟩
  | .hbm, ⟨7, _⟩ => ⟨S8x4352x4x128, .f32⟩
  | .hbm, ⟨8, _⟩ => ⟨S8x4352x4x128, .f32⟩
  | .hbm, ⟨9, _⟩ => ⟨S_, .f32⟩
  | .hbm, ⟨10, _⟩ => ⟨S8x4x128x128, .f32⟩
  | .hbm, ⟨11, _⟩ => ⟨S4352x8x4x128, .f32⟩
  | .hbm, ⟨12, _⟩ => ⟨S4352x8x4x128, .f32⟩
  | .hbm, ⟨13, _⟩ => ⟨S4352x8x4x128, .f32⟩
  | .hbm, ⟨14, _⟩ => ⟨S4352x8x4, .f32⟩
  | .hbm, ⟨15, _⟩ => ⟨S4352x8x4, .f32⟩
  | .hbm, ⟨16, _⟩ => ⟨S_, .f32⟩
  | .hbm, ⟨17, _⟩ => ⟨S4352x8x4x128, .f32⟩
  | .hbm, ⟨18, _⟩ => ⟨S_, .i32⟩
  | .hbm, ⟨19, _⟩ => ⟨S4352x8x4x128, .f32⟩
  | .hbm, ⟨20, _⟩ => ⟨S4352x8x4x128, .f32⟩
  | .hbm, ⟨21, _⟩ => ⟨S4352x8x4x128, .f32⟩
  | .hbm, ⟨22, _⟩ => ⟨S4352x8x4, .f32⟩
  | .hbm, ⟨23, _⟩ => ⟨S4352x8x4, .f32⟩
  | .hbm, ⟨24, _⟩ => ⟨S_, .i32⟩
  | .hbm, ⟨25, _⟩ => ⟨S8x4x128x128, .f32⟩
  | .hbm, ⟨26, _⟩ => ⟨S4352x8x4x128, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x8x4x128, .f32⟩
  | .hbm, ⟨37, _⟩ => ⟨S8x4x128, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x8x4x128, .f32⟩
  | .hbm, ⟨42, _⟩ => ⟨S8x4x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x8x4x128, .f32⟩
  | .hbm, ⟨47, _⟩ => ⟨S8x4x128, .f32⟩
  | .hbm, ⟨48, _⟩ => ⟨S_, .i32⟩
  | .hbm, ⟨49, _⟩ => ⟨S_, .i32⟩
  | .hbm, ⟨50, _⟩ => ⟨S1x8x4, .f32⟩
  | .hbm, ⟨51, _⟩ => ⟨S8x4, .f32⟩
  | .hbm, ⟨52, _⟩ => ⟨S_, .i32⟩
  | .hbm, ⟨53, _⟩ => ⟨S_, .i32⟩
  | .hbm, ⟨54, _⟩ => ⟨S1x8x4, .f32⟩
  | .hbm, ⟨55, _⟩ => ⟨S8x4, .f32⟩
  | .hbm, ⟨56, _⟩ => ⟨S8x4, .f32⟩
  | .hbm, ⟨57, _⟩ => ⟨S8x4x1x1, .f32⟩
  | .hbm, ⟨58, _⟩ => ⟨S8x4x128x128, .f32⟩
  | .hbm, ⟨59, _⟩ => ⟨S8x4x128x128, .f32⟩
  | .hbm, ⟨60, _⟩ => ⟨S8x4x1, .f32⟩
  | .hbm, ⟨61, _⟩ => ⟨S8x4x128, .f32⟩
  | .hbm, ⟨62, _⟩ => ⟨S8x4x128, .f32⟩
  | .hbm, ⟨63, _⟩ => ⟨S8x4x128, .f32⟩
  | .hbm, ⟨64, _⟩ => ⟨S8x4x128, .f32⟩
  | .hbm, ⟨65, _⟩ => ⟨S8x4x128x1, .f32⟩
  | .hbm, ⟨66, _⟩ => ⟨S8x4x1x128, .f32⟩
  | .hbm, ⟨67, _⟩ => ⟨S8x4x128x128, .f32⟩
  | .hbm, ⟨68, _⟩ => ⟨S8x4x128x128, .f32⟩
  | .hbm, ⟨69, _⟩ => ⟨S8x4x128x128, .f32⟩
  | .hbm, ⟨70, _⟩ => ⟨S8x4x128x128, .f32⟩
  | .hbm, ⟨71, _⟩ => ⟨S8x4x128, .f32⟩
  | .hbm, ⟨72, _⟩ => ⟨S1x8x4x128, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S4352x8x4x128, .f32⟩
  | .hbm, ⟨77, _⟩ => ⟨S_, .i32⟩
  | .hbm, ⟨78, _⟩ => ⟨S_, .i32⟩
  | .hbm, ⟨79, _⟩ => ⟨S8x4352x4x128, .f32⟩
  | .hbm, ⟨80, _⟩ => ⟨S8x4352x512, .f32⟩
  | _, _ => ⟨S8x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_c : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v12_7 : Ref sig .tc := ⟨.hbm, 26, rfl⟩
abbrev main_while0c_c_8 : Ref sig .tc := ⟨.hbm, 27, rfl⟩
abbrev main_while0c_v15 : Ref sig .tc := ⟨.hbm, 28, rfl⟩
abbrev main_while0b_c_8 : Ref sig .tc := ⟨.hbm, 29, rfl⟩
abbrev main_while0b_v15 : Ref sig .tc := ⟨.hbm, 30, rfl⟩
abbrev main_while0b_c_9 : Ref sig .tc := ⟨.hbm, 31, rfl⟩
abbrev main_while0b_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v17 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v18 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_v0 : Ref sig .tc := ⟨.hbm, 46, rfl⟩
abbrev main_while0b_v19 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_v0 : Ref sig .tc := ⟨.hbm, 50, rfl⟩
abbrev main_while0b_v20 : Ref sig .tc := ⟨.hbm, 51, rfl⟩
abbrev main_while0b_call4_c : Ref sig .tc := ⟨.hbm, 52, rfl⟩
abbrev main_while0b_call4_c_0 : Ref sig .tc := ⟨.hbm, 53, rfl⟩
abbrev main_while0b_call4_v0 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_v24 : Ref sig .tc := ⟨.hbm, 58, rfl⟩
abbrev main_while0b_v25 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_call5_v0 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_c_1 : Ref sig .tc := ⟨.hbm, 75, rfl⟩
abbrev main_while0b_v38 : Ref sig .tc := ⟨.hbm, 76, rfl⟩
abbrev main_while0b_c_10 : Ref sig .tc := ⟨.hbm, 77, rfl⟩
abbrev main_while0b_v39 : Ref sig .tc := ⟨.hbm, 78, rfl⟩
abbrev main_v13 : Ref sig .tc := ⟨.hbm, 79, rfl⟩
abbrev main_v14 : Ref sig .tc := ⟨.hbm, 80, rfl⟩

abbrev nD : Nat := 1
abbrev τ : Topo := Topo.v7x

variable {F : FTy → Type} [FloatOps F]

abbrev main_while0_count : Scf.Loop 32 := ⟨0#32, 4352#32, 1#32⟩
-- ==== Kernel2.lean ====
abbrev S8x4096x1024 : Shape := ⟨3, ![8, 4096, 1024]⟩
abbrev S8x4352x512 : Shape := ⟨3, ![8, 4352, 512]⟩
abbrev S16x9x1024 : Shape := ⟨3, ![16, 9, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S1x9x1024 : Shape := ⟨3, ![1, 9, 1024]⟩
abbrev S512x2816 : Shape := ⟨2, ![512, 2816]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 22
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4352x512, .bf16⟩
  | .hbm, ⟨2, _⟩ => ⟨S8x4352x512, .bf16⟩
  | .hbm, ⟨3, _⟩ => ⟨S16x9x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x5632, .bf16⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x9x1024, .f32⟩
  | .local _ .vmem, ⟨7, _⟩ => ⟨S1x9x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x4096x1024 : Shape := ⟨3, ![8, 4096, 1024]⟩
abbrev S8x4352x512 : Shape := ⟨3, ![8, 4352, 512]⟩
abbrev S16x9x1024 : Shape := ⟨3, ![16, 9, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S8x1x1024 : Shape := ⟨3, ![8, 1, 1024]⟩
abbrev S8x1024 : Shape := ⟨2, ![8, 1024]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 138
  | .vmem => 0
  | .smem => 0
  | _ => 0

abbrev hbmTy0_0 (i : Nat) : BufTy := match i % 128 with
  | 0 => ⟨S8x4096x1024, .f32⟩
  | 1 => ⟨S8x4352x512, .bf16⟩
  | 2 => ⟨S8x4352x512, .bf16⟩
  | 3 => ⟨S16x9x1024, .f32⟩
  | 4 => ⟨S1024, .f32⟩
  | 5 => ⟨S1024, .f32⟩
  | 6 => ⟨S1024x1024, .f32⟩
  | 7 => ⟨S1024x5632, .f32⟩
  | 8 => ⟨S2816x1024, .f32⟩
  | 9 => ⟨S1024, .f32⟩
  | 10 => ⟨S1024, .f32⟩
  | 11 => ⟨S8x1x1024, .f32⟩
  | 12 => ⟨S8x1024, .f32⟩
  | 13 => ⟨S8x1x1024, .f32⟩
  | 14 => ⟨S8x1x1024, .f32⟩
  | 15 => ⟨S8x1024, .f32⟩
  | 16 => ⟨S8x1x1024, .f32⟩
  | 17 => ⟨S8x1x1024, .f32⟩
  | 18 => ⟨S8x1024, .f32⟩
  | 19 => ⟨S8x1x1024, .f32⟩
  | 20 => ⟨S8x1x1024, .f32⟩
  | 21 => ⟨S8x1024, .f32⟩
  | 22 => ⟨S8x1x1024, .f32⟩
  | 23 => ⟨S8x1x1024, .f32⟩
  | 24 => ⟨S8x1024, .f32⟩
  | 25 => ⟨S8x1x1024, .f32⟩
  | 26 => ⟨S8x1x1024, .f32⟩
  | 27 => ⟨S8x1024, .f32⟩
  | 28 => ⟨S8x1x1024, .f32⟩
  | 29 => ⟨S8x1x1024, .f32⟩
  | 30 => ⟨S8x1024, .f32⟩
  | 31 => ⟨S8x1x1024, .f32⟩
  | 32 => ⟨S8x1x1024, .f32⟩
  | 33 => ⟨S8x1024, .f32⟩
  | 34 => ⟨S8x1x1024, .f32⟩
  | 35 => ⟨S8x1x1024, .f32⟩
  | 36 => ⟨S8x1024, .f32⟩
  | 37 => ⟨S8x1x1024, .f32⟩
  | 38 => ⟨S8x4096x512, .bf16⟩
  | 39 => ⟨S8x4096x512, .f32⟩
  | 40 => ⟨S8x4096x512, .bf16⟩
  | 41 => ⟨S8x4096x512, .f32⟩
  | 42 => ⟨S8x4096x1024, .f32⟩
  | 43 => ⟨S8x4096x1024, .f32⟩
  | 44 => ⟨S_, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S_, .f32⟩
  | 51 => ⟨S8x4096, .f32⟩
  | 52 => ⟨S8x4096x1, .f32⟩
  | 53 => ⟨S_, .f32⟩
  | 54 => ⟨S8x4096x1, .f32⟩
  | 55 => ⟨S8x4096x1, .f32⟩
  | 56 => ⟨S8x4096x1024, .f32⟩
  | 57 => ⟨S8x4096x1024, .f32⟩
  | 58 => ⟨S8x4096x1024, .f32⟩
  | 59 => ⟨S_, .f32⟩
  | 60 => ⟨S8x4096, .f32⟩
  | 61 => ⟨S8x4096x1, .f32⟩
  | 62 => ⟨S_, .f32⟩
  | 63 => ⟨S8x4096x1, .f32⟩
  | 64 => ⟨S8x4096x1, .f32⟩
  | 65 => ⟨S8x4096x1024, .f32⟩
  | 66 => ⟨S8x4096x1024, .f32⟩
  | 67 => ⟨S_, .f32⟩
  | 68 => ⟨S8x4096x1, .f32⟩
  | 69 => ⟨S8x4096x1, .f32⟩
  | 70 => ⟨S8x4096x1, .f32⟩
  | 71 => ⟨S8x4096x1024, .f32⟩
  | 72 => ⟨S8x4096x1024, .f32⟩
  | 73 => ⟨S1x1x1024, .f32⟩
  | 74 => ⟨S8x4096x1024, .f32⟩
  | 75 => ⟨S8x4096x1024, .f32⟩
  | 76 => ⟨S1x1x1024, .f32⟩
  | 77 => ⟨S8x4096x1024, .f32⟩
  | 78 => ⟨S8x4096x1024, .f32⟩
  | 79 => ⟨S_, .f32⟩
  | 80 => ⟨S8x1x1024, .f32⟩
  | 81 => ⟨S8x1x1024, .f32⟩
  | 82 => ⟨S8x4096x1024, .f32⟩
  | 83 => ⟨S8x4096x1024, .f32⟩
  | 84 => ⟨S8x4096x1024, .f32⟩
  | 85 => ⟨S8x4096x1024, .f32⟩
  | 86 => ⟨S8x4096x5632, .f32⟩
  | 87 => ⟨S8x4096x2816, .f32⟩
  | 88 => ⟨S8x4096x2816, .f32⟩
  | 89 => ⟨S8x4096x2816, .f32⟩
  | 90 => ⟨S8x4096x2816, .f32⟩
  | 91 => ⟨S_, .f32⟩
  | 92 => ⟨S8x4096x2816, .f32⟩
  | 93 => ⟨S8x4096x2816, .f32⟩
  | 94 => ⟨S_, .f32⟩
  | 95 => ⟨S8x4096x2816, .f32⟩
  | 96 => ⟨S8x4096x2816, .f32⟩
  | 97 => ⟨S8x4096x2816, .f32⟩
  | 98 => ⟨S8x4096x2816, .f32⟩
  | 99 => ⟨S8x4096x1024, .f32⟩
  | 100 => ⟨S_, .f32⟩
  | 101 => ⟨S8x4096x1024, .f32⟩
  | 102 => ⟨S8x4096x1024, .f32⟩
  | 103 => ⟨S_, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x1024, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S8x4096x1024, .f32⟩
  | 116 => ⟨S8x4096x1024, .f32⟩
  | 117 => ⟨S8x4096x1024, .f32⟩
  | 118 => ⟨S_, .f32⟩
  | 119 => ⟨S8x4096, .f32⟩
  | 120 => ⟨S8x4096x1, .f32⟩
  | 121 => ⟨S_, .f32⟩
  | 122 => ⟨S8x4096x1, .f32⟩
  | 123 => ⟨S8x4096x1, .f32⟩
  | 124 => ⟨S8x4096x1024, .f32⟩
  | 125 => ⟨S8x4096x1024, .f32⟩
  | 126 => ⟨S_, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1024, .f32⟩
  | 3 => ⟨S8x4096x1024, .f32⟩
  | 4 => ⟨S1x1x1024, .f32⟩
  | 5 => ⟨S8x4096x1024, .f32⟩
  | 6 => ⟨S8x4096x1024, .f32⟩
  | 7 => ⟨S1x1x1024, .f32⟩
  | 8 => ⟨S8x4096x1024, .f32⟩
  | 9 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_0 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_2 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_6 : Ref sig .tc := ⟨.hbm, 100, rfl⟩
abbrev main_v74 : Ref sig .tc := ⟨.hbm, 101, rfl⟩
abbrev main_v75 : Ref sig .tc := ⟨.hbm, 102, rfl⟩
abbrev main_cst_7 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_8 : Ref sig .tc := ⟨.hbm, 109, rfl⟩
abbrev main_v81 : Ref sig .tc := ⟨.hbm, 110, rfl⟩
abbrev main_v82 : Ref sig .tc := ⟨.hbm, 111, rfl⟩
abbrev main_cst_9 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_10 : Ref sig .tc := ⟨.hbm, 118, rfl⟩
abbrev main_v88 : Ref sig .tc := ⟨.hbm, 119, rfl⟩
abbrev main_v89 : Ref sig .tc := ⟨.hbm, 120, rfl⟩
abbrev main_cst_11 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_12 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x1024 : Shape := ⟨3, ![8, 256, 1024]⟩
abbrev S16x9x1024 : Shape := ⟨3, ![16, 9, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1x512x1024 : Shape := ⟨3, ![1, 512, 1024]⟩
abbrev S1x256x1024 : Shape := ⟨3, ![1, 256, 1024]⟩
abbrev S1x9x1024 : Shape := ⟨3, ![1, 9, 1024]⟩
abbrev S512x2816 : Shape := ⟨2, ![512, 2816]⟩
abbrev S512x1024 : Shape := ⟨2, ![512, 1024]⟩
abbrev S1x1x1024 : Shape := ⟨3, ![1, 1, 1024]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩
abbrev S256x256 : Shape := ⟨2, ![256, 256]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S16x9x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S8x4096x1024, .f32⟩
  | .hbm, ⟨12, _⟩ => ⟨S8x256x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x256x1024, .f32⟩
  | .local _ .vmem, ⟨14, _⟩ => ⟨S1x256x1024, .f32⟩
  | .local _ .vmem, ⟨15, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S8x4096x1024 : Shape := ⟨3, ![8, 4096, 1024]⟩
abbrev S8x256x1024 : Shape := ⟨3, ![8, 256, 1024]⟩
abbrev S16x9x1024 : Shape := ⟨3, ![16, 9, 1024]⟩
abbrev S1024x5632 : Shape := ⟨2, ![1024, 5632]⟩
abbrev S2816x1024 : Shape := ⟨2, ![2816, 1024]⟩
abbrev S1024 : Shape := ⟨1, ![1024]⟩
abbrev S8x4352x1024 : Shape := ⟨3, ![8, 4352, 1024]⟩
abbrev S8x1x1024 : Shape := ⟨3, ![8, 1, 1024]⟩
abbrev S8x1024 : Shape := ⟨2, ![8, 1024]⟩
abbrev S1x1x1024 : Shape := ⟨3, ![1, 1, 1024]⟩
abbrev S1x1024 : Shape := ⟨2, ![1, 1024]⟩
abbrev S_ : Shape := ⟨0, ![]⟩
abbrev S8x4352x5632 : Shape := ⟨3, ![8, 4352, 5632]⟩
abbrev S8x4352x2816 : Shape := ⟨3, ![8, 4352, 2816]⟩
abbrev S8x4352 : Shape := ⟨2, ![8, 4352]⟩
abbrev S8x4352x1 : Shape := ⟨3, ![8, 4352, 1]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S16x9x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x4352x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S8x4096x1024, .f32⟩
  | .hbm, ⟨15, _⟩ => ⟨S8x256x1024, .f32⟩
  | .hbm, ⟨16, _⟩ => ⟨S8x4352x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S1x1x1024, .f32⟩
  | .hbm, ⟨21, _⟩ => ⟨S1x1024, .f32⟩
  | .hbm, ⟨22, _⟩ => ⟨S1x1x1024, .f32⟩
  | .hbm, ⟨23, _⟩ => ⟨S8x4096x1024, .f32⟩
  | .hbm, ⟨24, _⟩ => ⟨S8x256x1024, .f32⟩
  | .hbm, ⟨25, _⟩ => ⟨S8x4352x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S1x1x1024, .f32⟩
  | .hbm, ⟨30, _⟩ => ⟨S1x1024, .f32⟩
  | .hbm, ⟨31, _⟩ => ⟨S1x1x1024, .f32⟩
  | .hbm, ⟨32, _⟩ => ⟨S8x4096x1024, .f32⟩
  | .hbm, ⟨33, _⟩ => ⟨S8x256x1024, .f32⟩
  | .hbm, ⟨34, _⟩ => ⟨S8x4352x1024, .f32⟩
  | .hbm, ⟨35, _⟩ => ⟨S_, .f32⟩
  | .hbm, ⟨36, _⟩ => ⟨S8x4352x1024, .f32⟩
  | .hbm, ⟨37, _⟩ => ⟨S8x4352x1024, .f32⟩
  | .hbm, ⟨38, _⟩ => ⟨S8x4352x1024, .f32⟩
  | .hbm, ⟨39, _⟩ => ⟨S8x4352x1024, .f32⟩
  | .hbm, ⟨40, _⟩ => ⟨S8x4352x5632, .f32⟩
  | .hbm, ⟨41, _⟩ => ⟨S8x4352x2816, .f32⟩
  | .hbm, ⟨42, _⟩ => ⟨S8x4352x2816, .f32⟩
  | .hbm, ⟨43, _⟩ => ⟨S8x4352x2816, .f32⟩
  | .hbm, ⟨44, _⟩ => ⟨S8x4352x2816, .f32⟩
  | .hbm, ⟨45, _⟩ => ⟨S_, .f32⟩
  | .hbm, ⟨46, _⟩ => ⟨S8x4352x2816, .f32⟩
  | .hbm, ⟨47, _⟩ => ⟨S8x4352x2816, .f32⟩
  | .hbm, ⟨48, _⟩ => ⟨S_, .f32⟩
  | .hbm, ⟨49, _⟩ => ⟨S8x4352x2816, .f32⟩
  | .hbm, ⟨50, _⟩ => ⟨S8x4352x2816, .f32⟩
  | .hbm, ⟨51, _⟩ => ⟨S8x4352x2816, .f32⟩
  | .hbm, ⟨52, _⟩ => ⟨S8x4352x2816, .f32⟩
  | .hbm, ⟨53, _⟩ => ⟨S8x4352x1024, .f32⟩
  | .hbm, ⟨54, _⟩ => ⟨S_, .f32⟩
  | .hbm, ⟨55, _⟩ => ⟨S8x4352x1024, .f32⟩
  | .hbm, ⟨56, _⟩ => ⟨S8x4352x1024, .f32⟩
  | .hbm, ⟨57, _⟩ => ⟨S_, .f32⟩
  | .hbm, ⟨58, _⟩ => ⟨S8x4352x1024, .f32⟩
  | .hbm, ⟨59, _⟩ => ⟨S8x4352x1024, .f32⟩
  | .hbm, ⟨60, _⟩ => ⟨S8x4352x1024, .f32⟩
  | .hbm, ⟨61, _⟩ => ⟨S8x4352x1024, .f32⟩
  | .hbm, ⟨62, _⟩ => ⟨S_, .f32⟩
  | .hbm, ⟨63, _⟩ => ⟨S8x4352, .f32⟩
  | .hbm, ⟨64, _⟩ => ⟨S8x4352x1, .f32⟩
  | .hbm, ⟨65, _⟩ => ⟨S_, .f32⟩
  | .hbm, ⟨66, _⟩ => ⟨S8x4352x1, .f32⟩
  | .hbm, ⟨67, _⟩ => ⟨S8x4352x1, .f32⟩
  | .hbm, ⟨68, _⟩ => ⟨S8x4352x1024, .f32⟩
  | .hbm, ⟨69, _⟩ => ⟨S8x4352x1024, .f32⟩
  | .hbm, ⟨70, _⟩ => ⟨S8x4352x1024, .f32⟩
  | .hbm, ⟨71, _⟩ => ⟨S_, .f32⟩
  | .hbm, ⟨72, _⟩ => ⟨S8x4352, .f32⟩
  | .hbm, ⟨73, _⟩ => ⟨S8x4352x1, .f32⟩
  | .hbm, ⟨74, _⟩ => ⟨S_, .f32⟩
  | .hbm, ⟨75, _⟩ => ⟨S8x4352x1, .f32⟩
  | .hbm, ⟨76, _⟩ => ⟨S8x4352x1, .f32⟩
  | .hbm, ⟨77, _⟩ => ⟨S8x4352x1024, .f32⟩
  | .hbm, ⟨78, _⟩ => ⟨S8x4352x1024, .f32⟩
  | .hbm, ⟨79, _⟩ => ⟨S_, .f32⟩
  | .hbm, ⟨80, _⟩ => ⟨S8x4352x1, .f32⟩
  | .hbm, ⟨81, _⟩ => ⟨S8x4352x1, .f32⟩
  | .hbm, ⟨82, _⟩ => ⟨S8x4352x1, .f32⟩
  | .hbm, ⟨83, _⟩ => ⟨S8x4352x1024, .f32⟩
  | .hbm, ⟨84, _⟩ => ⟨S8x4352x1024, .f32⟩
  | .hbm, ⟨85, _⟩ => ⟨S1x1x1024, .f32⟩
  | .hbm, ⟨86, _⟩ => ⟨S8x4352x1024, .f32⟩
  | .hbm, ⟨87, _⟩ => ⟨S8x4352x1024, .f32⟩
  | .hbm, ⟨88, _⟩ => ⟨S1x1x1024, .f32⟩
  | .hbm, ⟨89, _⟩ => ⟨S8x4352x1024, .f32⟩
  | .hbm, ⟨90, _⟩ => ⟨S8x4352x1024, .f32⟩
  | .hbm, ⟨91, _⟩ => ⟨S8x4096x1024, .f32⟩
  | .hbm, ⟨92, _⟩ => ⟨S8x256x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_0 : Ref sig .tc := ⟨.hbm, 54, rfl⟩
abbrev main_v38 : Ref sig .tc := ⟨.hbm, 55, rfl⟩
abbrev main_v39 : Ref sig .tc := ⟨.hbm, 56, rfl⟩
abbrev main_cst_1 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_2 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x256x1024 : Shape := ⟨3, ![8, 256, 1024]⟩
abbrev S8x4096x512 : Shape := ⟨3, ![8, 4096, 512]⟩
abbrev S8x256x512 : Shape := ⟨3, ![8, 256, 512]⟩
abbrev S8x4352x512 : Shape := ⟨3, ![8, 4352, 512]⟩
abbrev S16x9x1024 : Shape := ⟨3, ![16, 9, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S1x256x1024 : Shape := ⟨3, ![1, 256, 1024]⟩
abbrev S1x256x512 : Shape := ⟨3, ![1, 256, 512]⟩
abbrev S1x9x1024 : Shape := ⟨3, ![1, 9, 1024]⟩
abbrev S512x2816 : Shape := ⟨2, ![512, 2816]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S256x2816 : Shape := ⟨2, ![256, 2816]⟩

abbrev nBuf : Space → Nat
  | .hbm => 25
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4096x512, .bf16⟩
  | .hbm, ⟨3, _⟩ => ⟨S8x256x512, .bf16⟩
  | .hbm, ⟨4, _⟩ => ⟨S8x4352x512, .bf16⟩
  | .hbm, ⟨5, _⟩ => ⟨S16x9x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x5632, .bf16⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8x4096x1024, .f32⟩
  | .hbm, ⟨24, _⟩ => ⟨S8x256x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x9x1024, .f32⟩
  | .local _ .vmem, ⟨13, _⟩ => ⟨S1x9x1024, .f32⟩
  | .local _ .vmem, ⟨14, _⟩ => ⟨S1x9x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1024x5632, .bf16⟩
  | .local _ .vmem, ⟨20, _⟩ => ⟨S2816x1024, .bf16⟩
  | .local _ .vmem, ⟨21, _⟩ => ⟨S1x1024, .f32⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x256x1024, .f32⟩
  | .local _ .vmem, ⟨26, _⟩ => ⟨S1x256x1024, .f32⟩
  | .local _ .vmem, ⟨27, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x9x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference4Ideal.lean ====
abbrev S8x4096x1024 : Shape := ⟨3, ![8, 4096, 1024]⟩
abbrev S8x256x1024 : Shape := ⟨3, ![8, 256, 1024]⟩
abbrev S8x4096x512 : Shape := ⟨3, ![8, 4096, 512]⟩
abbrev S8x256x512 : Shape := ⟨3, ![8, 256, 512]⟩
abbrev S8x4352x512 : Shape := ⟨3, ![8, 4352, 512]⟩
abbrev S16x9x1024 : Shape := ⟨3, ![16, 9, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S8x4352x1024 : Shape := ⟨3, ![8, 4352, 1024]⟩
abbrev S8x1x1024 : Shape := ⟨3, ![8, 1, 1024]⟩
abbrev S8x1024 : Shape := ⟨2, ![8, 1024]⟩
abbrev S1x1x1024 : Shape := ⟨3, ![1, 1, 1024]⟩
abbrev S1x1024 : Shape := ⟨2, ![1, 1024]⟩
abbrev S_ : Shape := ⟨0, ![]⟩
abbrev S8x4352 : Shape := ⟨2, ![8, 4352]⟩
abbrev S8x4352x1 : Shape := ⟨3, ![8, 4352, 1]⟩
abbrev S8x4352x5632 : Shape := ⟨3, ![8, 4352, 5632]⟩
abbrev S8x4352x2816 : Shape := ⟨3, ![8, 4352, 2816]⟩

abbrev nBuf : Space → Nat
  | .hbm => 147
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x4096x512, .bf16⟩
  | 3 => ⟨S8x256x512, .bf16⟩
  | 4 => ⟨S8x4352x512, .bf16⟩
  | 5 => ⟨S16x9x1024, .f32⟩
  | 6 => ⟨S1024, .f32⟩
  | 7 => ⟨S1024, .f32⟩
  | 8 => ⟨S1024x1024, .f32⟩
  | 9 => ⟨S1024x5632, .f32⟩
  | 10 => ⟨S2816x1024, .f32⟩
  | 11 => ⟨S1024, .f32⟩
  | 12 => ⟨S1024, .f32⟩
  | 13 => ⟨S8x4352x1024, .f32⟩
  | 14 => ⟨S8x4352x512, .bf16⟩
  | 15 => ⟨S8x4352x512, .f32⟩
  | 16 => ⟨S8x4352x512, .f32⟩
  | 17 => ⟨S8x4352x1024, .f32⟩
  | 18 => ⟨S8x4352x1024, .f32⟩
  | 19 => ⟨S8x1x1024, .f32⟩
  | 20 => ⟨S8x1024, .f32⟩
  | 21 => ⟨S8x1x1024, .f32⟩
  | 22 => ⟨S1x1x1024, .f32⟩
  | 23 => ⟨S1x1024, .f32⟩
  | 24 => ⟨S1x1x1024, .f32⟩
  | 25 => ⟨S8x4096x1024, .f32⟩
  | 26 => ⟨S8x256x1024, .f32⟩
  | 27 => ⟨S8x4352x1024, .f32⟩
  | 28 => ⟨S_, .f32⟩
  | 29 => ⟨S8x4352x1024, .f32⟩
  | 30 => ⟨S8x4352x1024, .f32⟩
  | 31 => ⟨S8x4352x1024, .f32⟩
  | 32 => ⟨S8x4352x1024, .f32⟩
  | 33 => ⟨S_, .f32⟩
  | 34 => ⟨S8x4352, .f32⟩
  | 35 => ⟨S8x4352x1, .f32⟩
  | 36 => ⟨S_, .f32⟩
  | 37 => ⟨S8x4352x1, .f32⟩
  | 38 => ⟨S8x4352x1, .f32⟩
  | 39 => ⟨S8x4352x1024, .f32⟩
  | 40 => ⟨S8x4352x1024, .f32⟩
  | 41 => ⟨S8x4352x1024, .f32⟩
  | 42 => ⟨S_, .f32⟩
  | 43 => ⟨S8x4352, .f32⟩
  | 44 => ⟨S8x4352x1, .f32⟩
  | 45 => ⟨S_, .f32⟩
  | 46 => ⟨S8x4352x1, .f32⟩
  | 47 => ⟨S8x4352x1, .f32⟩
  | 48 => ⟨S8x4352x1024, .f32⟩
  | 49 => ⟨S8x4352x1024, .f32⟩
  | 50 => ⟨S_, .f32⟩
  | 51 => ⟨S8x4352x1, .f32⟩
  | 52 => ⟨S8x4352x1, .f32⟩
  | 53 => ⟨S8x4352x1, .f32⟩
  | 54 => ⟨S8x4352x1024, .f32⟩
  | 55 => ⟨S8x4352x1024, .f32⟩
  | 56 => ⟨S1x1x1024, .f32⟩
  | 57 => ⟨S8x4352x1024, .f32⟩
  | 58 => ⟨S8x4352x1024, .f32⟩
  | 59 => ⟨S1x1x1024, .f32⟩
  | 60 => ⟨S8x4352x1024, .f32⟩
  | 61 => ⟨S8x4352x1024, .f32⟩
  | 62 => ⟨S8x1x1024, .f32⟩
  | 63 => ⟨S8x1024, .f32⟩
  | 64 => ⟨S8x1x1024, .f32⟩
  | 65 => ⟨S1x1x1024, .f32⟩
  | 66 => ⟨S1x1024, .f32⟩
  | 67 => ⟨S1x1x1024, .f32⟩
  | 68 => ⟨S8x4096x1024, .f32⟩
  | 69 => ⟨S8x256x1024, .f32⟩
  | 70 => ⟨S8x4352x1024, .f32⟩
  | 71 => ⟨S8x1x1024, .f32⟩
  | 72 => ⟨S8x1024, .f32⟩
  | 73 => ⟨S8x1x1024, .f32⟩
  | 74 => ⟨S1x1x1024, .f32⟩
  | 75 => ⟨S1x1024, .f32⟩
  | 76 => ⟨S1x1x1024, .f32⟩
  | 77 => ⟨S8x4096x1024, .f32⟩
  | 78 => ⟨S8x256x1024, .f32⟩
  | 79 => ⟨S8x4352x1024, .f32⟩
  | 80 => ⟨S8x1x1024, .f32⟩
  | 81 => ⟨S8x1024, .f32⟩
  | 82 => ⟨S8x1x1024, .f32⟩
  | 83 => ⟨S1x1x1024, .f32⟩
  | 84 => ⟨S1x1024, .f32⟩
  | 85 => ⟨S1x1x1024, .f32⟩
  | 86 => ⟨S8x4096x1024, .f32⟩
  | 87 => ⟨S8x256x1024, .f32⟩
  | 88 => ⟨S8x4352x1024, .f32⟩
  | 89 => ⟨S_, .f32⟩
  | 90 => ⟨S8x4352x1024, .f32⟩
  | 91 => ⟨S8x4352x1024, .f32⟩
  | 92 => ⟨S8x4352x1024, .f32⟩
  | 93 => ⟨S8x4352x1024, .f32⟩
  | 94 => ⟨S8x4352x5632, .f32⟩
  | 95 => ⟨S8x4352x2816, .f32⟩
  | 96 => ⟨S8x4352x2816, .f32⟩
  | 97 => ⟨S8x4352x2816, .f32⟩
  | 98 => ⟨S8x4352x2816, .f32⟩
  | 99 => ⟨S_, .f32⟩
  | 100 => ⟨S8x4352x2816, .f32⟩
  | 101 => ⟨S8x4352x2816, .f32⟩
  | 102 => ⟨S_, .f32⟩
  | 103 => ⟨S8x4352x2816, .f32⟩
  | 104 => ⟨S8x4352x2816, .f32⟩
  | 105 => ⟨S8x4352x2816, .f32⟩
  | 106 => ⟨S8x4352x2816, .f32⟩
  | 107 => ⟨S8x4352x1024, .f32⟩
  | 108 => ⟨S_, .f32⟩
  | 109 => ⟨S8x4352x1024, .f32⟩
  | 110 => ⟨S8x4352x1024, .f32⟩
  | 111 => ⟨S_, .f32⟩
  | 112 => ⟨S8x4352x1024, .f32⟩
  | 113 => ⟨S8x4352x1024, .f32⟩
  | 114 => ⟨S8x4352x1024, .f32⟩
  | 115 => ⟨S8x4352x1024, .f32⟩
  | 116 => ⟨S_, .f32⟩
  | 117 => ⟨S8x4352, .f32⟩
  | 118 => ⟨S8x4352x1, .f32⟩
  | 119 => ⟨S_, .f32⟩
  | 120 => ⟨S8x4352x1, .f32⟩
  | 121 => ⟨S8x4352x1, .f32⟩
  | 122 => ⟨S8x4352x1024, .f32⟩
  | 123 => ⟨S8x4352x1024, .f32⟩
  | 124 => ⟨S8x4352x1024, .f32⟩
  | 125 => ⟨S_, .f32⟩
  | 126 => ⟨S8x4352, .f32⟩
  | 127 => ⟨S8x4352x1, .f32⟩
  | _ => ⟨S8x4096x1024, .f32⟩

abbrev hbmTy0_1 (i : Nat) : BufTy := match i % 128 with
  | 0 => ⟨S_, .f32⟩
  | 1 => ⟨S8x4352x1, .f32⟩
  | 2 => ⟨S8x4352x1, .f32⟩
  | 3 => ⟨S8x4352x1024, .f32⟩
  | 4 => ⟨S8x4352x1024, .f32⟩
  | 5 => ⟨S_, .f32⟩
  | 6 => ⟨S8x4352x1, .f32⟩
  | 7 => ⟨S8x4352x1, .f32⟩
  | 8 => ⟨S8x4352x1, .f32⟩
  | 9 => ⟨S8x4352x1024, .f32⟩
  | 10 => ⟨S8x4352x1024, .f32⟩
  | 11 => ⟨S1x1x1024, .f32⟩
  | 12 => ⟨S8x4352x1024, .f32⟩
  | 13 => ⟨S8x4352x1024, .f32⟩
  | 14 => ⟨S1x1x1024, .f32⟩
  | 15 => ⟨S8x4352x1024, .f32⟩
  | 16 => ⟨S8x4352x1024, .f32⟩
  | 17 => ⟨S8x4096x1024, .f32⟩
  | 18 => ⟨S8x256x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_call0_v5 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_6 : Ref sig .tc := ⟨.hbm, 108, rfl⟩
abbrev main_v80 : Ref sig .tc := ⟨.hbm, 109, rfl⟩
abbrev main_v81 : Ref sig .tc := ⟨.hbm, 110, rfl⟩
abbrev main_cst_7 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_8 : Ref sig .tc := ⟨.hbm, 116, rfl⟩
abbrev main_v86 : Ref sig .tc := ⟨.hbm, 117, rfl⟩
abbrev main_v87 : Ref sig .tc := ⟨.hbm, 118, rfl⟩
abbrev main_cst_9 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_10 : Ref sig .tc := ⟨.hbm, 125, rfl⟩
abbrev main_v93 : Ref sig .tc := ⟨.hbm, 126, rfl⟩
abbrev main_v94 : Ref sig .tc := ⟨.hbm, 127, rfl⟩
abbrev main_cst_11 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_12 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x256x1024 : Shape := ⟨3, ![8, 256, 1024]⟩
abbrev S8x4352x512 : Shape := ⟨3, ![8, 4352, 512]⟩
abbrev S16x9x1024 : Shape := ⟨3, ![16, 9, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S1x256x1024 : Shape := ⟨3, ![1, 256, 1024]⟩
abbrev S1x256x512 : Shape := ⟨3, ![1, 256, 512]⟩
abbrev S1x9x1024 : Shape := ⟨3, ![1, 9, 1024]⟩
abbrev S512x2816 : Shape := ⟨2, ![512, 2816]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S256x2816 : Shape := ⟨2, ![256, 2816]⟩

abbrev nBuf : Space → Nat
  | .hbm => 24
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4352x512, .bf16⟩
  | .hbm, ⟨3, _⟩ => ⟨S8x4352x512, .bf16⟩
  | .hbm, ⟨4, _⟩ => ⟨S16x9x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8x4096x1024, .f32⟩
  | .hbm, ⟨23, _⟩ => ⟨S8x256x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x9x1024, .f32⟩
  | .local _ .vmem, ⟨13, _⟩ => ⟨S1x9x1024, .f32⟩
  | .local _ .vmem, ⟨14, _⟩ => ⟨S1x9x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1024x5632, .bf16⟩
  | .local _ .vmem, ⟨20, _⟩ => ⟨S2816x1024, .bf16⟩
  | .local _ .vmem, ⟨21, _⟩ => ⟨S1x1024, .f32⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x256x1024, .f32⟩
  | .local _ .vmem, ⟨26, _⟩ => ⟨S1x256x1024, .f32⟩
  | .local _ .vmem, ⟨27, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x9x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference5Ideal.lean ====
abbrev S8x4096x1024 : Shape := ⟨3, ![8, 4096, 1024]⟩
abbrev S8x256x1024 : Shape := ⟨3, ![8, 256, 1024]⟩
abbrev S8x4352x512 : Shape := ⟨3, ![8, 4352, 512]⟩
abbrev S16x9x1024 : Shape := ⟨3, ![16, 9, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S8x4352x1024 : Shape := ⟨3, ![8, 4352, 1024]⟩
abbrev S8x1x1024 : Shape := ⟨3, ![8, 1, 1024]⟩
abbrev S8x1024 : Shape := ⟨2, ![8, 1024]⟩
abbrev S1x1x1024 : Shape := ⟨3, ![1, 1, 1024]⟩
abbrev S1x1024 : Shape := ⟨2, ![1, 1024]⟩
abbrev S_ : Shape := ⟨0, ![]⟩
abbrev S8x4352 : Shape := ⟨2, ![8, 4352]⟩
abbrev S8x4352x1 : Shape := ⟨3, ![8, 4352, 1]⟩
abbrev S8x4352x5632 : Shape := ⟨3, ![8, 4352, 5632]⟩
abbrev S8x4352x2816 : Shape := ⟨3, ![8, 4352, 2816]⟩

abbrev nBuf : Space → Nat
  | .hbm => 145
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x4352x512, .bf16⟩
  | 3 => ⟨S8x4352x512, .bf16⟩
  | 4 => ⟨S16x9x1024, .f32⟩
  | 5 => ⟨S1024, .f32⟩
  | 6 => ⟨S1024, .f32⟩
  | 7 => ⟨S1024x1024, .f32⟩
  | 8 => ⟨S1024x5632, .f32⟩
  | 9 => ⟨S2816x1024, .f32⟩
  | 10 => ⟨S1024, .f32⟩
  | 11 => ⟨S1024, .f32⟩
  | 12 => ⟨S8x4352x1024, .f32⟩
  | 13 => ⟨S8x4352x512, .f32⟩
  | 14 => ⟨S8x4352x512, .f32⟩
  | 15 => ⟨S8x4352x1024, .f32⟩
  | 16 => ⟨S8x4352x1024, .f32⟩
  | 17 => ⟨S8x1x1024, .f32⟩
  | 18 => ⟨S8x1024, .f32⟩
  | 19 => ⟨S8x1x1024, .f32⟩
  | 20 => ⟨S1x1x1024, .f32⟩
  | 21 => ⟨S1x1024, .f32⟩
  | 22 => ⟨S1x1x1024, .f32⟩
  | 23 => ⟨S8x4096x1024, .f32⟩
  | 24 => ⟨S8x256x1024, .f32⟩
  | 25 => ⟨S8x4352x1024, .f32⟩
  | 26 => ⟨S_, .f32⟩
  | 27 => ⟨S8x4352x1024, .f32⟩
  | 28 => ⟨S8x4352x1024, .f32⟩
  | 29 => ⟨S8x4352x1024, .f32⟩
  | 30 => ⟨S8x4352x1024, .f32⟩
  | 31 => ⟨S_, .f32⟩
  | 32 => ⟨S8x4352, .f32⟩
  | 33 => ⟨S8x4352x1, .f32⟩
  | 34 => ⟨S_, .f32⟩
  | 35 => ⟨S8x4352x1, .f32⟩
  | 36 => ⟨S8x4352x1, .f32⟩
  | 37 => ⟨S8x4352x1024, .f32⟩
  | 38 => ⟨S8x4352x1024, .f32⟩
  | 39 => ⟨S8x4352x1024, .f32⟩
  | 40 => ⟨S_, .f32⟩
  | 41 => ⟨S8x4352, .f32⟩
  | 42 => ⟨S8x4352x1, .f32⟩
  | 43 => ⟨S_, .f32⟩
  | 44 => ⟨S8x4352x1, .f32⟩
  | 45 => ⟨S8x4352x1, .f32⟩
  | 46 => ⟨S8x4352x1024, .f32⟩
  | 47 => ⟨S8x4352x1024, .f32⟩
  | 48 => ⟨S_, .f32⟩
  | 49 => ⟨S8x4352x1, .f32⟩
  | 50 => ⟨S8x4352x1, .f32⟩
  | 51 => ⟨S8x4352x1, .f32⟩
  | 52 => ⟨S8x4352x1024, .f32⟩
  | 53 => ⟨S8x4352x1024, .f32⟩
  | 54 => ⟨S1x1x1024, .f32⟩
  | 55 => ⟨S8x4352x1024, .f32⟩
  | 56 => ⟨S8x4352x1024, .f32⟩
  | 57 => ⟨S1x1x1024, .f32⟩
  | 58 => ⟨S8x4352x1024, .f32⟩
  | 59 => ⟨S8x4352x1024, .f32⟩
  | 60 => ⟨S8x1x1024, .f32⟩
  | 61 => ⟨S8x1024, .f32⟩
  | 62 => ⟨S8x1x1024, .f32⟩
  | 63 => ⟨S1x1x1024, .f32⟩
  | 64 => ⟨S1x1024, .f32⟩
  | 65 => ⟨S1x1x1024, .f32⟩
  | 66 => ⟨S8x4096x1024, .f32⟩
  | 67 => ⟨S8x256x1024, .f32⟩
  | 68 => ⟨S8x4352x1024, .f32⟩
  | 69 => ⟨S8x1x1024, .f32⟩
  | 70 => ⟨S8x1024, .f32⟩
  | 71 => ⟨S8x1x1024, .f32⟩
  | 72 => ⟨S1x1x1024, .f32⟩
  | 73 => ⟨S1x1024, .f32⟩
  | 74 => ⟨S1x1x1024, .f32⟩
  | 75 => ⟨S8x4096x1024, .f32⟩
  | 76 => ⟨S8x256x1024, .f32⟩
  | 77 => ⟨S8x4352x1024, .f32⟩
  | 78 => ⟨S8x1x1024, .f32⟩
  | 79 => ⟨S8x1024, .f32⟩
  | 80 => ⟨S8x1x1024, .f32⟩
  | 81 => ⟨S1x1x1024, .f32⟩
  | 82 => ⟨S1x1024, .f32⟩
  | 83 => ⟨S1x1x1024, .f32⟩
  | 84 => ⟨S8x4096x1024, .f32⟩
  | 85 => ⟨S8x256x1024, .f32⟩
  | 86 => ⟨S8x4352x1024, .f32⟩
  | 87 => ⟨S_, .f32⟩
  | 88 => ⟨S8x4352x1024, .f32⟩
  | 89 => ⟨S8x4352x1024, .f32⟩
  | 90 => ⟨S8x4352x1024, .f32⟩
  | 91 => ⟨S8x4352x1024, .f32⟩
  | 92 => ⟨S8x4352x5632, .f32⟩
  | 93 => ⟨S8x4352x2816, .f32⟩
  | 94 => ⟨S8x4352x2816, .f32⟩
  | 95 => ⟨S8x4352x2816, .f32⟩
  | 96 => ⟨S8x4352x2816, .f32⟩
  | 97 => ⟨S_, .f32⟩
  | 98 => ⟨S8x4352x2816, .f32⟩
  | 99 => ⟨S8x4352x2816, .f32⟩
  | 100 => ⟨S_, .f32⟩
  | 101 => ⟨S8x4352x2816, .f32⟩
  | 102 => ⟨S8x4352x2816, .f32⟩
  | 103 => ⟨S8x4352x2816, .f32⟩
  | 104 => ⟨S8x4352x2816, .f32⟩
  | 105 => ⟨S8x4352x1024, .f32⟩
  | 106 => ⟨S_, .f32⟩
  | 107 => ⟨S8x4352x1024, .f32⟩
  | 108 => ⟨S8x4352x1024, .f32⟩
  | 109 => ⟨S_, .f32⟩
  | 110 => ⟨S8x4352x1024, .f32⟩
  | 111 => ⟨S8x4352x1024, .f32⟩
  | 112 => ⟨S8x4352x1024, .f32⟩
  | 113 => ⟨S8x4352x1024, .f32⟩
  | 114 => ⟨S_, .f32⟩
  | 115 => ⟨S8x4352, .f32⟩
  | 116 => ⟨S8x4352x1, .f32⟩
  | 117 => ⟨S_, .f32⟩
  | 118 => ⟨S8x4352x1, .f32⟩
  | 119 => ⟨S8x4352x1, .f32⟩
  | 120 => ⟨S8x4352x1024, .f32⟩
  | 121 => ⟨S8x4352x1024, .f32⟩
  | 122 => ⟨S8x4352x1024, .f32⟩
  | 123 => ⟨S_, .f32⟩
  | 124 => ⟨S8x4352, .f32⟩
  | 125 => ⟨S8x4352x1, .f32⟩
  | 126 => ⟨S_, .f32⟩
  | 127 => ⟨S8x4352x1, .f32⟩
  | _ => ⟨S8x4096x1024, .f32⟩

abbrev hbmTy0_1 (i : Nat) : BufTy := match i % 128 with
  | 0 => ⟨S8x4352x1, .f32⟩
  | 1 => ⟨S8x4352x1024, .f32⟩
  | 2 => ⟨S8x4352x1024, .f32⟩
  | 3 => ⟨S_, .f32⟩
  | 4 => ⟨S8x4352x1, .f32⟩
  | 5 => ⟨S8x4352x1, .f32⟩
  | 6 => ⟨S8x4352x1, .f32⟩
  | 7 => ⟨S8x4352x1024, .f32⟩
  | 8 => ⟨S8x4352x1024, .f32⟩
  | 9 => ⟨S1x1x1024, .f32⟩
  | 10 => ⟨S8x4352x1024, .f32⟩
  | 11 => ⟨S8x4352x1024, .f32⟩
  | 12 => ⟨S1x1x1024, .f32⟩
  | 13 => ⟨S8x4352x1024, .f32⟩
  | 14 => ⟨S8x4352x1024, .f32⟩
  | 15 => ⟨S8x4096x1024, .f32⟩
  | 16 => ⟨S8x256x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_5 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_6 : Ref sig .tc := ⟨.hbm, 106, rfl⟩
abbrev main_v79 : Ref sig .tc := ⟨.hbm, 107, rfl⟩
abbrev main_v80 : Ref sig .tc := ⟨.hbm, 108, rfl⟩
abbrev main_cst_7 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_8 : Ref sig .tc := ⟨.hbm, 114, rfl⟩
abbrev main_v85 : Ref sig .tc := ⟨.hbm, 115, rfl⟩
abbrev main_v86 : Ref sig .tc := ⟨.hbm, 116, rfl⟩
abbrev main_cst_9 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_10 : Ref sig .tc := ⟨.hbm, 123, rfl⟩
abbrev main_v92 : Ref sig .tc := ⟨.hbm, 124, rfl⟩
abbrev main_v93 : Ref sig .tc := ⟨.hbm, 125, rfl⟩
abbrev main_cst_11 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_12 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x256x1024 : Shape := ⟨3, ![8, 256, 1024]⟩
abbrev S16x9x1024 : Shape := ⟨3, ![16, 9, 1024]⟩
abbrev S1024x3328 : Shape := ⟨2, ![1024, 3328]⟩
abbrev S1024x768 : Shape := ⟨2, ![1024, 768]⟩
abbrev S1024x1536 : Shape := ⟨2, ![1024, 1536]⟩
abbrev S1024x256 : Shape := ⟨2, ![1024, 256]⟩
abbrev S32 : Shape := ⟨1, ![32]⟩
abbrev S_ : Shape := ⟨0, ![]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x4096x128 : Shape := ⟨3, ![1, 4096, 128]⟩
abbrev S1x256x128 : Shape := ⟨3, ![1, 256, 128]⟩
abbrev S8x4352x768 : Shape := ⟨3, ![8, 4352, 768]⟩
abbrev S8x4352x1536 : Shape := ⟨3, ![8, 4352, 1536]⟩
abbrev S8x4352x256 : Shape := ⟨3, ![8, 4352, 256]⟩
abbrev S1x256x1024 : Shape := ⟨3, ![1, 256, 1024]⟩
abbrev S1x9x1024 : Shape := ⟨3, ![1, 9, 1024]⟩
abbrev S1x256x768 : Shape := ⟨3, ![1, 256, 768]⟩
abbrev S1x256x1536 : Shape := ⟨3, ![1, 256, 1536]⟩
abbrev S1x256x256 : Shape := ⟨3, ![1, 256, 256]⟩
abbrev S256x1024 : Shape := ⟨2, ![256, 1024]⟩
abbrev S256x128 : Shape := ⟨2, ![256, 128]⟩
abbrev S1x1x1024 : Shape := ⟨3, ![1, 1, 1024]⟩
abbrev S1x1024 : Shape := ⟨2, ![1, 1024]⟩
abbrev S256x768 : Shape := ⟨2, ![256, 768]⟩
abbrev S256x1536 : Shape := ⟨2, ![256, 1536]⟩
abbrev S256x256 : Shape := ⟨2, ![256, 256]⟩

abbrev nBuf : Space → Nat
  | .hbm => 54
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S16x9x1024, .f32⟩
  | .hbm, ⟨3, _⟩ => ⟨S1024x3328, .f32⟩
  | .hbm, ⟨4, _⟩ => ⟨S1024x768, .f32⟩
  | .hbm, ⟨5, _⟩ => ⟨S1024x768, .f32⟩
  | .hbm, ⟨6, _⟩ => ⟨S1024x1536, .f32⟩
  | .hbm, ⟨7, _⟩ => ⟨S1024x256, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S64, .f32⟩
  | .hbm, ⟨17, _⟩ => ⟨S64x1, .f32⟩
  | .hbm, ⟨18, _⟩ => ⟨S64x64, .f32⟩
  | .hbm, ⟨19, _⟩ => ⟨S4096, .f32⟩
  | .hbm, ⟨20, _⟩ => ⟨S64, .f32⟩
  | .hbm, ⟨21, _⟩ => ⟨S1x64, .f32⟩
  | .hbm, ⟨22, _⟩ => ⟨S64x64, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x1, .f32⟩
  | .hbm, ⟨30, _⟩ => ⟨S1x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x128, .f32⟩
  | .hbm, ⟨38, _⟩ => ⟨S4096x64, .f32⟩
  | .hbm, ⟨39, _⟩ => ⟨S4096x128, .f32⟩
  | .hbm, ⟨40, _⟩ => ⟨S1x4096x128, .f32⟩
  | .hbm, ⟨41, _⟩ => ⟨S1x4096x128, .f32⟩
  | .hbm, ⟨42, _⟩ => ⟨S_, .f32⟩
  | .hbm, ⟨43, _⟩ => ⟨S1x256x128, .f32⟩
  | .hbm, ⟨44, _⟩ => ⟨S_, .f32⟩
  | .hbm, ⟨45, _⟩ => ⟨S1x256x128, .f32⟩
  | .hbm, ⟨46, _⟩ => ⟨S1024x768, .bf16⟩
  | .hbm, ⟨47, _⟩ => ⟨S1024x768, .bf16⟩
  | .hbm, ⟨48, _⟩ => ⟨S1024x1536, .bf16⟩
  | .hbm, ⟨49, _⟩ => ⟨S1024x256, .bf16⟩
  | .hbm, ⟨50, _⟩ => ⟨S8x4352x768, .f32⟩
  | .hbm, ⟨51, _⟩ => ⟨S8x4352x768, .f32⟩
  | .hbm, ⟨52, _⟩ => ⟨S8x4352x1536, .f32⟩
  | .hbm, ⟨53, _⟩ => ⟨S8x4352x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x1024, .f32⟩
  | .local _ .vmem, ⟨7, _⟩ => ⟨S1x256x1024, .f32⟩
  | .local _ .vmem, ⟨8, _⟩ => ⟨S1x256x128, .f32⟩
  | .local _ .vmem, ⟨9, _⟩ => ⟨S1x256x128, .f32⟩
  | .local _ .vmem, ⟨10, _⟩ => ⟨S1x9x1024, .f32⟩
  | .local _ .vmem, ⟨11, _⟩ => ⟨S1x9x1024, .f32⟩
  | .local _ .vmem, ⟨12, _⟩ => ⟨S1x9x1024, .f32⟩
  | .local _ .vmem, ⟨13, _⟩ => ⟨S1024x768, .bf16⟩
  | .local _ .vmem, ⟨14, _⟩ => ⟨S1024x768, .bf16⟩
  | .local _ .vmem, ⟨15, _⟩ => ⟨S1024x1536, .bf16⟩
  | .local _ .vmem, ⟨16, _⟩ => ⟨S1024x256, .bf16⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x1536, .f32⟩
  | .local _ .vmem, ⟨22, _⟩ => ⟨S1x256x1536, .f32⟩
  | .local _ .vmem, ⟨23, _⟩ => ⟨S1x256x256, .f32⟩
  | .local _ .vmem, ⟨24, _⟩ => ⟨S1x256x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev main_v42_2 : Ref sig .tc := ⟨.hbm, 52, rfl⟩
abbrev main_v42_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 17], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .eq arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x9x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S8x4096x1024 : Shape := ⟨3, ![8, 4096, 1024]⟩
abbrev S8x256x1024 : Shape := ⟨3, ![8, 256, 1024]⟩
abbrev S16x9x1024 : Shape := ⟨3, ![16, 9, 1024]⟩
abbrev S1024x3328 : Shape := ⟨2, ![1024, 3328]⟩
abbrev S8x4352x1024 : Shape := ⟨3, ![8, 4352, 1024]⟩
abbrev S8x1x1024 : Shape := ⟨3, ![8, 1, 1024]⟩
abbrev S8x1024 : Shape := ⟨2, ![8, 1024]⟩
abbrev S1x1x1024 : Shape := ⟨3, ![1, 1, 1024]⟩
abbrev S1x1024 : Shape := ⟨2, ![1, 1024]⟩
abbrev S_ : Shape := ⟨0, ![]⟩
abbrev S8x4352x3328 : Shape := ⟨3, ![8, 4352, 3328]⟩
abbrev S8x4352x256 : Shape := ⟨3, ![8, 4352, 256]⟩
abbrev S8x4352x768 : Shape := ⟨3, ![8, 4352, 768]⟩
abbrev S8x4352x6x128 : Shape := ⟨4, ![8, 4352, 6, 128]⟩
abbrev S8x4096x6x128 : Shape := ⟨4, ![8, 4096, 6, 128]⟩
abbrev S32 : Shape := ⟨1, ![32]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S8x4096x6x64 : Shape := ⟨4, ![8, 4096, 6, 64]⟩
abbrev S8x256x6x128 : Shape := ⟨4, ![8, 256, 6, 128]⟩
abbrev S8x4352x1536 : Shape := ⟨3, ![8, 4352, 1536]⟩

abbrev nBuf : Space → Nat
  | .hbm => 136
  | .vmem => 0
  | .smem => 0
  | _ => 0

abbrev hbmTy0_0 (i : Nat) : BufTy := match i % 128 with
  | 0 => ⟨S8x4096x1024, .f32⟩
  | 1 => ⟨S8x256x1024, .f32⟩
  | 2 => ⟨S16x9x1024, .f32⟩
  | 3 => ⟨S1024x3328, .f32⟩
  | 4 => ⟨S8x4352x1024, .f32⟩
  | 5 => ⟨S8x1x1024, .f32⟩
  | 6 => ⟨S8x1024, .f32⟩
  | 7 => ⟨S8x1x1024, .f32⟩
  | 8 => ⟨S1x1x1024, .f32⟩
  | 9 => ⟨S1x1024, .f32⟩
  | 10 => ⟨S1x1x1024, .f32⟩
  | 11 => ⟨S8x4096x1024, .f32⟩
  | 12 => ⟨S8x256x1024, .f32⟩
  | 13 => ⟨S8x4352x1024, .f32⟩
  | 14 => ⟨S8x1x1024, .f32⟩
  | 15 => ⟨S8x1024, .f32⟩
  | 16 => ⟨S8x1x1024, .f32⟩
  | 17 => ⟨S1x1x1024, .f32⟩
  | 18 => ⟨S1x1024, .f32⟩
  | 19 => ⟨S1x1x1024, .f32⟩
  | 20 => ⟨S8x4096x1024, .f32⟩
  | 21 => ⟨S8x256x1024, .f32⟩
  | 22 => ⟨S8x4352x1024, .f32⟩
  | 23 => ⟨S_, .f32⟩
  | 24 => ⟨S8x4352x1024, .f32⟩
  | 25 => ⟨S8x4352x1024, .f32⟩
  | 26 => ⟨S8x4352x1024, .f32⟩
  | 27 => ⟨S8x4352x1024, .f32⟩
  | 28 => ⟨S8x4352x3328, .f32⟩
  | 29 => ⟨S8x4352x256, .f32⟩
  | 30 => ⟨S8x4352x768, .f32⟩
  | 31 => ⟨S8x4352x768, .f32⟩
  | 32 => ⟨S8x4352x768, .f32⟩
  | 33 => ⟨S8x4352x768, .f32⟩
  | 34 => ⟨S8x4352x6x128, .f32⟩
  | 35 => ⟨S8x4096x6x128, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S64, .f32⟩
  | 45 => ⟨S64x1, .f32⟩
  | 46 => ⟨S64x64, .f32⟩
  | 47 => ⟨S4096, .f32⟩
  | 48 => ⟨S64, .f32⟩
  | 49 => ⟨S1x64, .f32⟩
  | 50 => ⟨S64x64, .f32⟩
  | 51 => ⟨S4096, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x64, .f32⟩
  | 63 => ⟨S4096x64, .f32⟩
  | 64 => ⟨S1x4096x1x64, .f32⟩
  | 65 => ⟨S4096x64, .f32⟩
  | 66 => ⟨S1x4096x1x64, .f32⟩
  | 67 => ⟨S8x4096x6x64, .f32⟩
  | 68 => ⟨S8x4096x6x64, .f32⟩
  | 69 => ⟨S8x4096x6x64, .f32⟩
  | 70 => ⟨S8x4096x6x64, .f32⟩
  | 71 => ⟨S8x4096x6x64, .f32⟩
  | 72 => ⟨S8x4096x6x64, .f32⟩
  | 73 => ⟨S8x4096x6x64, .f32⟩
  | 74 => ⟨S8x4096x6x64, .f32⟩
  | 75 => ⟨S8x4096x6x64, .f32⟩
  | 76 => ⟨S8x4096x6x64, .f32⟩
  | 77 => ⟨S8x4096x6x64, .f32⟩
  | 78 => ⟨S8x4096x6x64, .f32⟩
  | 79 => ⟨S8x4096x6x128, .f32⟩
  | 80 => ⟨S8x256x6x128, .f32⟩
  | 81 => ⟨S8x4352x6x128, .f32⟩
  | 82 => ⟨S_, .f32⟩
  | 83 => ⟨S8x4352x6x128, .f32⟩
  | 84 => ⟨S8x4352x6x128, .f32⟩
  | 85 => ⟨S8x4352x6x128, .f32⟩
  | 86 => ⟨S8x4096x6x128, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S64, .f32⟩
  | 96 => ⟨S64x1, .f32⟩
  | 97 => ⟨S64x64, .f32⟩
  | 98 => ⟨S4096, .f32⟩
  | 99 => ⟨S64, .f32⟩
  | 100 => ⟨S1x64, .f32⟩
  | 101 => ⟨S64x64, .f32⟩
  | 102 => ⟨S4096, .f32⟩
  | 103 => ⟨S4096x1, .f32⟩
  | 104 => ⟨S1x32, .f32⟩
  | 105 => ⟨S4096x32, .f32⟩
  | 106 => ⟨S4096x32, .f32⟩
  | 107 => ⟨S4096x32, .f32⟩
  | 108 => ⟨S4096x1, .f32⟩
  | 109 => ⟨S1x32, .f32⟩
  | 110 => ⟨S4096x32, .f32⟩
  | 111 => ⟨S4096x32, .f32⟩
  | 112 => ⟨S4096x32, .f32⟩
  | 113 => ⟨S4096x64, .f32⟩
  | 114 => ⟨S4096x64, .f32⟩
  | 115 => ⟨S1x4096x1x64, .f32⟩
  | 116 => ⟨S4096x64, .f32⟩
  | 117 => ⟨S1x4096x1x64, .f32⟩
  | 118 => ⟨S8x4096x6x64, .f32⟩
  | 119 => ⟨S8x4096x6x64, .f32⟩
  | 120 => ⟨S8x4096x6x64, .f32⟩
  | 121 => ⟨S8x4096x6x64, .f32⟩
  | 122 => ⟨S8x4096x6x64, .f32⟩
  | 123 => ⟨S8x4096x6x64, .f32⟩
  | 124 => ⟨S8x4096x6x64, .f32⟩
  | 125 => ⟨S8x4096x6x64, .f32⟩
  | 126 => ⟨S8x4096x6x64, .f32⟩
  | 127 => ⟨S8x4096x6x64, .f32⟩
  | _ => ⟨S8x4096x1024, .f32⟩

abbrev hbmTy0_1 (i : Nat) : BufTy := match i % 128 with
  | 0 => ⟨S8x4096x6x64, .f32⟩
  | 1 => ⟨S8x4096x6x64, .f32⟩
  | 2 => ⟨S8x4096x6x128, .f32⟩
  | 3 => ⟨S8x256x6x128, .f32⟩
  | 4 => ⟨S8x4352x6x128, .f32⟩
  | 5 => ⟨S8x4352x768, .f32⟩
  | 6 => ⟨S8x4352x768, .f32⟩
  | 7 => ⟨S8x4352x1536, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst_2 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_3 : Ref sig .tc := ⟨.hbm, 89, rfl⟩
abbrev main_v81 : Ref sig .tc := ⟨.hbm, 90, rfl⟩
abbrev main_v82 : Ref sig .tc := ⟨.hbm, 91, rfl⟩
abbrev main_cst_4 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩

abbrev nD : Nat := 1
abbrev τ : Topo := Topo.v7x

variable {F : FTy → Type} [FloatOps F]
-- ==== Proof.FfnSpec.lean ====
module

public import Idealize.ShloMosaic.Lib.Pointwise
public import Idealize.ShloMosaic.Lib.Pipeline.ValueKit

/-! The mathematics of the feed-forward half step over the extended reals, one token row at a time. Nothing here
    mentions a program: the kernel's blocks and the reference's arrays are both shown equal to these. -/

@[expose] public section

noncomputable section

namespace Cert.Ffn

open Idealize.ShloMosaic

/-- A token's row of 1024 features. -/
abbrev Row := Fin 1024 → EReal

/-- The row minus its mean. -/
def centred (x : Row) (n : Fin 1024) : EReal :=
  x n - Ideal.div (∑ k, x k) (Ideal.ofBits FTy.f32 0x44800000#32)

/-- Layer normalisation of a row with gain `g` and offset `b`. -/
def lnRow (x g b : Row) (n : Fin 1024) : EReal :=
  centred x n
      * Ideal.rsqrt (Ideal.div (∑ k, centred x k * centred x k) (Ideal.ofBits FTy.f32 0x44800000#32)
          + Ideal.ofBits FTy.f32 0x3727C5AC#32)
      * g n + b n

/-- The scaled residual plus the gated branch. -/
def resRow (h gate y : Row) (n : Fin 1024) : EReal :=
  Ideal.ofBits FTy.f32 0x3FD744FD#32 * h n + gate n * y n

/-- The modulated input of the feed-forward. -/
def modRow (h shift scale : Row) (n : Fin 1024) : EReal := h n * (1 + scale n) + shift n

/-- Column `o` of a row times a matrix. -/
def colDot {K N : ℕ} (x : Fin K → EReal) (w : Fin K → Fin N → EReal) (o : Fin N) : EReal := ∑ k, x k * w k o

/-- SwiGLU at hidden column `f`: the gate's column is `f`, the value's `2816 + f`. -/
def swiglu (x : Row) (win : Fin 1024 → Fin 5632 → EReal) (f : Fin 2816) : EReal :=
  colDot x win ⟨f, by omega⟩ * Ideal.logistic (colDot x win ⟨f, by omega⟩) * colDot x win ⟨2816 + f, by omega⟩

/-- The half step of one token row. -/
def ffnRow (h shift scale gate g b : Row) (win : Fin 1024 → Fin 5632 → EReal) (wout : Fin 2816 → Fin 1024 → EReal) : Row :=
  lnRow (resRow h gate fun n =>
    Ideal.ofBits FTy.f32 0x3F000000#32 * colDot (swiglu (modRow h shift scale) win) wout n) g b

/-- The token mixing's output projection, from its two halves `d` and `r`, with its normalised residual. -/
def mixRow (h gate g b : Row) (d r : Fin 512 → EReal) (w : Fin 1024 → Fin 1024 → EReal) : Row :=
  lnRow (resRow h gate fun n =>
    colDot d (fun k o => w ⟨k, by omega⟩ o) n + colDot r (fun k o => w ⟨512 + k, by omega⟩ o) n) g b

/-- The last layer's closing call as a function of its arrays: token `r` of sample `b` takes its row of the residual
    stream `a0`, the two mixing outputs `a1`, `a2` and the modulation rows `a3`, and gives the half step of the
    projected and normalised residual. -/
def result (a0 : FVec Ideal ⟨3, ![8, 4096, 1024]⟩ .f32) (a1 a2 : FVec Ideal ⟨3, ![8, 4352, 512]⟩ .bf16)
    (a3 : FVec Ideal ⟨3, ![16, 9, 1024]⟩ .f32) (a4 a5 : FVec Ideal ⟨1, ![1024]⟩ .f32)
    (a6 : FVec Ideal ⟨2, ![1024, 1024]⟩ .f32) (a7 : FVec Ideal ⟨2, ![1024, 5632]⟩ .f32)
    (a8 : FVec Ideal ⟨2, ![2816, 1024]⟩ .f32) (a9 a10 : FVec Ideal ⟨1, ![1024]⟩ .f32)
    (b : Fin 8) (r : Fin 4096) : Row :=
  ffnRow
    (mixRow (fun k => a0 (ix3 b r k)) (fun k => a3 (ix3 ⟨b, by omega⟩ 5 k)) (fun k => a4 (ix1 k)) (fun k => a5 (ix1 k))
      (fun k => a1 (ix3 b ⟨r, by omega⟩ k)) (fun k => a2 (ix3 b ⟨r, by omega⟩ k)) (fun k o => a6 (ix2 k o)))
    (fun k => a3 (ix3 ⟨b, by omega⟩ 6 k)) (fun k => a3 (ix3 ⟨b, by omega⟩ 7 k)) (fun k => a3 (ix3 ⟨b, by omega⟩ 8 k))
    (fun k => a9 (ix1 k)) (fun k => a10 (ix1 k)) (fun k o => a7 (ix2 k o)) (fun f o => a8 (ix2 f o))

/-- The half step of a token row `h` whose modulation is row `s` of the table `a2` (its first three entries), with the
    arrays of the feed-forward. -/
def stepRow (h : Row) (a2 : FVec Ideal ⟨3, ![16, 9, 1024]⟩ .f32) (s : Fin 16) (a3 : FVec Ideal ⟨2, ![1024, 5632]⟩ .f32)
    (a4 : FVec Ideal ⟨2, ![2816, 1024]⟩ .f32) (a5 a6 : FVec Ideal ⟨1, ![1024]⟩ .f32) : Row :=
  ffnRow h (fun k => a2 (ix3 s 0 k)) (fun k => a2 (ix3 s 1 k)) (fun k => a2 (ix3 s 2 k))
    (fun k => a5 (ix1 k)) (fun k => a6 (ix1 k)) (fun k o => a3 (ix2 k o)) (fun f o => a4 (ix2 f o))

/-- The call with context on latent token `r` of sample `b`: the modulation is the sample's. -/
def latResult (a0 : FVec Ideal ⟨3, ![8, 4096, 1024]⟩ .f32) (a2 : FVec Ideal ⟨3, ![16, 9, 1024]⟩ .f32)
    (a3 : FVec Ideal ⟨2, ![1024, 5632]⟩ .f32) (a4 : FVec Ideal ⟨2, ![2816, 1024]⟩ .f32)
    (a5 a6 : FVec Ideal ⟨1, ![1024]⟩ .f32) (b : Fin 8) (r : Fin 4096) : Row :=
  stepRow (fun k => a0 (ix3 b r k)) a2 ⟨b, by omega⟩ a3 a4 a5 a6

/-- The call with context on context token `r` of sample `b`: the modulation is the table's row 8. -/
def ctxResult (a1 : FVec Ideal ⟨3, ![8, 256, 1024]⟩ .f32) (a2 : FVec Ideal ⟨3, ![16, 9, 1024]⟩ .f32)
    (a3 : FVec Ideal ⟨2, ![1024, 5632]⟩ .f32) (a4 : FVec Ideal ⟨2, ![2816, 1024]⟩ .f32)
    (a5 a6 : FVec Ideal ⟨1, ![1024]⟩ .f32) (b : Fin 8) (r : Fin 256) : Row :=
  stepRow (fun k => a1 (ix3 b r k)) a2 8 a3 a4 a5 a6

/-- Rows equal entry by entry have the same residual. -/
theorem resRow_congr {h h' g g' y y' : Row} (eh : ∀ k, h k = h' k) (eg : ∀ k, g k = g' k) (ey : ∀ k, y k = y' k)
    (n : Fin 1024) : resRow h g y n = resRow h' g' y' n := by
  rw [show h = h' from funext eh, show g = g' from funext eg, show y = y' from funext ey]

/-- Rows equal entry by entry have the same modulation. -/
theorem modRow_congr {h h' g g' y y' : Row} (eh : ∀ k, h k = h' k) (eg : ∀ k, g k = g' k) (ey : ∀ k, y k = y' k)
    (n : Fin 1024) : modRow h g y n = modRow h' g' y' n := by
  rw [show h = h' from funext eh, show g = g' from funext eg, show y = y' from funext ey]

end Cert.Ffn

end
-- ==== Proof.FfnPay.lean ====
module

public import proofs.«01_k».proof.Proof.FfnSpec
public import proofs.«01_k».proof.Proof.Gen.Kernel2Ideal.Value

/-! What one grid point of the last feed-forward call computes: row `r` of its block is the half step of row `r` of
    its input blocks. -/

@[expose] public section

set_option maxRecDepth 16384

noncomputable section

namespace Cert.Ffn.Last

open Idealize.ShloMosaic Idealize.ShloMosaic.TcCoe Idealize.SL.Sem
open Cert.Kernel2Ideal Cert.Kernel2Ideal.Gen

/-- The stored block is the layer normalisation of the last residual. -/
theorem pay1_at (v : FVec Ideal S512x1024 .f32) (g b : Vec Ideal S1x1024 .f32) (r : Fin 512) (n : Fin 1024) :
    k0_pay1 (F := Ideal) v g b (ix3 0 r n)
      = lnRow (fun k => v (ix2 r k)) (fun k => g (ix2 0 k)) (fun k => b (ix2 0 k)) n := by
  pointwise [k0_pay1, lnRow, centred]

/-- The first residual, centred. -/
theorem pay4_at (x0 : Vec Ideal S1x512x1024 .f32) (gm : Vec Ideal S1x1x1024 .f32) (x1 : Vec Ideal S1x512x512 .bf16)
    (w1 : Vec Ideal S512x1024 .bf16) (x2 : Vec Ideal S1x512x512 .bf16) (w2 : Vec Ideal S512x1024 .bf16)
    (r : Fin 512) (n : Fin 1024) :
    k0_pay4 (F := Ideal) x0 gm x1 w1 x2 w2 (ix2 r n)
      = centred (resRow (fun k => x0 (ix3 0 r k)) (fun k => gm (ix3 0 0 k)) fun o =>
          colDot (fun k => x1 (ix3 0 r k)) (fun k o => w1 (ix2 k o)) o
            + colDot (fun k => x2 (ix3 0 r k)) (fun k o => w2 (ix2 k o)) o) n := by
  pointwise [k0_pay4, centred, resRow, colDot]

/-- The row's sum of squares of the centred residual. -/
theorem pay5_at (x0 : Vec Ideal S1x512x1024 .f32) (gm : Vec Ideal S1x1x1024 .f32) (x1 : Vec Ideal S1x512x512 .bf16)
    (w1 : Vec Ideal S512x1024 .bf16) (x2 : Vec Ideal S1x512x512 .bf16) (w2 : Vec Ideal S512x1024 .bf16) (r : Fin 512) :
    k0_pay5 (F := Ideal) x0 gm x1 w1 x2 w2 (ix1 r)
      = ∑ k, k0_pay4 (F := Ideal) x0 gm x1 w1 x2 w2 (ix2 r k) * k0_pay4 (F := Ideal) x0 gm x1 w1 x2 w2 (ix2 r k) := by
  pointwise [k0_pay5]

/-- The normalised residual from its centred row and sum of squares. -/
theorem pay6_at (g b : Vec Ideal S1x1024 .f32) (v29 : FVec Ideal S512x1024 .f32) (v31 : FVec Ideal S512 .f32)
    (x : Row) (r : Fin 512) (h29 : ∀ k : Fin 1024, v29 (ix2 r k) = centred x k)
    (h31 : v31 (ix1 r) = ∑ k, centred x k * centred x k) (n : Fin 1024) :
    k0_pay6 (F := Ideal) (k0_pay2 g) (k0_pay3 b) v29 v31 (ix2 r n)
      = lnRow x (fun k => g (ix2 0 k)) (fun k => b (ix2 0 k)) n := by
  pointwise [k0_pay6, k0_pay2, k0_pay3, h29, h31]
  rfl

/-- The modulated row the products read. -/
theorem pay8_at (g b : FVec Ideal S1x1024 .f32) (v29 : FVec Ideal S512x1024 .f32) (v31 : FVec Ideal S512 .f32)
    (sh sc : Vec Ideal S1x1x1024 .f32) (r : Fin 512) (n : Fin 1024) :
    k0_pay8 (F := Ideal) g b v29 v31 sh sc (ix2 r n)
      = modRow (fun k => k0_pay6 (F := Ideal) g b v29 v31 (ix2 r k)) (fun k => sh (ix3 0 0 k)) (fun k => sc (ix3 0 0 k)) n := by
  pointwise [k0_pay8, modRow]

/-- The first tile's payload is the second's at the modulated block. -/
theorem pay9_eq (g b : FVec Ideal S1x1024 .f32) (v29 : FVec Ideal S512x1024 .f32) (v31 : FVec Ideal S512 .f32)
    (sh sc : Vec Ideal S1x1x1024 .f32) (wa wb : Vec Ideal S1024x256 .bf16) :
    k0_pay9 (F := Ideal) g b v29 v31 sh sc wa wb = k0_pay10 (k0_pay8 g b v29 v31 sh sc) wa wb := rfl

/-- The second residual from the hidden layer. -/
theorem pay24_at (h : FVec Ideal S512x1024 .f32) (gt : Vec Ideal S1x1x1024 .f32) (a : Vec Ideal S512x2816 .bf16)
    (w : Vec Ideal S2816x1024 .bf16) (r : Fin 512) (n : Fin 1024) :
    k0_pay24 (F := Ideal) h (k0_pay7 gt) a w (ix2 r n)
      = resRow (fun k => h (ix2 r k)) (fun k => gt (ix3 0 0 k))
          (fun o => Ideal.ofBits FTy.f32 0x3F000000#32 * colDot (fun f => a (ix2 r f)) (fun f o => w (ix2 f o)) o) n := by
  pointwise [k0_pay24, k0_pay7, resRow, colDot]

/-- The normalised first residual, at any gate row `gm`. -/
theorem mix_at (x0 : Vec Ideal S1x512x1024 .f32) (gm : Vec Ideal S1x1x1024 .f32) (x1 : Vec Ideal S1x512x512 .bf16)
    (w1 : Vec Ideal S512x1024 .bf16) (x2 : Vec Ideal S1x512x512 .bf16) (w2 : Vec Ideal S512x1024 .bf16)
    (g b : Vec Ideal S1x1024 .f32) (r : Fin 512) (n : Fin 1024) (gate : Row) (hg : ∀ k, gm (ix3 0 0 k) = gate k) :
    k0_pay6 (F := Ideal) (k0_pay2 g) (k0_pay3 b) (k0_pay4 x0 gm x1 w1 x2 w2) (k0_pay5 x0 gm x1 w1 x2 w2) (ix2 r n)
      = lnRow (resRow (fun k => x0 (ix3 0 r k)) gate fun o =>
          colDot (fun k => x1 (ix3 0 r k)) (fun k o => w1 (ix2 k o)) o
            + colDot (fun k => x2 (ix3 0 r k)) (fun k o => w2 (ix2 k o)) o)
          (fun k => g (ix2 0 k)) (fun k => b (ix2 0 k)) n := by
  obtain rfl : (fun k => gm (ix3 0 0 k)) = gate := funext hg
  exact pay6_at g b _ _ _ r (fun k => pay4_at x0 gm x1 w1 x2 w2 r k)
    ((pay5_at x0 gm x1 w1 x2 w2 r).trans (Finset.sum_congr rfl fun k _ => by rw [pay4_at])) n

variable (m : (ℓ : Loc nD τ sig) → Buf (Elt Ideal) ℓ) (c : Dev nD) (t : Fin cfg0.N)

/-- Row `r` of what grid point `t` leaves in its output block. -/
theorem outs_at (x0 : FVec Ideal S1x512x1024 .f32) (x1 x2 : FVec Ideal S1x512x512 .bf16) (x3 : FVec Ideal S1x9x1024 .f32)
    (x4 x5 : FVec Ideal S512x1024 .bf16) (x6 x7 : FVec Ideal S1x1024 .f32) (x8 : FVec Ideal S1024x5632 .bf16)
    (x9 : FVec Ideal S2816x1024 .bf16) (x10 x11 : FVec Ideal S1x1024 .f32)
    (h0 : iblk m c 0 t = x0) (h1 : X0_1 m c t = x1) (h2 : X0_2 m c t = x2) (h3 : iblk m c 3 t = x3)
    (h4 : iblk m c 4 t = x4) (h5 : iblk m c 5 t = x5) (h6 : iblk m c 6 t = x6) (h7 : iblk m c 7 t = x7)
    (h8 : iblk m c 8 t = x8) (h9 : iblk m c 9 t = x9) (h10 : iblk m c 10 t = x10) (h11 : iblk m c 11 t = x11)
    (r : Fin 512) (n : Fin 1024) :
    outsAt0 m c t (ix3 0 r n)
      = ffnRow
          (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
          (fun k => x3 (ix3 0 6 k)) (fun k => x3 (ix3 0 7 k)) (fun k => x3 (ix3 0 8 k))
          (fun k => x10 (ix2 0 k)) (fun k => x11 (ix2 0 k)) (fun k o => x8 (ix2 k o)) (fun f o => x9 (ix2 f o)) n := by
  unfold outsAt0
  frame_out
  rw [h0, h1, h2, h3, h4, h5, h6, h7, h8, h9, h10, h11, pay1_at]
  unfold ffnRow
  refine congrArg (fun v => lnRow v _ _ n) (funext fun k => ?_)
  rw [pay24_at]
  refine resRow_congr (fun k => mix_at _ _ _ _ _ _ _ _ r k _ fun k => ?_) (fun k => ?_) (fun o => ?_) k
  · pointwise
  · pointwise
  refine congrArg (_ * ·) (Finset.sum_congr rfl fun f _ => Ideal.mul_congr ?_ rfl)
  rw [pay9_eq]
  generalize hX : k0_pay8 (F := Ideal) _ _ _ _ _ _ = X
  have hXk : ∀ k : Fin 1024, X (ix2 r k) = modRow
        (lnRow
          (resRow (fun k => x0 (ix3 0 r k)) (fun k => x3 (ix3 0 5 k)) fun o =>
            colDot (fun k => x1 (ix3 0 r k)) (fun k o => x4 (ix2 k o)) o +
              colDot (fun k => x2 (ix3 0 r k)) (fun k o => x5 (ix2 k o)) o)
          (fun k => x6 (ix2 0 k)) fun k => x7 (ix2 0 k))
        (fun k => x3 (ix3 0 6 k)) (fun k => x3 (ix3 0 7 k)) k := by
    intro k
    rw [← hX, pay8_at]
    refine modRow_congr (fun k => mix_at _ _ _ _ _ _ _ _ r k _ fun k => ?_) (fun k => ?_) (fun k => ?_) k
    · pointwise
    · pointwise
    · pointwise
  generalize modRow _ _ _ = M at hXk ⊢
  clear hX h0 h1 h2 h3 h4 h5 h6 h7 h8 h9 h10 h11
  beta_reduce
  rw [View.readCov_eq_canon']
  pointwise
  canon_tiles x h
  all_goals
    idx_vars x
    obtain rfl : r = x0 := Fin.ext h0
    obtain ⟨fv, hf⟩ := f
    replace h1 : fv = _ := h1
    subst h1
    open_payloads
    pointwise [swiglu, colDot, hXk]
    try simp only [← Nat.add_assoc, Nat.reduceAdd]

end Cert.Ffn.Last

end
-- ==== Proof.FfnKer.lean ====
module

public import proofs.«01_k».proof.Proof.FfnPay

/-! The array the last feed-forward call leaves: its 64 blocks put together are the half step of every token. -/

@[expose] public section

set_option maxRecDepth 16384

noncomputable section

namespace Cert.Ffn.Last

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- Which block of each array a grid point works on: sample `t / 8`, rows `512 * (t % 8) …`. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val / 8, t.val % 8, 0] :=
  (by decide +kernel : ∀ t : Fin grid0.N, _)

variable (t : Fin cfg0.N)

theorem blk0 (r : Fin 512) (k : Fin 1024) (b : Fin 8) (R : Fin 4096) (hb : (b : ℕ) = t.val / 8) (hR : (R : ℕ) = t.val % 8 * 512 + r) :
    (show FVec Ideal S1x512x1024 .f32 from iblk m c 0 t) (ix3 0 r k)
      = (show FVec Ideal S8x4096x1024 .f32 from m ((c : Thread nD τ).loc main_arg0)) (ix3 b R k) := by
  blk_point [iblk, V, idx t]

theorem blk1 (r : Fin 512) (k : Fin 512) (b : Fin 8) (R : Fin 4352) (hb : (b : ℕ) = t.val / 8) (hR : (R : ℕ) = t.val % 8 * 512 + r) :
    (show FVec Ideal S1x512x512 .bf16 from X0_1 m c t) (ix3 0 r k)
      = (show FVec Ideal S8x4352x512 .bf16 from m ((c : Thread nD τ).loc main_arg1)) (ix3 b R k) := by
  refine (dif_pos (moved0_1 t (ix3 0 r k))).trans ?_
  blk_point [iblk, V, idx t]

theorem blk2 (r : Fin 512) (k : Fin 512) (b : Fin 8) (R : Fin 4352) (hb : (b : ℕ) = t.val / 8) (hR : (R : ℕ) = t.val % 8 * 512 + r) :
    (show FVec Ideal S1x512x512 .bf16 from X0_2 m c t) (ix3 0 r k)
      = (show FVec Ideal S8x4352x512 .bf16 from m ((c : Thread nD τ).loc main_arg2)) (ix3 b R k) := by
  refine (dif_pos (moved0_2 t (ix3 0 r k))).trans ?_
  blk_point [iblk, V, idx t]

theorem blk4 (k : Fin 512) (o : Fin 1024) :
    (show FVec Ideal S512x1024 .bf16 from iblk m c 4 t) (ix2 k o)
      = (show FVec Ideal S1024x1024 .f32 from m ((c : Thread nD τ).loc main_arg6)) (ix2 ⟨k, by omega⟩ o) := by
  blk_point [iblk, V, idx t]

theorem blk5 (k : Fin 512) (o : Fin 1024) :
    (show FVec Ideal S512x1024 .bf16 from iblk m c 5 t) (ix2 k o)
      = (show FVec Ideal S1024x1024 .f32 from m ((c : Thread nD τ).loc main_arg6)) (ix2 ⟨512 + k, by omega⟩ o) := by
  blk_point [iblk, V, idx t]

theorem blk6 (k : Fin 1024) :
    (show FVec Ideal S1x1024 .f32 from iblk m c 6 t) (ix2 0 k)
      = (show FVec Ideal S1024 .f32 from m ((c : Thread nD τ).loc main_arg4)) (ix1 k) := by
  blk_point [iblk, V, idx t]

theorem blk8 (k : Fin 1024) (o : Fin 5632) :
    (show FVec Ideal S1024x5632 .bf16 from iblk m c 8 t) (ix2 k o)
      = (show FVec Ideal S1024x5632 .f32 from m ((c : Thread nD τ).loc main_arg7)) (ix2 k o) := by
  blk_point [iblk, V, idx t]

theorem blk3 (j : Fin 9) (k : Fin 1024) (b : Fin 16) (hb : (b : ℕ) = t.val / 8) :
    (show FVec Ideal S1x9x1024 .f32 from iblk m c 3 t) (ix3 0 j k)
      = (show FVec Ideal S16x9x1024 .f32 from m ((c : Thread nD τ).loc main_arg3)) (ix3 b j k) := by
  blk_point [iblk, V, idx t]

theorem blk7 (k : Fin 1024) :
    (show FVec Ideal S1x1024 .f32 from iblk m c 7 t) (ix2 0 k)
      = (show FVec Ideal S1024 .f32 from m ((c : Thread nD τ).loc main_arg5)) (ix1 k) := by
  blk_point [iblk, V, idx t]

theorem blk9 (f : Fin 2816) (o : Fin 1024) :
    (show FVec Ideal S2816x1024 .bf16 from iblk m c 9 t) (ix2 f o)
      = (show FVec Ideal S2816x1024 .f32 from m ((c : Thread nD τ).loc main_arg8)) (ix2 f o) := by
  blk_point [iblk, V, idx t]

theorem blk10 (k : Fin 1024) :
    (show FVec Ideal S1x1024 .f32 from iblk m c 10 t) (ix2 0 k)
      = (show FVec Ideal S1024 .f32 from m ((c : Thread nD τ).loc main_arg9)) (ix1 k) := by
  blk_point [iblk, V, idx t]

theorem blk11 (k : Fin 1024) :
    (show FVec Ideal S1x1024 .f32 from iblk m c 11 t) (ix2 0 k)
      = (show FVec Ideal S1024 .f32 from m ((c : Thread nD τ).loc main_arg10)) (ix1 k) := by
  blk_point [iblk, V, idx t]

/-- What one grid point stores is its rows of the whole answer. -/
theorem point (r : Fin 512) (n : Fin 1024) (b : Fin 8) (R : Fin 4096) (hb : (b : ℕ) = t.val / 8) (hR : (R : ℕ) = t.val % 8 * 512 + r) :
    outsAt0 m c t (ix3 0 r n)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) b R n := by
  have e0 := funext fun k => blk0 m c t r k b R hb hR
  have e1 := funext fun k => blk1 m c t r k b ⟨R, by omega⟩ hb hR
  have e2 := funext fun k => blk2 m c t r k b ⟨R, by omega⟩ hb hR
  have e3 (j : Fin 9) := funext fun k => blk3 m c t j k ⟨b, by omega⟩ hb
  have e4 := funext fun k => funext fun o => blk4 m c t k o
  have e5 := funext fun k => funext fun o => blk5 m c t k o
  have e6 := funext fun k => blk6 m c t k
  have e7 := funext fun k => blk7 m c t k
  have e8 := funext fun k => funext fun o => blk8 m c t k o
  have e9 := funext fun k => funext fun o => blk9 m c t k o
  have e10 := funext fun k => blk10 m c t k
  have e11 := funext fun k => blk11 m c t k
  refine (outs_at m c t _ _ _ _ _ _ _ _ _ _ _ _ rfl rfl rfl rfl rfl rfl rfl rfl rfl rfl rfl rfl r n).trans ?_
  unfold result mixRow
  rw [e0, e1, e2, e3 5, e3 6, e3 7, e3 8, e4, e5, e6, e7, e8, e9, e10, e11]

/-- The call's result array. -/
theorem final : (dats m 0 c).arrAt 12 cfg0.N = fun i =>
    result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (i 0) (i 1) (i 2) := by
  refine (dats m 0 c).arrAt_eq_of_covers 12 _ (by decide +kernel) fun t _ y => ?_
  blk_simp
  rw [after0_12]
  obtain ⟨-, -, -, -, -, -, -, -, -, -, -, -, e⟩ := idx t
  have h1 : (((win0_12.blk t).view.emb y) 0 : ℕ) = t.val / 8 := by
    blk_simp [e]
  have h2 : (((win0_12.blk t).view.emb y) 1 : ℕ) = t.val % 8 * 512 + (y 1 : ℕ) := by
    blk_simp [e]
  have h3 : (((win0_12.blk t).view.emb y) 2 : ℕ) = (y 2 : ℕ) := by
    blk_simp [e]
  have hy : (show S1x512x1024.Idx from y) = ix3 0 (y 1) (y 2) := by
    funext a
    match a with
    | 0 => exact Fin.ext (Nat.lt_one_iff.mp (show (y 0 : ℕ) < 1 from (y 0).isLt))
    | 1 => rfl
    | 2 => rfl
  refine (congrArg (outsAt0 m c t) hy).trans ((point m c t (y 1) (y 2) _ _ h1 h2).trans ?_)
  exact congrArg _ (Fin.ext h3.symm)

end Cert.Ffn.Last

end
-- ==== Proof.FfnRef.lean ====
module

public import proofs.«01_k».proof.Proof.FfnSpec
public import proofs.«01_k».proof.Proof.Gen.Reference2Ideal.Run

/-! The reference of the last feed-forward call, read at a token: its stages are the half step's rows. -/

@[expose] public section

set_option maxRecDepth 16384

noncomputable section

namespace Cert.Ffn.LastRef

open Idealize.ShloMosaic Idealize.ShloMosaic.TcCoe Idealize.SL.Sem
open Cert.Reference2Ideal Cert.Reference2Ideal.Gen Cert.Reference2Ideal.Value

variable (V : Valuation τ sig (Elt Ideal))

/-- The residual stream's argument. -/
abbrev A0 : FVec Ideal S8x4096x1024 .f32 := V (Proc.devRef .tc main_arg0)
/-- The two mixing outputs. -/
abbrev A1 : FVec Ideal S8x4352x512 .bf16 := V (Proc.devRef .tc main_arg1)
abbrev A2 : FVec Ideal S8x4352x512 .bf16 := V (Proc.devRef .tc main_arg2)
/-- The modulation rows. -/
abbrev A3 : FVec Ideal S16x9x1024 .f32 := V (Proc.devRef .tc main_arg3)
/-- The mixing's gain and offset. -/
abbrev A4 : FVec Ideal S1024 .f32 := V (Proc.devRef .tc main_arg4)
abbrev A5 : FVec Ideal S1024 .f32 := V (Proc.devRef .tc main_arg5)
/-- The output projection. -/
abbrev A6 : FVec Ideal S1024x1024 .f32 := V (Proc.devRef .tc main_arg6)
/-- The feed-forward's two matrices. -/
abbrev A7 : FVec Ideal S1024x5632 .f32 := V (Proc.devRef .tc main_arg7)
abbrev A8 : FVec Ideal S2816x1024 .f32 := V (Proc.devRef .tc main_arg8)
/-- The half step's gain and offset. -/
abbrev A9 : FVec Ideal S1024 .f32 := V (Proc.devRef .tc main_arg9)
abbrev A10 : FVec Ideal S1024 .f32 := V (Proc.devRef .tc main_arg10)

/-- Modulation row `j` of sample `b`. -/
abbrev modAt (b : Fin 8) (j : Fin 9) : Row := fun k => A3 V (ix3 ⟨b, by omega⟩ j k)

/-- The first residual. -/
theorem v37_at (b : Fin 8) (r : Fin 4096) (n : Fin 1024) :
    res_main_v37 V (ix3 b r n)
      = resRow (fun k => A0 V (ix3 b r k)) (modAt V b 5) (fun o =>
          colDot (fun k : Fin 512 => A1 V (ix3 b ⟨r, by omega⟩ k)) (fun k o => A6 V (ix2 ⟨k, by omega⟩ o)) o
          + colDot (fun k : Fin 512 => A2 V (ix3 b ⟨r, by omega⟩ k)) (fun k o => A6 V (ix2 ⟨512 + k, by omega⟩ o)) o) n := by
  pointwise [res_main_v37, resRow, colDot]

theorem v43_at (b : Fin 8) (r : Fin 4096) (n : Fin 1024) :
    res_main_v43 V (ix3 b r n) = centred (fun k => res_main_v37 V (ix3 b r k)) n := by
  pointwise [res_main_v43, res_main_v41, centred]

theorem v61_at (b : Fin 8) (r : Fin 4096) (n : Fin 1024) :
    res_main_v61 V (ix3 b r n)
      = lnRow (fun k => res_main_v37 V (ix3 b r k)) (fun k => A4 V (ix1 k)) (fun k => A5 V (ix1 k)) n := by
  pointwise [res_main_v61, res_main_v41, v43_at, centred, lnRow]

theorem v68_at (b : Fin 8) (r : Fin 4096) (o : Fin 5632) :
    res_main_v68 V (ix3 b r o)
      = colDot (modRow (fun k => res_main_v61 V (ix3 b r k)) (modAt V b 6) (modAt V b 7)) (fun k o => A7 V (ix2 k o)) o := by
  pointwise [res_main_v68, colDot, modRow]

theorem v80_at (b : Fin 8) (r : Fin 4096) (n : Fin 1024) :
    res_main_v80 V (ix3 b r n)
      = resRow (fun k => res_main_v61 V (ix3 b r k)) (modAt V b 8) (fun n =>
          Ideal.ofBits FTy.f32 0x3F000000#32 * colDot (swiglu (modRow (fun k => res_main_v61 V (ix3 b r k)) (modAt V b 6) (modAt V b 7)) (fun k o => A7 V (ix2 k o)))
            (fun f o => A8 V (ix2 f o)) n) n := by
  pointwise [res_main_v80, res_main_v69, v68_at, swiglu, resRow]
  rfl

/-- The reference's result at a token, from its first residual. -/
theorem v104_at (b : Fin 8) (r : Fin 4096) (n : Fin 1024) :
    val2 V (Proc.devRef .tc main_v104) (ix3 b r n)
      = ffnRow (fun k => res_main_v61 V (ix3 b r k)) (modAt V b 6) (modAt V b 7) (modAt V b 8)
          (fun k => A9 V (ix1 k)) (fun k => A10 V (ix1 k)) (fun k o => A7 V (ix2 k o)) (fun f o => A8 V (ix2 f o)) n := by
  rw [val2_main_v104]
  unfold ffnRow
  rw [show resRow _ _ _ = fun k => res_main_v80 V (ix3 b r k) from funext fun k => (v80_at V b r k).symm]
  pointwise [res_main_v86, res_main_v84, lnRow, centred]

/-- The reference's result at a token, from its arguments. -/
theorem result_at (b : Fin 8) (r : Fin 4096) (n : Fin 1024) :
    val2 V (Proc.devRef .tc main_v104) (ix3 b r n)
      = result (A0 V) (A1 V) (A2 V) (A3 V) (A4 V) (A5 V) (A6 V) (A7 V) (A8 V) (A9 V) (A10 V) b r n := by
  rw [v104_at]
  simp only [v61_at, v37_at]
  rfl

/-- The whole array. -/
theorem result_eq : (show FVec Ideal S8x4096x1024 .f32 from val2 V (Proc.devRef .tc main_v104)) = fun i =>
    result (A0 V) (A1 V) (A2 V) (A3 V) (A4 V) (A5 V) (A6 V) (A7 V) (A8 V) (A9 V) (A10 V) (i 0) (i 1) (i 2) := by
  funext i
  exact (congrArg _ (eq_ix3 i)).trans (result_at V (i 0) (i 1) (i 2))

end Cert.Ffn.LastRef

end
-- ==== Proof.FfnCtxRun.lean ====
module

public import proofs.«01_k».proof.Proof.Gen.Kernel3Ideal.Frame
public import proofs.«01_k».proof.Proof.Gen.Kernel3Ideal.Skeleton

/-! One grid point of the feed-forward call with context, run on any staging memrefs, over any float values. -/

@[expose] public section

set_option maxRecDepth 16384

noncomputable section

namespace Cert.Ffn.Ctx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel3Ideal Cert.Kernel3Ideal.Gen

variable {F : FTy → Type} [FloatOps F]

/-- The grid point works on latent rows: the condition of the body's first `scf.if`. -/
abbrev latAt (i : grid0.Coords) : Prop := k0_cond1 i = 1#1

/-- The grid point works on context rows: the condition of the body's second `scf.if`. -/
abbrev ctxAt (i : grid0.Coords) : Prop := k0_cond2 i = 1#1

set_option maxHeartbeats 2000000 in
/-- A point of latent rows: the body fills the latent output and leaves the context output as it finds it. The pieces written to the output and
    to the scratch are the ones the run finds. -/
def runLat (c : Dev nD) (i : grid0.Coords)
    (arg2 : Memref sig .tc .vmem S1x512x1024 .f32) (harg2 : arg2.IsWhole)
    (arg3 : Memref sig .tc .vmem S1x256x1024 .f32) (harg3 : arg3.IsWhole)
    (arg4 : Memref sig .tc .vmem S1x9x1024 .f32) (harg4 : arg4.IsWhole)
    (arg5 : Memref sig .tc .vmem S1x9x1024 .f32) (harg5 : arg5.IsWhole)
    (arg6 : Memref sig .tc .vmem S1024x5632 .bf16) (harg6 : arg6.IsWhole)
    (arg7 : Memref sig .tc .vmem S2816x1024 .bf16) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x512x1024 .f32) (harg10 : arg10.IsWhole)
    (arg11 : Memref sig .tc .vmem S1x256x1024 .f32) (harg11 : arg11.IsWhole)
    (arg12 : Memref sig .tc .vmem S512x2816 .bf16) (harg12 : arg12.IsWhole)
    (hc0 : latAt i) (hc1 : ¬ctxAt i)
    (x0 : Vec F S1x512x1024 .f32) (x1 : Vec F S1x256x1024 .f32) (x2 : Vec F S1x9x1024 .f32) (x3 : Vec F S1x9x1024 .f32)
    (x4 : Vec F S1024x5632 .bf16) (x5 : Vec F S2816x1024 .bf16) (x6 : Vec F S1x1024 .f32) (x7 : Vec F S1x1024 .f32) :
    Σ' (L : List (View.Piece (Elt F) S1x512x1024 .f32)), { LT : List (View.Piece (Elt F) S512x2816 .bf16) //
      ∀ (y : Vec F S1x256x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare y ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L) ∗ owns (c : Thread nD τ) arg11 fullShare y
              ∗ (∃ f, arg12.view.loc (c : Thread nD τ) ↦[arg12.view.set]{fullShare} arg12.view.writes (Elt F) f LT)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11 arg12 harg12) K } := by
  refine ⟨?_, ?_, fun y E K => ?run⟩
  case run =>
    simp only [cc0_ffn_half_step_eq_skeleton]; unfold cc0_ffn_half_step_skel
    simp only [k0_part1_eq_skeleton, k0_part2_eq_skeleton, k0_part3_eq_skeleton, k0_part4_eq_skeleton, k0_part5_eq_skeleton]
    generalize (owns (c : Thread nD τ) arg11 fullShare y : sProp (MT nD τ sig Unit (Elt F) ℕ (UR sig nD τ) ℕ)) = kept
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, H9, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexact H9
    iexists _; iexact HS

set_option maxHeartbeats 2000000 in
/-- A point of context rows: the body fills the context output and leaves the latent output as it finds it. The pieces written to the output and
    to the scratch are the ones the run finds. -/
def runCtx (c : Dev nD) (i : grid0.Coords)
    (arg2 : Memref sig .tc .vmem S1x512x1024 .f32) (harg2 : arg2.IsWhole)
    (arg3 : Memref sig .tc .vmem S1x256x1024 .f32) (harg3 : arg3.IsWhole)
    (arg4 : Memref sig .tc .vmem S1x9x1024 .f32) (harg4 : arg4.IsWhole)
    (arg5 : Memref sig .tc .vmem S1x9x1024 .f32) (harg5 : arg5.IsWhole)
    (arg6 : Memref sig .tc .vmem S1024x5632 .bf16) (harg6 : arg6.IsWhole)
    (arg7 : Memref sig .tc .vmem S2816x1024 .bf16) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x512x1024 .f32) (harg10 : arg10.IsWhole)
    (arg11 : Memref sig .tc .vmem S1x256x1024 .f32) (harg11 : arg11.IsWhole)
    (arg12 : Memref sig .tc .vmem S512x2816 .bf16) (harg12 : arg12.IsWhole)
    (hc0 : ¬latAt i) (hc1 : ctxAt i)
    (x0 : Vec F S1x512x1024 .f32) (x1 : Vec F S1x256x1024 .f32) (x2 : Vec F S1x9x1024 .f32) (x3 : Vec F S1x9x1024 .f32)
    (x4 : Vec F S1024x5632 .bf16) (x5 : Vec F S2816x1024 .bf16) (x6 : Vec F S1x1024 .f32) (x7 : Vec F S1x1024 .f32) :
    Σ' (L : List (View.Piece (Elt F) S1x256x1024 .f32)), { LT : List (View.Piece (Elt F) S512x2816 .bf16) //
      ∀ (y : Vec F S1x512x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y ∗ (∃ f, arg11.view.loc (c : Thread nD τ) ↦[arg11.view.set]{fullShare} arg11.view.writes (Elt F) f L)
              ∗ (∃ f, arg12.view.loc (c : Thread nD τ) ↦[arg12.view.set]{fullShare} arg12.view.writes (Elt F) f LT)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11 arg12 harg12) K } := by
  refine ⟨?_, ?_, fun y E K => ?run⟩
  case run =>
    simp only [cc0_ffn_half_step_eq_skeleton]; unfold cc0_ffn_half_step_skel
    simp only [k0_part6_eq_skeleton, k0_part7_eq_skeleton, k0_part8_eq_skeleton, k0_part9_eq_skeleton, k0_part10_eq_skeleton]
    generalize (owns (c : Thread nD τ) arg10 fullShare y : sProp (MT nD τ sig Unit (Elt F) ℕ (UR sig nD τ) ℕ)) = kept
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, H8, ⟨%d9, %f9, -, H9⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexists _; iexact H9
    iexists _; iexact HS

end Cert.Ffn.Ctx

end
-- ==== Proof.FfnCtxFrame.lean ====
module

public import proofs.«01_k».proof.Proof.FfnCtxRun
public import Idealize.ShloMosaic.Lib.Claim
public import Idealize.ShloMosaic.Lib.Pipeline.TableIdle
public import Idealize.ShloMosaic.Lib.Pipeline.FrameBody
public import Idealize.ShloMosaic.Lib.WordCmp

/-! The whole run of the feed-forward call with context, over any float values: every execution ends, the inputs keep their contents, and the two
    outputs hold what the grid points leave. The latent output's last block of a sample is written back one point after the
    point that fills it, at the point of context rows. -/

@[expose] public section

set_option maxRecDepth 16384

noncomputable section

namespace Cert.Ffn.Ctx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel3Ideal Cert.Kernel3Ideal.Gen

variable {F : FTy → Type} [FloatOps F]

variable (m : (ℓ : Loc nD τ sig) → Buf (Elt F) ℓ) (ρ : Dev nD → PrngReg) (c : Dev nD) (t : Fin cfg0.N)

theorem lat_iff : latAt (grid0.coords t) ↔ t.val % 9 ≤ 7 :=
  (by decide +kernel : ∀ t : Fin grid0.N, latAt (grid0.coords t) ↔ t.val % 9 ≤ 7) t

theorem ctx_iff : ctxAt (grid0.coords t) ↔ t.val % 9 = 8 :=
  (by decide +kernel : ∀ t : Fin grid0.N, ctxAt (grid0.coords t) ↔ t.val % 9 = 8) t

/-- The pieces the body writes to the latent output at point `t`. -/
def outLatPieces (h : t.val % 9 ≤ 7) : List (View.Piece (Elt F) S1x512x1024 .f32) :=
  (runLat c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (Memref.whole cc0_scratch0) (Memref.isWhole_whole _)
    ((lat_iff t).mpr h) (fun h' => absurd ((ctx_iff t).mp h') (by omega))
    (iblk m c 0 t) (iblk m c 1 t) (iblk m c 2 t) (iblk m c 3 t) (iblk m c 4 t) (iblk m c 5 t) (iblk m c 6 t) (iblk m c 7 t)).1

/-- They fill the block. -/
theorem outLat_cover (h : t.val % 9 ≤ 7) (y : S1x512x1024.Idx) : ∃ pc ∈ outLatPieces m c t h, y ∈ pc.1.set :=
  View.cover_of_tiledL (outLatPieces m c t h) S1x512x1024.size (by sl_kernel_rfl) y

/-- What the latent output's staging buffer holds after point `t`. -/
def outLat (h : t.val % 9 ≤ 7) : Vec F S1x512x1024 .f32 :=
  (Memref.whole cc0_stg8_0 : Memref sig .tc .vmem S1x512x1024 .f32).view.read (Elt F)
    ((Memref.whole cc0_stg8_0 : Memref sig .tc .vmem S1x512x1024 .f32).view.writes (Elt F)
      (Memref.whole cc0_stg8_0 : Memref sig .tc .vmem S1x512x1024 .f32).view.junk (outLatPieces m c t h))

/-- The pieces the body writes to the context output at point `t`. -/
def outCtxPieces (h : t.val % 9 = 8) : List (View.Piece (Elt F) S1x256x1024 .f32) :=
  (runCtx c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (Memref.whole cc0_scratch0) (Memref.isWhole_whole _)
    (fun h' => absurd ((lat_iff t).mp h') (by omega)) ((ctx_iff t).mpr h)
    (iblk m c 0 t) (iblk m c 1 t) (iblk m c 2 t) (iblk m c 3 t) (iblk m c 4 t) (iblk m c 5 t) (iblk m c 6 t) (iblk m c 7 t)).1

/-- They fill the block. -/
theorem outCtx_cover (h : t.val % 9 = 8) (y : S1x256x1024.Idx) : ∃ pc ∈ outCtxPieces m c t h, y ∈ pc.1.set :=
  View.cover_of_tiledL (outCtxPieces m c t h) S1x256x1024.size (by sl_kernel_rfl) y

/-- What the context output's staging buffer holds after point `t`. -/
def outCtx (h : t.val % 9 = 8) : Vec F S1x256x1024 .f32 :=
  (Memref.whole cc0_stg9_0 : Memref sig .tc .vmem S1x256x1024 .f32).view.read (Elt F)
    ((Memref.whole cc0_stg9_0 : Memref sig .tc .vmem S1x256x1024 .f32).view.writes (Elt F)
      (Memref.whole cc0_stg9_0 : Memref sig .tc .vmem S1x256x1024 .f32).view.junk (outCtxPieces m c t h))

/-- The last point of latent rows up to `t`. -/
def lastLat : Fin cfg0.N := ⟨if t.val % 9 = 8 then t.val - 1 else t.val, by have := t.isLt; split <;> omega⟩

theorem lastLat_le : (lastLat t).val % 9 ≤ 7 := by
  show (if t.val % 9 = 8 then t.val - 1 else t.val) % 9 ≤ 7
  split <;> omega

/-- The proof data: each input's buffer keeps its block, the latent output's holds what the last point of latent rows
    left, the context output's what its point leaves (at the other points nothing reads it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outLat m c (lastLat t) (lastLat_le t)
    | ⟨9, _⟩ => if h : t.val % 9 = 8 then outCtx m c t h else iblk m c 1 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = outLat m c (lastLat t) (lastLat_le t) := by dsimp only [dats]
theorem after_9 (h : t.val % 9 = 8) : (dats m 0 c).after 9 t = outCtx m c t h := by
  dsimp only [dats]; exact dif_pos h

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d

theorem leaves_0 : (dats m 0 c).leavesExact 0 t = owns (c : Thread nD τ) ((cfg0.win 0).stage (cfg0.slots t 0)) fullShare (iblk m c 0 t) := by
  unfold Dat.leavesExact; rw [show cfg0.idle 0 (cfg0.grid.coords t) = false from rfl, after_0]
theorem leaves_1 : (dats m 0 c).leavesExact 1 t = owns (c : Thread nD τ) ((cfg0.win 1).stage (cfg0.slots t 1)) fullShare (iblk m c 1 t) := by
  unfold Dat.leavesExact; rw [show cfg0.idle 1 (cfg0.grid.coords t) = false from rfl, after_1]
theorem leaves_2 : (dats m 0 c).leavesExact 2 t = owns (c : Thread nD τ) ((cfg0.win 2).stage (cfg0.slots t 2)) fullShare (iblk m c 2 t) := by
  unfold Dat.leavesExact; rw [show cfg0.idle 2 (cfg0.grid.coords t) = false from rfl, after_2]
theorem leaves_3 : (dats m 0 c).leavesExact 3 t = owns (c : Thread nD τ) ((cfg0.win 3).stage (cfg0.slots t 3)) fullShare (iblk m c 3 t) := by
  unfold Dat.leavesExact; rw [show cfg0.idle 3 (cfg0.grid.coords t) = false from rfl, after_3]
theorem leaves_4 : (dats m 0 c).leavesExact 4 t = owns (c : Thread nD τ) ((cfg0.win 4).stage (cfg0.slots t 4)) fullShare (iblk m c 4 t) := by
  unfold Dat.leavesExact; rw [show cfg0.idle 4 (cfg0.grid.coords t) = false from rfl, after_4]
theorem leaves_5 : (dats m 0 c).leavesExact 5 t = owns (c : Thread nD τ) ((cfg0.win 5).stage (cfg0.slots t 5)) fullShare (iblk m c 5 t) := by
  unfold Dat.leavesExact; rw [show cfg0.idle 5 (cfg0.grid.coords t) = false from rfl, after_5]
theorem leaves_6 : (dats m 0 c).leavesExact 6 t = owns (c : Thread nD τ) ((cfg0.win 6).stage (cfg0.slots t 6)) fullShare (iblk m c 6 t) := by
  unfold Dat.leavesExact; rw [show cfg0.idle 6 (cfg0.grid.coords t) = false from rfl, after_6]
theorem leaves_7 : (dats m 0 c).leavesExact 7 t = owns (c : Thread nD τ) ((cfg0.win 7).stage (cfg0.slots t 7)) fullShare (iblk m c 7 t) := by
  unfold Dat.leavesExact; rw [show cfg0.idle 7 (cfg0.grid.coords t) = false from rfl, after_7]

theorem outLat_congr (s s' : Fin cfg0.N) (e : s = s') (h : s.val % 9 ≤ 7) (h' : s'.val % 9 ≤ 7) :
    outLat m c s h = outLat m c s' h' := by
  subst e; rfl

theorem lastLat_of_lat (h : t.val % 9 ≤ 7) : lastLat t = t :=
  Fin.ext (if_neg (by omega))

/-- A point of latent rows names its own block. -/
theorem after_lat (h : t.val % 9 ≤ 7) : (dats m 0 c).after 8 t = outLat m c t h :=
  (after_8 m c t).trans (outLat_congr m c _ _ (lastLat_of_lat t h) _ _)

/-- The point of context rows names the block of the point before it. -/
theorem after_carry (h : t.val % 9 = 8) : (dats m 0 c).after 8 t = (dats m 0 c).after 8 ⟨t.val - 1, by omega⟩ := by
  rw [after_8, after_8]
  refine outLat_congr m c _ _ (Fin.ext ?_) _ _
  show (if t.val % 9 = 8 then t.val - 1 else t.val) = if (t.val - 1) % 9 = 8 then t.val - 1 - 1 else t.val - 1
  rw [if_pos h, if_neg (by omega)]

/-- Where the latent output's window is idle. -/
theorem idle_lat : cfg0.idle 8 (grid0.coords t) = true ↔ t.val % 9 = 8 :=
  (by decide +kernel : ∀ t : Fin grid0.N, idle0 8 (grid0.coords t) = true ↔ t.val % 9 = 8) t

/-- Where the context output's window is idle. -/
theorem idle_ctx : cfg0.idle 9 (grid0.coords t) = true ↔ t.val % 9 ≤ 7 :=
  (by decide +kernel : ∀ t : Fin grid0.N, idle0 9 (grid0.coords t) = true ↔ t.val % 9 ≤ 7) t

/-- At which points the latent output's window is written back. -/
theorem flush_lat : (cfg0.win 8).flush t = true ↔ t.val % 9 ≠ 7 :=
  (by decide +kernel : ∀ t : Fin grid0.N, win0_8.flush t = true ↔ t.val % 9 ≠ 7) t

/-- The latent output's buffer holds nothing of its block except at the points of context rows. -/
theorem fresh_lat (n : ℕ) (hn : n ≤ cfg0.N) : cfg0.fresh 8 n = !decide (n % 9 = 8) := by
  refine cfg0.fresh_tab 8 (fun n => !decide (n % 9 = 8)) rfl (fun t => ?_) n hn
  rw [Bool.eq_iff_iff, Bool.or_eq_true, Bool.and_eq_true, flush_lat, idle_lat]
  simp only [Bool.not_eq_true', decide_eq_false_iff_not]
  omega

theorem ctxAt_before_lat (h : t.val % 9 = 8) (d) : (dats m 0 c).before 8 t d = (dats m 0 c).after 8 t := by
  refine ((dats m 0 c).before_out_traj 8 rfl (fun _ _ => rfl) (fun t _ hi _ => after_carry m c t ((idle_lat t).mp hi)) _ t rfl d).trans ?_
  rw [after_carry m c t h, fresh_lat _ t.isLt.le, h]
  rfl

theorem latAt_leaves_lat (h : t.val % 9 ≤ 7) :
    (dats m 0 c).leavesExact 8 t = owns (c : Thread nD τ) ((cfg0.win 8).stage (cfg0.slots t 8)) fullShare (outLat m c t h) := by
  unfold Dat.leavesExact
  rw [show cfg0.idle 8 (cfg0.grid.coords t) = false from Bool.eq_false_iff.mpr fun hi => by have := (idle_lat t).mp hi; omega,
    after_lat m c t h]

theorem latAt_leaves_ctx (h : t.val % 9 ≤ 7) :
    (dats m 0 c).leavesExact 9 t
      = iprop(∃ d, owns (c : Thread nD τ) ((cfg0.win 9).stage (cfg0.slots t 9)) fullShare ((dats m 0 c).before 9 t d)) :=
  (dats m 0 c).leavesExact_idle 9 t ((idle_ctx t).mpr h)
    (Bool.eq_false_iff.mpr fun hf => by have := (flush0_9 t).mp hf; omega)

theorem ctxAt_leaves_lat (h : t.val % 9 = 8) :
    (dats m 0 c).leavesExact 8 t = owns (c : Thread nD τ) ((cfg0.win 8).stage (cfg0.slots t 8)) fullShare ((dats m 0 c).after 8 t) := by
  unfold Dat.leavesExact
  rw [show cfg0.idle 8 (cfg0.grid.coords t) = true from (idle_lat t).mpr h,
    show (cfg0.win 8).flush t = true from (flush_lat t).mpr (by omega)]

theorem ctxAt_leaves_ctx (h : t.val % 9 = 8) :
    (dats m 0 c).leavesExact 9 t = owns (c : Thread nD τ) ((cfg0.win 9).stage (cfg0.slots t 9)) fullShare (outCtx m c t h) := by
  unfold Dat.leavesExact
  rw [show cfg0.idle 9 (cfg0.grid.coords t) = false from Bool.eq_false_iff.mpr fun hi => by have := (idle_ctx t).mp hi; omega,
    after_9 m c t h]

/-- The invariant between points: the scratch at some contents, and the generator register. -/
theorem inv_eq : (Pipeline.ΦA spec0 c : sProp (MT nD τ sig Unit (Elt F) ℕ (UR sig nD τ) ℕ))
    = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2000000 in
/-- The body at a point of latent rows. -/
theorem sound_lat (h : t.val % 9 ≤ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.castSucc = Pipeline.ΦA spec0 c from rfl, show (dats m 0 c).Φ t.succ = Pipeline.ΦA spec0 c from rfl, inv_eq,
    show (dats m 0 c).owesAt () t.succ = (dats m 0 c).owesAt () t.castSucc from rfl,
    leaves_0, leaves_1, leaves_2, leaves_3, leaves_4, leaves_5, leaves_6, leaves_7, latAt_leaves_lat m c t h, latAt_leaves_ctx m c t h]
  unfold outLat outLatPieces
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runLat c (grid0.coords t) _ _ _ _ _ _ _ _ _ _ _ _ _ _ _ _ _ _ _ _ _ _ ((lat_iff t).mpr h) (fun h' => absurd ((ctx_iff t).mp h') (by omega)) (iblk m c 0 t) (iblk m c 1 t) (iblk m c 2 t) (iblk m c 3 t) (iblk m c 4 t) (iblk m c 5 t) (iblk m c 6 t) (iblk m c 7 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS]; · iexact HS
  iintro ⟨H0, H1, H2, H3, H4, H5, H6, H7, ⟨%e, H8⟩, H9, ⟨%fT, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (outLat_cover m c t h)
  iexists _; iexact H9

set_option maxHeartbeats 2000000 in
/-- The body at a point of context rows. -/
theorem sound_ctx (h : t.val % 9 = 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, ctxAt_before_lat m c t h]
  rw [show (dats m 0 c).Φ t.castSucc = Pipeline.ΦA spec0 c from rfl, show (dats m 0 c).Φ t.succ = Pipeline.ΦA spec0 c from rfl, inv_eq,
    show (dats m 0 c).owesAt () t.succ = (dats m 0 c).owesAt () t.castSucc from rfl,
    leaves_0, leaves_1, leaves_2, leaves_3, leaves_4, leaves_5, leaves_6, leaves_7, ctxAt_leaves_lat m c t h, ctxAt_leaves_ctx m c t h]
  unfold outCtx outCtxPieces
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runCtx c (grid0.coords t) _ _ _ _ _ _ _ _ _ _ _ _ _ _ _ _ _ _ _ _ _ _ (fun h' => absurd ((lat_iff t).mp h') (by omega)) ((ctx_iff t).mpr h) (iblk m c 0 t) (iblk m c 1 t) (iblk m c 2 t) (iblk m c 3 t) (iblk m c 4 t) (iblk m c 5 t) (iblk m c 6 t) (iblk m c 7 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS]; · iexact HS
  iintro ⟨H0, H1, H2, H3, H4, H5, H6, H7, H8, ⟨%e, H9⟩, ⟨%fT, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (outCtx_cover m c t h)

/-- The body at any point. -/
theorem sound_body :
    bodyPre m c t ⊢ wp frame (wpE (defs₀ (F := F)) Variants.none c none) Set.univ (bodyAt0 t) (fun _ => bodyPost m c t) :=
  if h : t.val % 9 = 8 then sound_ctx m c t h else sound_lat m c t (by omega)

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

set_option backward.isDefEq.respectTransparency.types false in
/-- Every execution ends with each array of the pipeline at what the proof data say, every other buffer as it was, and
    every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run in the claims' words: the two results are the pipeline's arrays, the arguments unchanged, every semaphore
    counter at zero. -/
theorem run_ends : θ_run defs (onTc (τ := τ) (main (F := F))) ⟨m, fun _ => 0, ρ⟩ (fun r => (∀ c : Dev nD,
      r.2.mem ((c.tc : Thread nD τ).loc main_v4_0) = (dats m 0 c).arrAt 8 cfg0.N
      ∧ r.2.mem ((c.tc : Thread nD τ).loc main_v4_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.2.1 c).1 8, (h.2.1 c).1 9, h.1 c⟩, h.2.2⟩)
    (θ_run_and (frame_of m ρ (dats m) (A_eq m) ((θ_run defs _ _).mono (fun _ h => h.1) (run_main m ρ))) (run_main m ρ))

/-- The arguments unchanged, every semaphore counter at zero: the frame, at any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).2.2, h.2⟩) (run_ends m ρ)

end Cert.Ffn.Ctx

end
-- ==== Proof.FfnCtxPay.lean ====
module

public import proofs.«01_k».proof.Proof.FfnSpec
public import proofs.«01_k».proof.Proof.FfnCtxFrame

/-! What one grid point of the feed-forward call with context computes: row `r` of the block it writes is the half step of row `r` of
    its input block, with the modulation rows of its sample at a point of latent rows and of the shared row at a point of
    context rows. -/

@[expose] public section

set_option maxRecDepth 16384

noncomputable section

namespace Cert.Ffn.Ctx

open Idealize.ShloMosaic Idealize.ShloMosaic.TcCoe Idealize.SL.Sem
open Cert.Kernel3Ideal Cert.Kernel3Ideal.Gen

/-- The stored latent block is the layer normalisation of the residual, its row sums those of the residual. -/
theorem pay1_at (v : FVec Ideal S512x1024 .f32) (g b : Vec Ideal S1x1024 .f32) (s : FVec Ideal S512x1 .f32) (r : Fin 512)
    (hs : s (ix2 r 0) = ∑ k : Fin 1024, v (ix2 r k)) (n : Fin 1024) :
    k0_pay1 (F := Ideal) v (k0_pay24 g) (k0_pay25 b) s (Scalar.ofBits .f32 0x44800000#32) (ix3 0 r n)
      = lnRow (fun k => v (ix2 r k)) (fun k => g (ix2 0 k)) (fun k => b (ix2 0 k)) n := by
  pointwise [k0_pay1, k0_pay24, k0_pay25, lnRow, centred, hs]
  try rfl

/-- The residual's row sums. -/
theorem pay26_at (h : FVec Ideal S512x1024 .f32) (gt : FVec Ideal S1x1024 .f32) (a : Vec Ideal S512x2816 .bf16)
    (w : Vec Ideal S2816x1024 .bf16) (r : Fin 512) :
    k0_pay26 (F := Ideal) h gt a w (ix2 r 0) = ∑ k : Fin 1024, k0_pay23 (F := Ideal) h gt a w (ix2 r k) := by
  unfold k0_pay26
  generalize k0_pay23 h gt a w = y
  pointwise

/-- The residual from the hidden layer. -/
theorem pay23_at (x : Vec Ideal S1x512x1024 .f32) (gt : Vec Ideal S1x1x1024 .f32) (a : Vec Ideal S512x2816 .bf16)
    (w : Vec Ideal S2816x1024 .bf16) (r : Fin 512) (n : Fin 1024) :
    k0_pay23 (F := Ideal) (k0_pay3 x) (k0_pay4 gt) a w (ix2 r n)
      = resRow (fun k => x (ix3 0 r k)) (fun k => gt (ix3 0 0 k))
          (fun o => Ideal.ofBits FTy.f32 0x3F000000#32 * colDot (fun f => a (ix2 r f)) (fun f o => w (ix2 f o)) o) n := by
  pointwise [k0_pay23, k0_pay3, k0_pay4, resRow, colDot]

/-- The modulated row the products read. -/
theorem pay5_at (x : Vec Ideal S1x512x1024 .f32) (sh sc : Vec Ideal S1x1x1024 .f32) (r : Fin 512) (n : Fin 1024) :
    k0_pay5 (F := Ideal) x sh sc (ix2 r n)
      = modRow (fun k => x (ix3 0 r k)) (fun k => sh (ix3 0 0 k)) (fun k => sc (ix3 0 0 k)) n := by
  pointwise [k0_pay5, k0_pay3, modRow]

/-- The first tile's payload is a later one's at the modulated block, -/
theorem pay6_eq (x : Vec Ideal S1x512x1024 .f32) (sh sc : Vec Ideal S1x1x1024 .f32) (wa wb : Vec Ideal S1024x256 .bf16) :
    k0_pay6 (F := Ideal) x sh sc wa wb = k0_pay10 (k0_pay5 x sh sc) wa wb := rfl

/-- and so is the second's. -/
theorem pay9_eq (x : Vec Ideal S1x512x1024 .f32) (sh sc : Vec Ideal S1x1x1024 .f32) (wa wb : Vec Ideal S1024x256 .bf16) :
    k0_pay9 (F := Ideal) (k0_pay5 x sh sc) (k0_pay7 x sh sc wa) (k0_pay8 wb) = k0_pay10 (k0_pay5 x sh sc) wa wb := rfl

/-- The stored context block is the layer normalisation of the residual, its row sums those of the residual. -/
theorem pay2_at (v : FVec Ideal S256x1024 .f32) (g b : Vec Ideal S1x1024 .f32) (s : FVec Ideal S256x1 .f32) (r : Fin 256)
    (hs : s (ix2 r 0) = ∑ k : Fin 1024, v (ix2 r k)) (n : Fin 1024) :
    k0_pay2 (F := Ideal) v (k0_pay48 g) (k0_pay49 b) s (Scalar.ofBits .f32 0x44800000#32) (ix3 0 r n)
      = lnRow (fun k => v (ix2 r k)) (fun k => g (ix2 0 k)) (fun k => b (ix2 0 k)) n := by
  pointwise [k0_pay2, k0_pay48, k0_pay49, lnRow, centred, hs]
  try rfl

/-- The residual's row sums. -/
theorem pay50_at (h : FVec Ideal S256x1024 .f32) (gt : FVec Ideal S1x1024 .f32) (a : Vec Ideal S256x2816 .bf16)
    (w : Vec Ideal S2816x1024 .bf16) (r : Fin 256) :
    k0_pay50 (F := Ideal) h gt a w (ix2 r 0) = ∑ k : Fin 1024, k0_pay47 (F := Ideal) h gt a w (ix2 r k) := by
  unfold k0_pay50
  generalize k0_pay47 h gt a w = y
  pointwise

/-- The residual from the hidden layer. -/
theorem pay47_at (x : Vec Ideal S1x256x1024 .f32) (gt : Vec Ideal S1x1x1024 .f32) (a : Vec Ideal S256x2816 .bf16)
    (w : Vec Ideal S2816x1024 .bf16) (r : Fin 256) (n : Fin 1024) :
    k0_pay47 (F := Ideal) (k0_pay27 x) (k0_pay28 gt) a w (ix2 r n)
      = resRow (fun k => x (ix3 0 r k)) (fun k => gt (ix3 0 0 k))
          (fun o => Ideal.ofBits FTy.f32 0x3F000000#32 * colDot (fun f => a (ix2 r f)) (fun f o => w (ix2 f o)) o) n := by
  pointwise [k0_pay47, k0_pay27, k0_pay28, resRow, colDot]

/-- The modulated row the products read. -/
theorem pay29_at (x : Vec Ideal S1x256x1024 .f32) (sh sc : Vec Ideal S1x1x1024 .f32) (r : Fin 256) (n : Fin 1024) :
    k0_pay29 (F := Ideal) x sh sc (ix2 r n)
      = modRow (fun k => x (ix3 0 r k)) (fun k => sh (ix3 0 0 k)) (fun k => sc (ix3 0 0 k)) n := by
  pointwise [k0_pay29, k0_pay27, modRow]

/-- The first tile's payload is a later one's at the modulated block, -/
theorem pay30_eq (x : Vec Ideal S1x256x1024 .f32) (sh sc : Vec Ideal S1x1x1024 .f32) (wa wb : Vec Ideal S1024x256 .bf16) :
    k0_pay30 (F := Ideal) x sh sc wa wb = k0_pay34 (k0_pay29 x sh sc) wa wb := rfl

/-- and so is the second's. -/
theorem pay33_eq (x : Vec Ideal S1x256x1024 .f32) (sh sc : Vec Ideal S1x1x1024 .f32) (wa wb : Vec Ideal S1024x256 .bf16) :
    k0_pay33 (F := Ideal) (k0_pay29 x sh sc) (k0_pay31 x sh sc wa) (k0_pay32 wb) = k0_pay34 (k0_pay29 x sh sc) wa wb := rfl

/-- A row below 256 of a tile of 256 rows and columns: its columns decide. -/
theorem mem_cols {o : ℕ} {inb} {r : Fin 512} (hr : (r : ℕ) < 256) (f : Fin 2816) :
    (ix2 r f : S512x2816.Idx) ∈ (Rect.unit (s := S512x2816) ![0, o] ![256, 256] inb).set ↔ o ≤ (f : ℕ) ∧ (f : ℕ) < o + 256 := by
  rw [Rect.mem_set_unit]
  refine ⟨fun h => h 1, fun h a => ?_⟩
  match a with
  | 0 => exact ⟨Nat.zero_le _, by show (r : ℕ) < 0 + 256; omega⟩
  | 1 => exact h

variable (m : (ℓ : Loc nD τ sig) → Buf (Elt Ideal) ℓ) (c : Dev nD) (t : Fin cfg0.N)

/-- Row `r` of what a grid point of latent rows leaves in its output block. -/
theorem outLat_at (h : t.val % 9 ≤ 7) (x0 : FVec Ideal S1x512x1024 .f32) (x2 : FVec Ideal S1x9x1024 .f32)
    (x4 : FVec Ideal S1024x5632 .bf16) (x5 : FVec Ideal S2816x1024 .bf16) (x6 x7 : FVec Ideal S1x1024 .f32)
    (h0 : iblk m c 0 t = x0) (h2 : iblk m c 2 t = x2) (h4 : iblk m c 4 t = x4) (h5 : iblk m c 5 t = x5)
    (h6 : iblk m c 6 t = x6) (h7 : iblk m c 7 t = x7) (r : Fin 512) (n : Fin 1024) :
    outLat m c t h (ix3 0 r n)
      = ffnRow (fun k => x0 (ix3 0 r k)) (fun k => x2 (ix3 0 0 k)) (fun k => x2 (ix3 0 1 k)) (fun k => x2 (ix3 0 2 k))
          (fun k => x6 (ix2 0 k)) (fun k => x7 (ix2 0 k)) (fun k o => x4 (ix2 k o)) (fun f o => x5 (ix2 f o)) n := by
  unfold outLat outLatPieces
  frame_out
  refine (congrFun (View.canon_cons_unit_lit (S := S1x512x1024) _ _ [] (by decide)) _).trans ?_
  rw [h0, h2, h4, h5, h6, h7]
  refine (pay1_at _ _ _ _ r (pay26_at _ _ _ _ r) n).trans ?_
  unfold ffnRow
  refine congrArg (fun v => lnRow v _ _ n) (funext fun k => ?_)
  rw [pay23_at]
  refine resRow_congr (fun k => rfl) (fun k => ?_) (fun o => ?_) k
  · pointwise
  refine congrArg (_ * ·) (Finset.sum_congr rfl fun f _ => Ideal.mul_congr ?_ rfl)
  rw [pay6_eq, pay9_eq]
  generalize hX : k0_pay5 (F := Ideal) _ _ _ = X
  have hXk : ∀ k : Fin 1024, X (ix2 r k)
      = modRow (fun k => x0 (ix3 0 r k)) (fun k => x2 (ix3 0 0 k)) (fun k => x2 (ix3 0 1 k)) k := by
    intro k
    rw [← hX, pay5_at]
    refine modRow_congr (fun k => rfl) (fun k => ?_) (fun k => ?_) k
    · pointwise
    · pointwise
  generalize modRow _ _ _ = M at hXk ⊢
  clear hX h0 h2 h4 h5 h6 h7
  beta_reduce
  rw [View.readCov_eq_canon']
  pointwise
  canon_tiles x h
  all_goals
    idx_vars x
    obtain rfl : r = x0 := Fin.ext h0
    obtain ⟨fv, hf⟩ := f
    replace h1 : fv = _ := h1
    subst h1
    open_payloads
    pointwise [swiglu, colDot, hXk]
    try simp only [← Nat.add_assoc, Nat.reduceAdd]

/-- Row `r` of what a grid point of context rows leaves in its output block. -/
theorem outCtx_at (h : t.val % 9 = 8) (x0 : FVec Ideal S1x256x1024 .f32) (x2 : FVec Ideal S1x9x1024 .f32)
    (x4 : FVec Ideal S1024x5632 .bf16) (x5 : FVec Ideal S2816x1024 .bf16) (x6 x7 : FVec Ideal S1x1024 .f32)
    (h0 : iblk m c 1 t = x0) (h2 : iblk m c 3 t = x2) (h4 : iblk m c 4 t = x4) (h5 : iblk m c 5 t = x5)
    (h6 : iblk m c 6 t = x6) (h7 : iblk m c 7 t = x7) (r : Fin 256) (n : Fin 1024) :
    outCtx m c t h (ix3 0 r n)
      = ffnRow (fun k => x0 (ix3 0 r k)) (fun k => x2 (ix3 0 0 k)) (fun k => x2 (ix3 0 1 k)) (fun k => x2 (ix3 0 2 k))
          (fun k => x6 (ix2 0 k)) (fun k => x7 (ix2 0 k)) (fun k o => x4 (ix2 k o)) (fun f o => x5 (ix2 f o)) n := by
  unfold outCtx outCtxPieces
  frame_out
  refine (congrFun (View.canon_cons_unit_lit (S := S1x256x1024) _ _ [] (by decide)) _).trans ?_
  rw [h0, h2, h4, h5, h6, h7]
  refine (pay2_at _ _ _ _ r (pay50_at _ _ _ _ r) n).trans ?_
  unfold ffnRow
  refine congrArg (fun v => lnRow v _ _ n) (funext fun k => ?_)
  rw [pay47_at]
  refine resRow_congr (fun k => rfl) (fun k => ?_) (fun o => ?_) k
  · pointwise
  refine congrArg (_ * ·) (Finset.sum_congr rfl fun f _ => Ideal.mul_congr ?_ rfl)
  rw [pay30_eq, pay33_eq]
  generalize hX : k0_pay29 (F := Ideal) _ _ _ = X
  have hXk : ∀ k : Fin 1024, X (ix2 r k)
      = modRow (fun k => x0 (ix3 0 r k)) (fun k => x2 (ix3 0 0 k)) (fun k => x2 (ix3 0 1 k)) k := by
    intro k
    rw [← hX, pay29_at]
    refine modRow_congr (fun k => rfl) (fun k => ?_) (fun k => ?_) k
    · pointwise
    · pointwise
  generalize modRow _ _ _ = M at hXk ⊢
  clear hX h0 h2 h4 h5 h6 h7
  beta_reduce
  rw [View.readCov_eq_canon']
  pointwise
  canon_tiles x h using (by
    simp only [List.mem_cons, exists_eq_or_imp, List.not_mem_nil, or_false, exists_eq_left]
    repeat rw [mem_cols r.isLt f]
    omega)
  all_goals
    idx_vars x
    obtain rfl : r = x0 := Fin.ext (by simpa using h0)
    obtain ⟨fv, hf⟩ := f
    replace h1 : fv = _ := h1
    subst h1
    open_payloads
    pointwise [swiglu, colDot, hXk]
    try simp only [← Nat.add_assoc, Nat.reduceAdd]

end Cert.Ffn.Ctx

end
-- ==== Proof.FfnCtxKer.lean ====
module

public import proofs.«01_k».proof.Proof.FfnCtxPay

/-! The two arrays the feed-forward call with context leaves: the blocks of latent rows put together are the half step of
    every latent token, with the modulation of its sample; those of context rows, of every context token, with the shared
    modulation row. -/

@[expose] public section

set_option maxRecDepth 16384

noncomputable section

namespace Cert.Ffn.Ctx

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- Which block of each array a grid point works on: sample `t / 9`, latent rows `512 * (t % 9) …` (the last ones again at
    the point of context rows). -/
theorem idx : ∀ t : Fin cfg0.N, win0_0.index t = ![t.val / 9, min (t.val % 9) 7, 0] ∧ win0_1.index t = ![t.val / 9, 0, 0]
    ∧ win0_2.index t = ![t.val / 9, 0, 0] ∧ win0_3.index t = ![8, 0, 0]
    ∧ win0_4.index t = ![0, 0] ∧ win0_5.index t = ![0, 0] ∧ win0_6.index t = ![0, 0] ∧ win0_7.index t = ![0, 0]
    ∧ win0_8.index t = ![t.val / 9, min (t.val % 9) 7, 0] ∧ win0_9.index t = ![t.val / 9, 0, 0] :=
  (by decide +kernel : ∀ t : Fin grid0.N, _)

/-- The point of context rows is the only one of its sample that writes the context output back. -/
theorem flush_ctx : ∀ t : Fin cfg0.N, (cfg0.win 9).flush t = true → t.val % 9 = 8 :=
  (by decide +kernel : ∀ t : Fin grid0.N, win0_9.flush t = true → t.val % 9 = 8)

variable (t : Fin cfg0.N)

theorem blk0 (r : Fin 512) (k : Fin 1024) (b : Fin 8) (R : Fin 4096) (hb : (b : ℕ) = t.val / 9) (hR : (R : ℕ) = min (t.val % 9) 7 * 512 + r) :
    (show FVec Ideal S1x512x1024 .f32 from iblk m c 0 t) (ix3 0 r k)
      = (show FVec Ideal S8x4096x1024 .f32 from m ((c : Thread nD τ).loc main_arg0)) (ix3 b R k) := by
  blk_point [iblk, V, idx t]

theorem blk1 (r : Fin 256) (k : Fin 1024) (b : Fin 8) (hb : (b : ℕ) = t.val / 9) :
    (show FVec Ideal S1x256x1024 .f32 from iblk m c 1 t) (ix3 0 r k)
      = (show FVec Ideal S8x256x1024 .f32 from m ((c : Thread nD τ).loc main_arg1)) (ix3 b r k) := by
  blk_point [iblk, V, idx t]

theorem blk2 (j : Fin 9) (k : Fin 1024) (b : Fin 16) (hb : (b : ℕ) = t.val / 9) :
    (show FVec Ideal S1x9x1024 .f32 from iblk m c 2 t) (ix3 0 j k)
      = (show FVec Ideal S16x9x1024 .f32 from m ((c : Thread nD τ).loc main_arg2)) (ix3 b j k) := by
  blk_point [iblk, V, idx t]

theorem blk3 (j : Fin 9) (k : Fin 1024) :
    (show FVec Ideal S1x9x1024 .f32 from iblk m c 3 t) (ix3 0 j k)
      = (show FVec Ideal S16x9x1024 .f32 from m ((c : Thread nD τ).loc main_arg2)) (ix3 8 j k) := by
  blk_point [iblk, V, idx t]

theorem blk4 (k : Fin 1024) (o : Fin 5632) :
    (show FVec Ideal S1024x5632 .bf16 from iblk m c 4 t) (ix2 k o)
      = (show FVec Ideal S1024x5632 .f32 from m ((c : Thread nD τ).loc main_arg3)) (ix2 k o) := by
  blk_point [iblk, V, idx t]

theorem blk5 (f : Fin 2816) (o : Fin 1024) :
    (show FVec Ideal S2816x1024 .bf16 from iblk m c 5 t) (ix2 f o)
      = (show FVec Ideal S2816x1024 .f32 from m ((c : Thread nD τ).loc main_arg4)) (ix2 f o) := by
  blk_point [iblk, V, idx t]

theorem blk6 (k : Fin 1024) :
    (show FVec Ideal S1x1024 .f32 from iblk m c 6 t) (ix2 0 k)
      = (show FVec Ideal S1024 .f32 from m ((c : Thread nD τ).loc main_arg5)) (ix1 k) := by
  blk_point [iblk, V, idx t]

theorem blk7 (k : Fin 1024) :
    (show FVec Ideal S1x1024 .f32 from iblk m c 7 t) (ix2 0 k)
      = (show FVec Ideal S1024 .f32 from m ((c : Thread nD τ).loc main_arg6)) (ix1 k) := by
  blk_point [iblk, V, idx t]

/-- What a grid point of latent rows stores is its rows of the whole answer. -/
theorem point_lat (h : t.val % 9 ≤ 7) (r : Fin 512) (n : Fin 1024) (b : Fin 8) (R : Fin 4096) (hb : (b : ℕ) = t.val / 9)
    (hR : (R : ℕ) = min (t.val % 9) 7 * 512 + r) :
    outLat m c t h (ix3 0 r n)
      = latResult (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) b R n := by
  have e0 := funext fun k => blk0 m c t r k b R hb hR
  have e2 (j : Fin 9) := funext fun k => blk2 m c t j k ⟨b, by omega⟩ hb
  have e4 := funext fun k => funext fun o => blk4 m c t k o
  have e5 := funext fun k => funext fun o => blk5 m c t k o
  have e6 := funext fun k => blk6 m c t k
  have e7 := funext fun k => blk7 m c t k
  refine (outLat_at m c t h _ _ _ _ _ _ rfl rfl rfl rfl rfl rfl r n).trans ?_
  unfold latResult stepRow
  rw [e0, e2 0, e2 1, e2 2, e4, e5, e6, e7]

/-- What a grid point of context rows stores is its rows of the whole answer. -/
theorem point_ctx (h : t.val % 9 = 8) (r : Fin 256) (n : Fin 1024) (b : Fin 8) (hb : (b : ℕ) = t.val / 9) :
    outCtx m c t h (ix3 0 r n)
      = ctxResult (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) b r n := by
  have e1 := funext fun k => blk1 m c t r k b hb
  have e3 (j : Fin 9) := funext fun k => blk3 m c t j k
  have e4 := funext fun k => funext fun o => blk4 m c t k o
  have e5 := funext fun k => funext fun o => blk5 m c t k o
  have e6 := funext fun k => blk6 m c t k
  have e7 := funext fun k => blk7 m c t k
  refine (outCtx_at m c t h _ _ _ _ _ _ rfl rfl rfl rfl rfl rfl r n).trans ?_
  unfold ctxResult stepRow
  rw [e1, e3 0, e3 1, e3 2, e4, e5, e6, e7]

/-- The latent rows of a point and of the point of latent rows it names are the same. -/
theorem lastLat_rows : (lastLat t).val / 9 = t.val / 9 ∧ min ((lastLat t).val % 9) 7 = min (t.val % 9) 7 := by
  have e : (lastLat t).val = if t.val % 9 = 8 then t.val - 1 else t.val := rfl
  rw [e]
  split <;> omega

/-- The call's array of latent rows. -/
theorem final_lat : (dats m 0 c).arrAt 8 cfg0.N = fun i =>
    latResult (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) (i 0) (i 1) (i 2) := by
  refine (dats m 0 c).arrAt_eq_of_covers 8 _ (by decide +kernel) fun t _ y => ?_
  blk_simp
  rw [after_8]
  obtain ⟨-, -, -, -, -, -, -, -, e, -⟩ := idx t
  have h1 : (((win0_8.blk t).view.emb y) 0 : ℕ) = t.val / 9 := by
    blk_simp [e]
  have h2 : (((win0_8.blk t).view.emb y) 1 : ℕ) = min (t.val % 9) 7 * 512 + (y 1 : ℕ) := by
    blk_simp [e]
  have h3 : (((win0_8.blk t).view.emb y) 2 : ℕ) = (y 2 : ℕ) := by
    blk_simp [e]
  have hy : (show S1x512x1024.Idx from y) = ix3 0 (y 1) (y 2) := by
    funext a
    match a with
    | 0 => exact Fin.ext (Nat.lt_one_iff.mp (show (y 0 : ℕ) < 1 from (y 0).isLt))
    | 1 => rfl
    | 2 => rfl
  obtain ⟨q1, q2⟩ := lastLat_rows t
  refine (congrArg (outLat m c (lastLat t) (lastLat_le t)) hy).trans
    ((point_lat m c (lastLat t) (lastLat_le t) (y 1) (y 2) _ _ (h1.trans q1.symm) (h2.trans (by rw [q2]))).trans ?_)
  exact congrArg _ (Fin.ext h3.symm)

/-- The call's array of context rows. -/
theorem final_ctx : (dats m 0 c).arrAt 9 cfg0.N = fun i =>
    ctxResult (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (i 0) (i 1) (i 2) := by
  refine (dats m 0 c).arrAt_eq_of_covers 9 _ (by decide +kernel) fun t hf y => ?_
  have h := flush_ctx t hf
  blk_simp
  rw [after_9 m c t h]
  obtain ⟨-, -, -, -, -, -, -, -, -, e⟩ := idx t
  have h1 : (((win0_9.blk t).view.emb y) 0 : ℕ) = t.val / 9 := by
    blk_simp [e]
  have h2 : (((win0_9.blk t).view.emb y) 1 : ℕ) = (y 1 : ℕ) := by
    blk_simp [e]
  have h3 : (((win0_9.blk t).view.emb y) 2 : ℕ) = (y 2 : ℕ) := by
    blk_simp [e]
  have hy : (show S1x256x1024.Idx from y) = ix3 0 ((win0_9.blk t).view.emb y 1) (y 2) := by
    funext a
    match a with
    | 0 => exact Fin.ext (Nat.lt_one_iff.mp (show (y 0 : ℕ) < 1 from (y 0).isLt))
    | 1 => exact Fin.ext h2.symm
    | 2 => rfl
  refine (congrArg (outCtx m c t h) hy).trans ((point_ctx m c t h _ (y 2) _ h1).trans ?_)
  exact congrArg _ (Fin.ext h3.symm)

end Cert.Ffn.Ctx

end
-- ==== Proof.FfnCtxRef.lean ====
module

public import proofs.«01_k».proof.Proof.FfnSpec
public import proofs.«01_k».proof.Proof.Gen.Reference3Ideal.Run

/-! The reference of the feed-forward call with context, read at a token: one half step over the sample's latent rows
    followed by its context rows, the first 4096 rows and the last 256 its two results. -/

@[expose] public section

set_option maxRecDepth 16384

noncomputable section

namespace Cert.Ffn.CtxRef

open Idealize.ShloMosaic Idealize.ShloMosaic.TcCoe Idealize.SL.Sem
open Cert.Reference3Ideal Cert.Reference3Ideal.Gen Cert.Reference3Ideal.Value

/-- All token rows of a sample: its latent rows, then its context rows. -/
def rows (a : FVec Ideal S8x4096x1024 .f32) (b : FVec Ideal S8x256x1024 .f32) : FVec Ideal S8x4352x1024 .f32 :=
  concatenate S8x4352x1024 1 [⟨S8x4096x1024, a⟩, ⟨S8x256x1024, b⟩] concatenates_S8x4096x1024_S8x256x1024_S8x4352x1024_d1

theorem rows_lat (a : FVec Ideal S8x4096x1024 .f32) (b : FVec Ideal S8x256x1024 .f32) (s : Fin 8) (r : Fin 4096) (n : Fin 1024) :
    rows a b (ix3 s ⟨r, by omega⟩ n) = a (ix3 s r n) := by
  pointwise [rows]

theorem rows_ctx (a : FVec Ideal S8x4096x1024 .f32) (b : FVec Ideal S8x256x1024 .f32) (s : Fin 8) (r : Fin 256) (n : Fin 1024) :
    rows a b (ix3 s ⟨4096 + r, by omega⟩ n) = b (ix3 s r n) := by
  pointwise [rows]

/-- The shift of every token: entry 0 of its sample's row for a latent token, of row 8 for a context token. -/
def shift (a2 : FVec Ideal S16x9x1024 .f32) : FVec Ideal S8x4352x1024 .f32 :=
  rows (broadcastInDim S8x4096x1024 ![0, 1, 2] bcast_S8x1x1024_S8x4096x1024_0_1_2 (shapeCast _ (shapeCast _ (extractStridedSlice S8x1x1024 ![0, 0, 0] a2 slices_S16x9x1024_S8x1x1024_0_0_0) shapeCasts_S8x1x1024_S8x1024) shapeCasts_S8x1024_S8x1x1024))
    (broadcastInDim S8x256x1024 ![0, 1, 2] bcast_S1x1x1024_S8x256x1024_0_1_2 (shapeCast _ (shapeCast _ (extractStridedSlice S1x1x1024 ![8, 0, 0] a2 slices_S16x9x1024_S1x1x1024_8_0_0) shapeCasts_S1x1x1024_S1x1024) shapeCasts_S1x1024_S1x1x1024))

theorem shift_lat (a2 : FVec Ideal S16x9x1024 .f32) (s : Fin 8) (r : Fin 4096) (n : Fin 1024) :
    shift a2 (ix3 s ⟨r, by omega⟩ n) = a2 (ix3 ⟨s, by omega⟩ 0 n) := by
  refine (rows_lat _ _ s r n).trans ?_
  pointwise

theorem shift_ctx (a2 : FVec Ideal S16x9x1024 .f32) (s : Fin 8) (r : Fin 256) (n : Fin 1024) :
    shift a2 (ix3 s ⟨4096 + r, by omega⟩ n) = a2 (ix3 8 0 n) := by
  refine (rows_ctx _ _ s r n).trans ?_
  pointwise

/-- The scale of every token: entry 1 of its sample's row for a latent token, of row 8 for a context token. -/
def scale (a2 : FVec Ideal S16x9x1024 .f32) : FVec Ideal S8x4352x1024 .f32 :=
  rows (broadcastInDim S8x4096x1024 ![0, 1, 2] bcast_S8x1x1024_S8x4096x1024_0_1_2 (shapeCast _ (shapeCast _ (extractStridedSlice S8x1x1024 ![0, 1, 0] a2 slices_S16x9x1024_S8x1x1024_0_1_0) shapeCasts_S8x1x1024_S8x1024) shapeCasts_S8x1024_S8x1x1024))
    (broadcastInDim S8x256x1024 ![0, 1, 2] bcast_S1x1x1024_S8x256x1024_0_1_2 (shapeCast _ (shapeCast _ (extractStridedSlice S1x1x1024 ![8, 1, 0] a2 slices_S16x9x1024_S1x1x1024_8_1_0) shapeCasts_S1x1x1024_S1x1024) shapeCasts_S1x1024_S1x1x1024))

theorem scale_lat (a2 : FVec Ideal S16x9x1024 .f32) (s : Fin 8) (r : Fin 4096) (n : Fin 1024) :
    scale a2 (ix3 s ⟨r, by omega⟩ n) = a2 (ix3 ⟨s, by omega⟩ 1 n) := by
  refine (rows_lat _ _ s r n).trans ?_
  pointwise

theorem scale_ctx (a2 : FVec Ideal S16x9x1024 .f32) (s : Fin 8) (r : Fin 256) (n : Fin 1024) :
    scale a2 (ix3 s ⟨4096 + r, by omega⟩ n) = a2 (ix3 8 1 n) := by
  refine (rows_ctx _ _ s r n).trans ?_
  pointwise

/-- The gate of every token: entry 2 of its sample's row for a latent token, of row 8 for a context token. -/
def gate (a2 : FVec Ideal S16x9x1024 .f32) : FVec Ideal S8x4352x1024 .f32 :=
  rows (broadcastInDim S8x4096x1024 ![0, 1, 2] bcast_S8x1x1024_S8x4096x1024_0_1_2 (shapeCast _ (shapeCast _ (extractStridedSlice S8x1x1024 ![0, 2, 0] a2 slices_S16x9x1024_S8x1x1024_0_2_0) shapeCasts_S8x1x1024_S8x1024) shapeCasts_S8x1024_S8x1x1024))
    (broadcastInDim S8x256x1024 ![0, 1, 2] bcast_S1x1x1024_S8x256x1024_0_1_2 (shapeCast _ (shapeCast _ (extractStridedSlice S1x1x1024 ![8, 2, 0] a2 slices_S16x9x1024_S1x1x1024_8_2_0) shapeCasts_S1x1x1024_S1x1024) shapeCasts_S1x1024_S1x1x1024))

theorem gate_lat (a2 : FVec Ideal S16x9x1024 .f32) (s : Fin 8) (r : Fin 4096) (n : Fin 1024) :
    gate a2 (ix3 s ⟨r, by omega⟩ n) = a2 (ix3 ⟨s, by omega⟩ 2 n) := by
  refine (rows_lat _ _ s r n).trans ?_
  pointwise

theorem gate_ctx (a2 : FVec Ideal S16x9x1024 .f32) (s : Fin 8) (r : Fin 256) (n : Fin 1024) :
    gate a2 (ix3 s ⟨4096 + r, by omega⟩ n) = a2 (ix3 8 2 n) := by
  refine (rows_ctx _ _ s r n).trans ?_
  pointwise

/-- A number at every entry of the token rows. -/
def num (v : BitVec 32) : FVec Ideal S8x4352x1024 .f32 :=
  broadcastInDim S8x4352x1024 ![] bcast_S_S8x4352x1024 (constant S_ .f32 v)

/-- The first product: the modulated rows with the gate's and the value's columns. -/
def wide (h sh sc : FVec Ideal S8x4352x1024 .f32) (a3 : FVec Ideal S1024x5632 .f32) : FVec Ideal S8x4352x5632 .f32 :=
  Host.dotGeneral dot_S8x4352x1024_S1024x5632_S8x4352x5632_2_0_01_1_n_n none (addf (mulf h (addf (num 0x3F800000#32) sc)) sh) a3

theorem wide_at (h sh sc : FVec Ideal S8x4352x1024 .f32) (a3 : FVec Ideal S1024x5632 .f32) (s : Fin 8) (r : Fin 4352) (o : Fin 5632) :
    wide h sh sc a3 (ix3 s r o)
      = colDot (modRow (fun k => h (ix3 s r k)) (fun k => sh (ix3 s r k)) (fun k => sc (ix3 s r k))) (fun k o => a3 (ix2 k o)) o := by
  pointwise [wide, num, colDot, modRow]

/-- The hidden layer from the first product: the gate's columns through `z / (1 + e^(-z))`, times the value's. -/
def hidden (w : FVec Ideal S8x4352x5632 .f32) : FVec Ideal S8x4352x2816 .f32 :=
  mulf (mulf (extractStridedSlice S8x4352x2816 ![0, 0, 0] w slices_S8x4352x5632_S8x4352x2816_0_0_0)
      (Host.divf (broadcastInDim S8x4352x2816 ![] bcast_S_S8x4352x2816 (constant S_ .f32 0x3F800000#32))
        (addf (broadcastInDim S8x4352x2816 ![] bcast_S_S8x4352x2816 (constant S_ .f32 0x3F800000#32))
          (Host.exp (Host.negf (extractStridedSlice S8x4352x2816 ![0, 0, 0] w slices_S8x4352x5632_S8x4352x2816_0_0_0))))))
    (extractStridedSlice S8x4352x2816 ![0, 0, 2816] w slices_S8x4352x5632_S8x4352x2816_0_0_2816)

theorem hidden_at (w : FVec Ideal S8x4352x5632 .f32) (x : Row) (a3 : FVec Ideal S1024x5632 .f32) (s : Fin 8) (r : Fin 4352)
    (hw : ∀ o, w (ix3 s r o) = colDot x (fun k o => a3 (ix2 k o)) o) (f : Fin 2816) :
    hidden w (ix3 s r f) = swiglu x (fun k o => a3 (ix2 k o)) f := by
  pointwise [hidden, swiglu, hw]
  try rfl

/-- The residual. -/
def resid (h gt : FVec Ideal S8x4352x1024 .f32) (u : FVec Ideal S8x4352x2816 .f32) (a4 : FVec Ideal S2816x1024 .f32) :
    FVec Ideal S8x4352x1024 .f32 :=
  addf (mulf (num 0x3FD744FD#32) h)
    (mulf gt (mulf (num 0x3F000000#32) (Host.dotGeneral dot_S8x4352x2816_S2816x1024_S8x4352x1024_2_0_01_1_n_n none u a4)))

theorem resid_at (h gt : FVec Ideal S8x4352x1024 .f32) (u : FVec Ideal S8x4352x2816 .f32) (a4 : FVec Ideal S2816x1024 .f32)
    (s : Fin 8) (r : Fin 4352) (n : Fin 1024) :
    resid h gt u a4 (ix3 s r n)
      = resRow (fun k => h (ix3 s r k)) (fun k => gt (ix3 s r k))
          (fun n => Ideal.ofBits FTy.f32 0x3F000000#32 * colDot (fun f => u (ix3 s r f)) (fun f o => a4 (ix2 f o)) n) n := by
  pointwise [resid, num, resRow, colDot]

/-- Each row's mean, in one column. -/
def mean (x : FVec Ideal S8x4352x1024 .f32) : FVec Ideal S8x4352x1 .f32 :=
  Host.divf (broadcastInDim S8x4352x1 ![0, 1] bcast_S8x4352_S8x4352x1_0_1
      (Host.reduceAdd x (constant S_ .f32 0x00000000#32) reducesTo_S8x4352x1024_S8x4352_d2 h_S_))
    (broadcastInDim S8x4352x1 ![] bcast_S_S8x4352x1 (constant S_ .f32 0x44800000#32))

theorem mean_at (x : FVec Ideal S8x4352x1024 .f32) (s : Fin 8) (r : Fin 4352) :
    mean x (ix3 s r 0) = Ideal.div (∑ k, x (ix3 s r k)) (Ideal.ofBits FTy.f32 0x44800000#32) := by
  pointwise [mean]

/-- The rows minus their means. -/
def centre (x : FVec Ideal S8x4352x1024 .f32) : FVec Ideal S8x4352x1024 .f32 :=
  subf x (broadcastInDim S8x4352x1024 ![0, 1, 2] bcast_S8x4352x1_S8x4352x1024_0_1_2 (mean x))

theorem centre_at (x : FVec Ideal S8x4352x1024 .f32) (s : Fin 8) (r : Fin 4352) (n : Fin 1024) :
    centre x (ix3 s r n) = centred (fun k => x (ix3 s r k)) n := by
  pointwise [centre, mean_at, centred]

/-- The layer normalisation. -/
def norm (x : FVec Ideal S8x4352x1024 .f32) (a5 a6 : FVec Ideal S1024 .f32) : FVec Ideal S8x4352x1024 .f32 :=
  addf (mulf (mulf (centre x)
        (broadcastInDim S8x4352x1024 ![0, 1, 2] bcast_S8x4352x1_S8x4352x1024_0_1_2
          (Host.rsqrt (addf (mean (mulf (centre x) (centre x)))
            (broadcastInDim S8x4352x1 ![] bcast_S_S8x4352x1 (constant S_ .f32 0x3727C5AC#32))))))
      (broadcastInDim S8x4352x1024 ![0, 1, 2] bcast_S1x1x1024_S8x4352x1024_0_1_2 (broadcastInDim S1x1x1024 ![2] bcast_S1024_S1x1x1024_2 a5)))
    (broadcastInDim S8x4352x1024 ![0, 1, 2] bcast_S1x1x1024_S8x4352x1024_0_1_2 (broadcastInDim S1x1x1024 ![2] bcast_S1024_S1x1x1024_2 a6))

theorem norm_at (x : FVec Ideal S8x4352x1024 .f32) (a5 a6 : FVec Ideal S1024 .f32) (s : Fin 8) (r : Fin 4352) (n : Fin 1024) :
    norm x a5 a6 (ix3 s r n) = lnRow (fun k => x (ix3 s r k)) (fun k => a5 (ix1 k)) (fun k => a6 (ix1 k)) n := by
  pointwise [norm, mean_at, centre_at, lnRow]

/-- The half step of every token. -/
def step (h sh sc gt : FVec Ideal S8x4352x1024 .f32) (a3 : FVec Ideal S1024x5632 .f32) (a4 : FVec Ideal S2816x1024 .f32)
    (a5 a6 : FVec Ideal S1024 .f32) : FVec Ideal S8x4352x1024 .f32 :=
  norm (resid h gt (hidden (wide h sh sc a3)) a4) a5 a6

theorem step_at (h sh sc gt : FVec Ideal S8x4352x1024 .f32) (a3 : FVec Ideal S1024x5632 .f32) (a4 : FVec Ideal S2816x1024 .f32)
    (a5 a6 : FVec Ideal S1024 .f32) (s : Fin 8) (r : Fin 4352) (n : Fin 1024) :
    step h sh sc gt a3 a4 a5 a6 (ix3 s r n)
      = ffnRow (fun k => h (ix3 s r k)) (fun k => sh (ix3 s r k)) (fun k => sc (ix3 s r k)) (fun k => gt (ix3 s r k))
          (fun k => a5 (ix1 k)) (fun k => a6 (ix1 k)) (fun k o => a3 (ix2 k o)) (fun f o => a4 (ix2 f o)) n := by
  unfold step ffnRow
  rw [norm_at]
  refine congrArg (fun v => lnRow v _ _ n) (funext fun k => ?_)
  rw [resid_at]
  refine resRow_congr (fun _ => rfl) (fun _ => rfl) (fun o => ?_) k
  refine congrArg (fun u => Ideal.ofBits FTy.f32 0x3F000000#32 * colDot u _ o) (funext fun f => ?_)
  exact hidden_at _ _ _ s r (wide_at h sh sc a3 s r) f

variable (m : (ℓ : Loc nD τ sig) → Buf (Elt Ideal) ℓ) (c : Dev nD)

/-- The half step of every token of the call's arguments. -/
def whole : FVec Ideal S8x4352x1024 .f32 :=
  step (rows (m ((c : Thread nD τ).loc main_arg0)) (m ((c : Thread nD τ).loc main_arg1))) (shift (m ((c : Thread nD τ).loc main_arg2)))
    (scale (m ((c : Thread nD τ).loc main_arg2))) (gate (m ((c : Thread nD τ).loc main_arg2))) (m ((c : Thread nD τ).loc main_arg3))
    (m ((c : Thread nD τ).loc main_arg4)) (m ((c : Thread nD τ).loc main_arg5)) (m ((c : Thread nD τ).loc main_arg6))

theorem res_lat : res_main_v68 m c = extractStridedSlice S8x4096x1024 ![0, 0, 0] (whole m c) slices_S8x4352x1024_S8x4096x1024_0_0_0 := rfl

theorem res_ctx : res_main_v69 m c = extractStridedSlice S8x256x1024 ![0, 4096, 0] (whole m c) slices_S8x4352x1024_S8x256x1024_0_4096_0 := rfl

/-- The array of latent rows. -/
theorem result_lat : res_main_v68 m c = fun i =>
    latResult (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)) (i 0) (i 1) (i 2) := by
  refine funext fun (i : S8x4096x1024.Idx) => ?_
  obtain ⟨s, r, n, rfl⟩ : ∃ s r n, i = ix3 s r n := ⟨i 0, i 1, i 2, eq_ix3 i⟩
  refine (congrFun (res_lat m c) _).trans ((show _ = whole m c (ix3 s ⟨r, by omega⟩ n) from ?_).trans ?_)
  · generalize whole m c = w
    pointwise
  refine (step_at _ _ _ _ _ _ _ _ s _ n).trans ?_
  simp only [rows_lat, shift_lat, scale_lat, gate_lat]
  rfl

/-- The array of context rows. -/
theorem result_ctx : res_main_v69 m c = fun i =>
    ctxResult (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (i 0) (i 1) (i 2) := by
  refine funext fun (i : S8x256x1024.Idx) => ?_
  obtain ⟨s, r, n, rfl⟩ : ∃ s r n, i = ix3 s r n := ⟨i 0, i 1, i 2, eq_ix3 i⟩
  refine (congrFun (res_ctx m c) _).trans ((show _ = whole m c (ix3 s ⟨4096 + r, by omega⟩ n) from ?_).trans ?_)
  · generalize whole m c = w
    pointwise
  refine (step_at _ _ _ _ _ _ _ _ s _ n).trans ?_
  simp only [rows_ctx, shift_ctx, scale_ctx, gate_ctx]
  rfl

end Cert.Ffn.CtxRef

end
-- ==== Proof.FfnMixSpec.lean ====
module

public import proofs.«01_k».proof.Proof.FfnSpec

/-! The feed-forward half step that first closes the token mixing: the two halves of the mixing output are projected, added
    to the residual and normalised, and the half step follows. One token row at a time, over the extended reals. -/

@[expose] public section

noncomputable section

namespace Cert.Ffn

open Idealize.ShloMosaic

/-- The half step of the mixed row of `h`, whose modulation is row `s` of the table `a5`: entry 5 gates the mixing, entries
    6, 7 and 8 belong to the feed-forward. -/
def mixStepRow (h : Row) (d r : Fin 512 → EReal) (a5 : FVec Ideal ⟨3, ![16, 9, 1024]⟩ .f32) (s : Fin 16)
    (a6 a7 : FVec Ideal ⟨1, ![1024]⟩ .f32) (a8 : FVec Ideal ⟨2, ![1024, 1024]⟩ .f32)
    (a9 : FVec Ideal ⟨2, ![1024, 5632]⟩ .f32) (a10 : FVec Ideal ⟨2, ![2816, 1024]⟩ .f32)
    (a11 a12 : FVec Ideal ⟨1, ![1024]⟩ .f32) : Row :=
  ffnRow (mixRow h (fun k => a5 (ix3 s 5 k)) (fun k => a6 (ix1 k)) (fun k => a7 (ix1 k)) d r (fun k o => a8 (ix2 k o)))
    (fun k => a5 (ix3 s 6 k)) (fun k => a5 (ix3 s 7 k)) (fun k => a5 (ix3 s 8 k))
    (fun k => a11 (ix1 k)) (fun k => a12 (ix1 k)) (fun k o => a9 (ix2 k o)) (fun f o => a10 (ix2 f o))

/-- Latent token `r` of sample `b`: its row of the second half is row `r` of the joint array `a4`, its modulation the
    sample's. -/
def mixLatResult (a0 : FVec Ideal ⟨3, ![8, 4096, 1024]⟩ .f32) (a2 : FVec Ideal ⟨3, ![8, 4096, 512]⟩ .bf16)
    (a4 : FVec Ideal ⟨3, ![8, 4352, 512]⟩ .bf16) (a5 : FVec Ideal ⟨3, ![16, 9, 1024]⟩ .f32)
    (a6 a7 : FVec Ideal ⟨1, ![1024]⟩ .f32) (a8 : FVec Ideal ⟨2, ![1024, 1024]⟩ .f32)
    (a9 : FVec Ideal ⟨2, ![1024, 5632]⟩ .f32) (a10 : FVec Ideal ⟨2, ![2816, 1024]⟩ .f32)
    (a11 a12 : FVec Ideal ⟨1, ![1024]⟩ .f32) (b : Fin 8) (r : Fin 4096) : Row :=
  mixStepRow (fun k => a0 (ix3 b r k)) (fun k => a2 (ix3 b r k)) (fun k => a4 (ix3 b ⟨r, by omega⟩ k)) a5 ⟨b, by omega⟩
    a6 a7 a8 a9 a10 a11 a12

/-- Context token `r` of sample `b`: its row of the second half is row `4096 + r` of the joint array `a4`, its modulation
    the table's row 8. -/
def mixCtxResult (a1 : FVec Ideal ⟨3, ![8, 256, 1024]⟩ .f32) (a3 : FVec Ideal ⟨3, ![8, 256, 512]⟩ .bf16)
    (a4 : FVec Ideal ⟨3, ![8, 4352, 512]⟩ .bf16) (a5 : FVec Ideal ⟨3, ![16, 9, 1024]⟩ .f32)
    (a6 a7 : FVec Ideal ⟨1, ![1024]⟩ .f32) (a8 : FVec Ideal ⟨2, ![1024, 1024]⟩ .f32)
    (a9 : FVec Ideal ⟨2, ![1024, 5632]⟩ .f32) (a10 : FVec Ideal ⟨2, ![2816, 1024]⟩ .f32)
    (a11 a12 : FVec Ideal ⟨1, ![1024]⟩ .f32) (b : Fin 8) (r : Fin 256) : Row :=
  mixStepRow (fun k => a1 (ix3 b r k)) (fun k => a3 (ix3 b r k)) (fun k => a4 (ix3 b ⟨4096 + r, by omega⟩ k)) a5 8
    a6 a7 a8 a9 a10 a11 a12

end Cert.Ffn

end
-- ==== Proof.FfnMixRun.lean ====
module

public import proofs.«01_k».proof.Proof.Gen.Kernel4Ideal.Frame
public import proofs.«01_k».proof.Proof.Gen.Kernel4Ideal.Skeleton

/-! One grid point of the feed-forward call with context and mixing, run on any staging memrefs, over any float values. -/

@[expose] public section

set_option maxRecDepth 16384

noncomputable section

namespace Cert.Ffn.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal Cert.Kernel4Ideal.Gen

variable {F : FTy → Type} [FloatOps F]

/-- The grid point works on latent rows: the condition of the body's first `scf.if`. -/
abbrev latAt (i : grid0.Coords) : Prop := k0_cond1 i = 1#1

/-- The grid point works on context rows: the condition of the body's second `scf.if`. -/
abbrev ctxAt (i : grid0.Coords) : Prop := k0_cond2 i = 1#1

set_option maxHeartbeats 2000000 in
/-- A point of latent rows: the body fills the latent output and leaves the context output as it finds it. The pieces written to the output and
    to the scratch are the ones the run finds. -/
def runLat (c : Dev nD) (i : grid0.Coords)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1x256x1024 .f32) (harg5 : arg5.IsWhole)
    (arg6 : Memref sig .tc .vmem S1x256x512 .bf16) (harg6 : arg6.IsWhole)
    (arg7 : Memref sig .tc .vmem S1x256x512 .bf16) (harg7 : arg7.IsWhole)
    (arg8 : Memref sig .tc .vmem S1x9x1024 .f32) (harg8 : arg8.IsWhole)
    (arg9 : Memref sig .tc .vmem S1x9x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1024x5632 .bf16) (harg14 : arg14.IsWhole)
    (arg15 : Memref sig .tc .vmem S2816x1024 .bf16) (harg15 : arg15.IsWhole)
    (arg16 : Memref sig .tc .vmem S1x1024 .f32) (harg16 : arg16.IsWhole)
    (arg17 : Memref sig .tc .vmem S1x1024 .f32) (harg17 : arg17.IsWhole)
    (arg18 : Memref sig .tc .vmem S1x512x1024 .f32) (harg18 : arg18.IsWhole)
    (arg19 : Memref sig .tc .vmem S1x256x1024 .f32) (harg19 : arg19.IsWhole)
    (arg20 : Memref sig .tc .vmem S512x2816 .bf16) (harg20 : arg20.IsWhole)
    (hc0 : latAt i) (hc1 : ¬ctxAt i)
    (x0 : Vec F S1x512x1024 .f32) (x1 : Vec F S1x512x512 .bf16) (x2 : Vec F S1x512x512 .bf16) (x3 : Vec F S1x256x1024 .f32)
    (x4 : Vec F S1x256x512 .bf16) (x5 : Vec F S1x256x512 .bf16) (x6 : Vec F S1x9x1024 .f32) (x7 : Vec F S1x9x1024 .f32)
    (x8 : Vec F S512x1024 .bf16) (x9 : Vec F S512x1024 .bf16) (x10 : Vec F S1x1024 .f32) (x11 : Vec F S1x1024 .f32)
    (x12 : Vec F S1024x5632 .bf16) (x13 : Vec F S2816x1024 .bf16) (x14 : Vec F S1x1024 .f32) (x15 : Vec F S1x1024 .f32) :
    Σ' (L : List (View.Piece (Elt F) S1x512x1024 .f32)), { LT : List (View.Piece (Elt F) S512x2816 .bf16) //
      ∀ (y : Vec F S1x256x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare y ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L) ∗ owns (c : Thread nD τ) arg19 fullShare y
              ∗ (∃ f, arg20.view.loc (c : Thread nD τ) ↦[arg20.view.set]{fullShare} arg20.view.writes (Elt F) f LT)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun y E K => ?run⟩
  case run =>
    simp only [cc0_ffn_half_step_eq_skeleton]; unfold cc0_ffn_half_step_skel
    simp only [k0_part1_eq_skeleton, k0_part2_eq_skeleton, k0_part3_eq_skeleton, k0_part4_eq_skeleton, k0_part5_eq_skeleton, k0_part6_eq_skeleton]
    generalize (owns (c : Thread nD τ) arg19 fullShare y : sProp (MT nD τ sig Unit (Elt F) ℕ (UR sig nD τ) ℕ)) = kept
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, H17, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexact H17
    iexists _; iexact HS

set_option maxHeartbeats 2000000 in
/-- A point of context rows: the body fills the context output and leaves the latent output as it finds it. The pieces written to the output and
    to the scratch are the ones the run finds. -/
def runCtx (c : Dev nD) (i : grid0.Coords)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1x256x1024 .f32) (harg5 : arg5.IsWhole)
    (arg6 : Memref sig .tc .vmem S1x256x512 .bf16) (harg6 : arg6.IsWhole)
    (arg7 : Memref sig .tc .vmem S1x256x512 .bf16) (harg7 : arg7.IsWhole)
    (arg8 : Memref sig .tc .vmem S1x9x1024 .f32) (harg8 : arg8.IsWhole)
    (arg9 : Memref sig .tc .vmem S1x9x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1024x5632 .bf16) (harg14 : arg14.IsWhole)
    (arg15 : Memref sig .tc .vmem S2816x1024 .bf16) (harg15 : arg15.IsWhole)
    (arg16 : Memref sig .tc .vmem S1x1024 .f32) (harg16 : arg16.IsWhole)
    (arg17 : Memref sig .tc .vmem S1x1024 .f32) (harg17 : arg17.IsWhole)
    (arg18 : Memref sig .tc .vmem S1x512x1024 .f32) (harg18 : arg18.IsWhole)
    (arg19 : Memref sig .tc .vmem S1x256x1024 .f32) (harg19 : arg19.IsWhole)
    (arg20 : Memref sig .tc .vmem S512x2816 .bf16) (harg20 : arg20.IsWhole)
    (hc0 : ¬latAt i) (hc1 : ctxAt i)
    (x0 : Vec F S1x512x1024 .f32) (x1 : Vec F S1x512x512 .bf16) (x2 : Vec F S1x512x512 .bf16) (x3 : Vec F S1x256x1024 .f32)
    (x4 : Vec F S1x256x512 .bf16) (x5 : Vec F S1x256x512 .bf16) (x6 : Vec F S1x9x1024 .f32) (x7 : Vec F S1x9x1024 .f32)
    (x8 : Vec F S512x1024 .bf16) (x9 : Vec F S512x1024 .bf16) (x10 : Vec F S1x1024 .f32) (x11 : Vec F S1x1024 .f32)
    (x12 : Vec F S1024x5632 .bf16) (x13 : Vec F S2816x1024 .bf16) (x14 : Vec F S1x1024 .f32) (x15 : Vec F S1x1024 .f32) :
    Σ' (L : List (View.Piece (Elt F) S1x256x1024 .f32)), { LT : List (View.Piece (Elt F) S512x2816 .bf16) //
      ∀ (y : Vec F S1x512x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare y ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare y ∗ (∃ f, arg19.view.loc (c : Thread nD τ) ↦[arg19.view.set]{fullShare} arg19.view.writes (Elt F) f L)
              ∗ (∃ f, arg20.view.loc (c : Thread nD τ) ↦[arg20.view.set]{fullShare} arg20.view.writes (Elt F) f LT)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun y E K => ?run⟩
  case run =>
    simp only [cc0_ffn_half_step_eq_skeleton]; unfold cc0_ffn_half_step_skel
    simp only [k0_part7_eq_skeleton, k0_part8_eq_skeleton, k0_part9_eq_skeleton, k0_part10_eq_skeleton, k0_part11_eq_skeleton, k0_part12_eq_skeleton]
    generalize (owns (c : Thread nD τ) arg18 fullShare y : sProp (MT nD τ sig Unit (Elt F) ℕ (UR sig nD τ) ℕ)) = kept
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, H16, ⟨%d17, %f17, -, H17⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexact H16
    isplitl [H17]; · iexists _; iexact H17
    iexists _; iexact HS

end Cert.Ffn.Mix

end
-- ==== Proof.FfnMixFrame.lean ====
module

public import proofs.«01_k».proof.Proof.FfnMixRun
public import Idealize.ShloMosaic.Lib.Claim
public import Idealize.ShloMosaic.Lib.Pipeline.TableIdle
public import Idealize.ShloMosaic.Lib.Pipeline.FrameBody
public import Idealize.ShloMosaic.Lib.WordCmp

/-! The whole run of the feed-forward call with context and mixing, over any float values: every execution ends, the inputs keep their contents, and the two
    outputs hold what the grid points leave. The latent output's last block of a sample is written back one point after the
    point that fills it, at the point of context rows. -/

@[expose] public section

set_option maxRecDepth 16384

noncomputable section

namespace Cert.Ffn.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal Cert.Kernel4Ideal.Gen

variable {F : FTy → Type} [FloatOps F]

variable (m : (ℓ : Loc nD τ sig) → Buf (Elt F) ℓ) (ρ : Dev nD → PrngReg) (c : Dev nD) (t : Fin cfg0.N)

theorem lat_iff : latAt (grid0.coords t) ↔ t.val % 9 ≤ 7 :=
  (by decide +kernel : ∀ t : Fin grid0.N, latAt (grid0.coords t) ↔ t.val % 9 ≤ 7) t

theorem ctx_iff : ctxAt (grid0.coords t) ↔ t.val % 9 = 8 :=
  (by decide +kernel : ∀ t : Fin grid0.N, ctxAt (grid0.coords t) ↔ t.val % 9 = 8) t

/-- The pieces the body writes to the latent output at point `t`. -/
def outLatPieces (h : t.val % 9 ≤ 7) : List (View.Piece (Elt F) S1x512x1024 .f32) :=
  (runLat c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17))
    (Memref.whole cc0_scratch0) (Memref.isWhole_whole _)
    ((lat_iff t).mpr h) (fun h' => absurd ((ctx_iff t).mp h') (by omega))
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).1

/-- They fill the block. -/
theorem outLat_cover (h : t.val % 9 ≤ 7) (y : S1x512x1024.Idx) : ∃ pc ∈ outLatPieces m c t h, y ∈ pc.1.set :=
  View.cover_of_tiledL (outLatPieces m c t h) S1x512x1024.size (by sl_kernel_rfl) y

/-- What the latent output's staging buffer holds after point `t`. -/
def outLat (h : t.val % 9 ≤ 7) : Vec F S1x512x1024 .f32 :=
  (Memref.whole cc0_stg16_0 : Memref sig .tc .vmem S1x512x1024 .f32).view.read (Elt F)
    ((Memref.whole cc0_stg16_0 : Memref sig .tc .vmem S1x512x1024 .f32).view.writes (Elt F)
      (Memref.whole cc0_stg16_0 : Memref sig .tc .vmem S1x512x1024 .f32).view.junk (outLatPieces m c t h))

/-- The pieces the body writes to the context output at point `t`. -/
def outCtxPieces (h : t.val % 9 = 8) : List (View.Piece (Elt F) S1x256x1024 .f32) :=
  (runCtx c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17))
    (Memref.whole cc0_scratch0) (Memref.isWhole_whole _)
    (fun h' => absurd ((lat_iff t).mp h') (by omega)) ((ctx_iff t).mpr h)
    (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).1

/-- They fill the block. -/
theorem outCtx_cover (h : t.val % 9 = 8) (y : S1x256x1024.Idx) : ∃ pc ∈ outCtxPieces m c t h, y ∈ pc.1.set :=
  View.cover_of_tiledL (outCtxPieces m c t h) S1x256x1024.size (by sl_kernel_rfl) y

/-- What the context output's staging buffer holds after point `t`. -/
def outCtx (h : t.val % 9 = 8) : Vec F S1x256x1024 .f32 :=
  (Memref.whole cc0_stg17_0 : Memref sig .tc .vmem S1x256x1024 .f32).view.read (Elt F)
    ((Memref.whole cc0_stg17_0 : Memref sig .tc .vmem S1x256x1024 .f32).view.writes (Elt F)
      (Memref.whole cc0_stg17_0 : Memref sig .tc .vmem S1x256x1024 .f32).view.junk (outCtxPieces m c t h))

/-- The last point of latent rows up to `t`. -/
def lastLat : Fin cfg0.N := ⟨if t.val % 9 = 8 then t.val - 1 else t.val, by have := t.isLt; split <;> omega⟩

theorem lastLat_le : (lastLat t).val % 9 ≤ 7 := by
  show (if t.val % 9 = 8 then t.val - 1 else t.val) % 9 ≤ 7
  split <;> omega

/-- The proof data: each input's buffer keeps its block, the latent output's holds what the last point of latent rows
    left, the context output's what its point leaves (at the other points nothing reads it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outLat m c (lastLat t) (lastLat_le t)
    | ⟨17, _⟩ => if h : t.val % 9 = 8 then outCtx m c t h else iblk m c 3 t
    | ⟨n + 18, h⟩ => absurd h (by show ¬n + 18 < 18; omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = X0_2 m c t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = iblk m c 14 t := by dsimp only [dats]
theorem after_15 : (dats m 0 c).after 15 t = iblk m c 15 t := by dsimp only [dats]
theorem after_16 : (dats m 0 c).after 16 t = outLat m c (lastLat t) (lastLat_le t) := by dsimp only [dats]
theorem after_17 (h : t.val % 9 = 8) : (dats m 0 c).after 17 t = outCtx m c t h := by
  dsimp only [dats]; exact dif_pos h

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = X0_2 m c t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d
theorem before_10 (d) : (dats m 0 c).before 10 t d = iblk m c 10 t :=
  before0_10_of m (dats m 0 c) (A_eq m c 10) (after_10 m c) t d
theorem before_11 (d) : (dats m 0 c).before 11 t d = iblk m c 11 t :=
  before0_11_of m (dats m 0 c) (A_eq m c 11) (after_11 m c) t d
theorem before_12 (d) : (dats m 0 c).before 12 t d = iblk m c 12 t :=
  before0_12_of m (dats m 0 c) (A_eq m c 12) (after_12 m c) t d
theorem before_13 (d) : (dats m 0 c).before 13 t d = iblk m c 13 t :=
  before0_13_of m (dats m 0 c) (A_eq m c 13) (after_13 m c) t d
theorem before_14 (d) : (dats m 0 c).before 14 t d = iblk m c 14 t :=
  before0_14_of m (dats m 0 c) (A_eq m c 14) (after_14 m c) t d
theorem before_15 (d) : (dats m 0 c).before 15 t d = iblk m c 15 t :=
  before0_15_of m (dats m 0 c) (A_eq m c 15) (after_15 m c) t d

theorem leaves_0 : (dats m 0 c).leavesExact 0 t = owns (c : Thread nD τ) ((cfg0.win 0).stage (cfg0.slots t 0)) fullShare (iblk m c 0 t) := by
  unfold Dat.leavesExact; rw [show cfg0.idle 0 (cfg0.grid.coords t) = false from rfl, after_0]
theorem leaves_1 : (dats m 0 c).leavesExact 1 t = owns (c : Thread nD τ) ((cfg0.win 1).stage (cfg0.slots t 1)) fullShare (iblk m c 1 t) := by
  unfold Dat.leavesExact; rw [show cfg0.idle 1 (cfg0.grid.coords t) = false from rfl, after_1]
theorem leaves_2 : (dats m 0 c).leavesExact 2 t = owns (c : Thread nD τ) ((cfg0.win 2).stage (cfg0.slots t 2)) fullShare (X0_2 m c t) := by
  unfold Dat.leavesExact; rw [show cfg0.idle 2 (cfg0.grid.coords t) = false from rfl, after_2]
theorem leaves_3 : (dats m 0 c).leavesExact 3 t = owns (c : Thread nD τ) ((cfg0.win 3).stage (cfg0.slots t 3)) fullShare (iblk m c 3 t) := by
  unfold Dat.leavesExact; rw [show cfg0.idle 3 (cfg0.grid.coords t) = false from rfl, after_3]
theorem leaves_4 : (dats m 0 c).leavesExact 4 t = owns (c : Thread nD τ) ((cfg0.win 4).stage (cfg0.slots t 4)) fullShare (iblk m c 4 t) := by
  unfold Dat.leavesExact; rw [show cfg0.idle 4 (cfg0.grid.coords t) = false from rfl, after_4]
theorem leaves_5 : (dats m 0 c).leavesExact 5 t = owns (c : Thread nD τ) ((cfg0.win 5).stage (cfg0.slots t 5)) fullShare (iblk m c 5 t) := by
  unfold Dat.leavesExact; rw [show cfg0.idle 5 (cfg0.grid.coords t) = false from rfl, after_5]
theorem leaves_6 : (dats m 0 c).leavesExact 6 t = owns (c : Thread nD τ) ((cfg0.win 6).stage (cfg0.slots t 6)) fullShare (iblk m c 6 t) := by
  unfold Dat.leavesExact; rw [show cfg0.idle 6 (cfg0.grid.coords t) = false from rfl, after_6]
theorem leaves_7 : (dats m 0 c).leavesExact 7 t = owns (c : Thread nD τ) ((cfg0.win 7).stage (cfg0.slots t 7)) fullShare (iblk m c 7 t) := by
  unfold Dat.leavesExact; rw [show cfg0.idle 7 (cfg0.grid.coords t) = false from rfl, after_7]
theorem leaves_8 : (dats m 0 c).leavesExact 8 t = owns (c : Thread nD τ) ((cfg0.win 8).stage (cfg0.slots t 8)) fullShare (iblk m c 8 t) := by
  unfold Dat.leavesExact; rw [show cfg0.idle 8 (cfg0.grid.coords t) = false from rfl, after_8]
theorem leaves_9 : (dats m 0 c).leavesExact 9 t = owns (c : Thread nD τ) ((cfg0.win 9).stage (cfg0.slots t 9)) fullShare (iblk m c 9 t) := by
  unfold Dat.leavesExact; rw [show cfg0.idle 9 (cfg0.grid.coords t) = false from rfl, after_9]
theorem leaves_10 : (dats m 0 c).leavesExact 10 t = owns (c : Thread nD τ) ((cfg0.win 10).stage (cfg0.slots t 10)) fullShare (iblk m c 10 t) := by
  unfold Dat.leavesExact; rw [show cfg0.idle 10 (cfg0.grid.coords t) = false from rfl, after_10]
theorem leaves_11 : (dats m 0 c).leavesExact 11 t = owns (c : Thread nD τ) ((cfg0.win 11).stage (cfg0.slots t 11)) fullShare (iblk m c 11 t) := by
  unfold Dat.leavesExact; rw [show cfg0.idle 11 (cfg0.grid.coords t) = false from rfl, after_11]
theorem leaves_12 : (dats m 0 c).leavesExact 12 t = owns (c : Thread nD τ) ((cfg0.win 12).stage (cfg0.slots t 12)) fullShare (iblk m c 12 t) := by
  unfold Dat.leavesExact; rw [show cfg0.idle 12 (cfg0.grid.coords t) = false from rfl, after_12]
theorem leaves_13 : (dats m 0 c).leavesExact 13 t = owns (c : Thread nD τ) ((cfg0.win 13).stage (cfg0.slots t 13)) fullShare (iblk m c 13 t) := by
  unfold Dat.leavesExact; rw [show cfg0.idle 13 (cfg0.grid.coords t) = false from rfl, after_13]
theorem leaves_14 : (dats m 0 c).leavesExact 14 t = owns (c : Thread nD τ) ((cfg0.win 14).stage (cfg0.slots t 14)) fullShare (iblk m c 14 t) := by
  unfold Dat.leavesExact; rw [show cfg0.idle 14 (cfg0.grid.coords t) = false from rfl, after_14]
theorem leaves_15 : (dats m 0 c).leavesExact 15 t = owns (c : Thread nD τ) ((cfg0.win 15).stage (cfg0.slots t 15)) fullShare (iblk m c 15 t) := by
  unfold Dat.leavesExact; rw [show cfg0.idle 15 (cfg0.grid.coords t) = false from rfl, after_15]

theorem outLat_congr (s s' : Fin cfg0.N) (e : s = s') (h : s.val % 9 ≤ 7) (h' : s'.val % 9 ≤ 7) :
    outLat m c s h = outLat m c s' h' := by
  subst e; rfl

theorem lastLat_of_lat (h : t.val % 9 ≤ 7) : lastLat t = t :=
  Fin.ext (if_neg (by omega))

/-- A point of latent rows names its own block. -/
theorem after_lat (h : t.val % 9 ≤ 7) : (dats m 0 c).after 16 t = outLat m c t h :=
  (after_16 m c t).trans (outLat_congr m c _ _ (lastLat_of_lat t h) _ _)

/-- The point of context rows names the block of the point before it. -/
theorem after_carry (h : t.val % 9 = 8) : (dats m 0 c).after 16 t = (dats m 0 c).after 16 ⟨t.val - 1, by omega⟩ := by
  rw [after_16, after_16]
  refine outLat_congr m c _ _ (Fin.ext ?_) _ _
  show (if t.val % 9 = 8 then t.val - 1 else t.val) = if (t.val - 1) % 9 = 8 then t.val - 1 - 1 else t.val - 1
  rw [if_pos h, if_neg (by omega)]

/-- Where the latent output's window is idle. -/
theorem idle_lat : cfg0.idle 16 (grid0.coords t) = true ↔ t.val % 9 = 8 :=
  (by decide +kernel : ∀ t : Fin grid0.N, idle0 16 (grid0.coords t) = true ↔ t.val % 9 = 8) t

/-- Where the context output's window is idle. -/
theorem idle_ctx : cfg0.idle 17 (grid0.coords t) = true ↔ t.val % 9 ≤ 7 :=
  (by decide +kernel : ∀ t : Fin grid0.N, idle0 17 (grid0.coords t) = true ↔ t.val % 9 ≤ 7) t

/-- At which points the latent output's window is written back. -/
theorem flush_lat : (cfg0.win 16).flush t = true ↔ t.val % 9 ≠ 7 :=
  (by decide +kernel : ∀ t : Fin grid0.N, win0_16.flush t = true ↔ t.val % 9 ≠ 7) t

/-- The latent output's buffer holds nothing of its block except at the points of context rows. -/
theorem fresh_lat (n : ℕ) (hn : n ≤ cfg0.N) : cfg0.fresh 16 n = !decide (n % 9 = 8) := by
  refine cfg0.fresh_tab 16 (fun n => !decide (n % 9 = 8)) rfl (fun t => ?_) n hn
  rw [Bool.eq_iff_iff, Bool.or_eq_true, Bool.and_eq_true, flush_lat, idle_lat]
  simp only [Bool.not_eq_true', decide_eq_false_iff_not]
  omega

theorem ctxAt_before_lat (h : t.val % 9 = 8) (d) : (dats m 0 c).before 16 t d = (dats m 0 c).after 16 t := by
  refine ((dats m 0 c).before_out_traj 16 rfl (fun _ _ => rfl) (fun t _ hi _ => after_carry m c t ((idle_lat t).mp hi)) _ t rfl d).trans ?_
  rw [after_carry m c t h, fresh_lat _ t.isLt.le, h]
  rfl

theorem latAt_leaves_lat (h : t.val % 9 ≤ 7) :
    (dats m 0 c).leavesExact 16 t = owns (c : Thread nD τ) ((cfg0.win 16).stage (cfg0.slots t 16)) fullShare (outLat m c t h) := by
  unfold Dat.leavesExact
  rw [show cfg0.idle 16 (cfg0.grid.coords t) = false from Bool.eq_false_iff.mpr fun hi => by have := (idle_lat t).mp hi; omega,
    after_lat m c t h]

theorem latAt_leaves_ctx (h : t.val % 9 ≤ 7) :
    (dats m 0 c).leavesExact 17 t
      = iprop(∃ d, owns (c : Thread nD τ) ((cfg0.win 17).stage (cfg0.slots t 17)) fullShare ((dats m 0 c).before 17 t d)) :=
  (dats m 0 c).leavesExact_idle 17 t ((idle_ctx t).mpr h)
    (Bool.eq_false_iff.mpr fun hf => by have := (flush0_17 t).mp hf; omega)

theorem ctxAt_leaves_lat (h : t.val % 9 = 8) :
    (dats m 0 c).leavesExact 16 t = owns (c : Thread nD τ) ((cfg0.win 16).stage (cfg0.slots t 16)) fullShare ((dats m 0 c).after 16 t) := by
  unfold Dat.leavesExact
  rw [show cfg0.idle 16 (cfg0.grid.coords t) = true from (idle_lat t).mpr h,
    show (cfg0.win 16).flush t = true from (flush_lat t).mpr (by omega)]

theorem ctxAt_leaves_ctx (h : t.val % 9 = 8) :
    (dats m 0 c).leavesExact 17 t = owns (c : Thread nD τ) ((cfg0.win 17).stage (cfg0.slots t 17)) fullShare (outCtx m c t h) := by
  unfold Dat.leavesExact
  rw [show cfg0.idle 17 (cfg0.grid.coords t) = false from Bool.eq_false_iff.mpr fun hi => by have := (idle_ctx t).mp hi; omega,
    after_17 m c t h]

/-- The invariant between points: the scratch at some contents, and the generator register. -/
theorem inv_eq : (Pipeline.ΦA spec0 c : sProp (MT nD τ sig Unit (Elt F) ℕ (UR sig nD τ) ℕ))
    = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d)))

/-- and what it returns. -/
def bodyPost : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 2000000 in
/-- The body at a point of latent rows. -/
theorem sound_lat (h : t.val % 9 ≤ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.castSucc = Pipeline.ΦA spec0 c from rfl, show (dats m 0 c).Φ t.succ = Pipeline.ΦA spec0 c from rfl, inv_eq,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, latAt_leaves_lat m c t h, latAt_leaves_ctx m c t h]
  unfold outLat outLatPieces
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runLat c (grid0.coords t) _ _ _ _ _ _ _ _ _ _ _ _ _ _ _ _ _ _ _ _ _ _ _ _ _ _ _ _ _ _ _ _ _ _ _ _ _ _ ((lat_iff t).mpr h) (fun h' => absurd ((ctx_iff t).mp h') (by omega)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [HS]; · iexact HS
  iintro ⟨H0, H1, H2, H3, H4, H5, H6, H7, H8, H9, H10, H11, H12, H13, H14, H15, ⟨%e, H16⟩, H17, ⟨%fT, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (outLat_cover m c t h)
  iexists _; iexact H17

set_option maxHeartbeats 2000000 in
/-- The body at a point of context rows. -/
theorem sound_ctx (h : t.val % 9 = 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, ctxAt_before_lat m c t h]
  rw [show (dats m 0 c).Φ t.castSucc = Pipeline.ΦA spec0 c from rfl, show (dats m 0 c).Φ t.succ = Pipeline.ΦA spec0 c from rfl, inv_eq,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, ctxAt_leaves_lat m c t h, ctxAt_leaves_ctx m c t h]
  unfold outCtx outCtxPieces
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runCtx c (grid0.coords t) _ _ _ _ _ _ _ _ _ _ _ _ _ _ _ _ _ _ _ _ _ _ _ _ _ _ _ _ _ _ _ _ _ _ _ _ _ _ (fun h' => absurd ((lat_iff t).mp h') (by omega)) ((ctx_iff t).mpr h) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS]; · iexact HS
  iintro ⟨H0, H1, H2, H3, H4, H5, H6, H7, H8, H9, H10, H11, H12, H13, H14, H15, H16, ⟨%e, H17⟩, ⟨%fT, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; exact View.read_writes_of_cover _ _ _ _ _ (outCtx_cover m c t h)

/-- The body at any point. -/
theorem sound_body :
    bodyPre m c t ⊢ wp frame (wpE (defs₀ (F := F)) Variants.none c none) Set.univ (bodyAt0 t) (fun _ => bodyPost m c t) :=
  if h : t.val % 9 = 8 then sound_ctx m c t h else sound_lat m c t (by omega)

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

set_option backward.isDefEq.respectTransparency.types false in
/-- Every execution ends with each array of the pipeline at what the proof data say, every other buffer as it was, and
    every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run in the claims' words: the two results are the pipeline's arrays, the arguments unchanged, every semaphore
    counter at zero. -/
theorem run_ends : θ_run defs (onTc (τ := τ) (main (F := F))) ⟨m, fun _ => 0, ρ⟩ (fun r => (∀ c : Dev nD,
      r.2.mem ((c.tc : Thread nD τ).loc main_v10_0) = (dats m 0 c).arrAt 16 cfg0.N
      ∧ r.2.mem ((c.tc : Thread nD τ).loc main_v10_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h.2.1 c).1 16, (h.2.1 c).1 17, h.1 c⟩, h.2.2⟩)
    (θ_run_and (frame_of m ρ (dats m) (A_eq m) ((θ_run defs _ _).mono (fun _ h => h.1) (run_main m ρ))) (run_main m ρ))

/-- The arguments unchanged, every semaphore counter at zero: the frame, at any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => (h.1 c).2.2, h.2⟩) (run_ends m ρ)

end Cert.Ffn.Mix

end
-- ==== Proof.FfnMixPay.lean ====
module

public import proofs.«01_k».proof.Proof.FfnMixSpec
public import proofs.«01_k».proof.Proof.FfnMixFrame

/-! What one grid point of the feed-forward call with context and mixing computes: row `r` of the block it writes is the half step of
    the mixed row `r` of its input blocks, with the modulation rows of its sample at a point of latent rows and of the shared
    row at a point of context rows. -/

@[expose] public section

set_option maxRecDepth 16384

noncomputable section

namespace Cert.Ffn.Mix

open Idealize.ShloMosaic Idealize.ShloMosaic.TcCoe Idealize.SL.Sem
open Cert.Kernel4Ideal Cert.Kernel4Ideal.Gen

/-- The stored latent block is the layer normalisation of the residual. -/
theorem pay1_at (v : FVec Ideal S512x1024 .f32) (g b : Vec Ideal S1x1024 .f32) (r : Fin 512) (n : Fin 1024) :
    k0_pay1 (F := Ideal) v (k0_pay27 g) b (ix3 0 r n)
      = lnRow (fun k => v (ix2 r k)) (fun k => g (ix2 0 k)) (fun k => b (ix2 0 k)) n := by
  pointwise [k0_pay1, k0_pay27, lnRow, centred]

/-- The first residual, centred. -/
theorem pay5_at (x0 : Vec Ideal S1x512x1024 .f32) (gm : Vec Ideal S1x1x1024 .f32) (x1 : Vec Ideal S1x512x512 .bf16)
    (w1 : Vec Ideal S512x1024 .bf16) (x2 : Vec Ideal S1x512x512 .bf16) (w2 : Vec Ideal S512x1024 .bf16)
    (r : Fin 512) (n : Fin 1024) :
    k0_pay5 (F := Ideal) x0 gm x1 w1 x2 w2 (ix2 r n)
      = centred (resRow (fun k => x0 (ix3 0 r k)) (fun k => gm (ix3 0 0 k)) fun o =>
          colDot (fun k => x1 (ix3 0 r k)) (fun k o => w1 (ix2 k o)) o
            + colDot (fun k => x2 (ix3 0 r k)) (fun k o => w2 (ix2 k o)) o) n := by
  pointwise [k0_pay5, centred, resRow, colDot]

/-- The row's sum of squares of the centred residual. -/
theorem pay6_at (x0 : Vec Ideal S1x512x1024 .f32) (gm : Vec Ideal S1x1x1024 .f32) (x1 : Vec Ideal S1x512x512 .bf16)
    (w1 : Vec Ideal S512x1024 .bf16) (x2 : Vec Ideal S1x512x512 .bf16) (w2 : Vec Ideal S512x1024 .bf16) (r : Fin 512) :
    k0_pay6 (F := Ideal) x0 gm x1 w1 x2 w2 (ix2 r 0)
      = ∑ k, k0_pay5 (F := Ideal) x0 gm x1 w1 x2 w2 (ix2 r k) * k0_pay5 (F := Ideal) x0 gm x1 w1 x2 w2 (ix2 r k) := by
  unfold k0_pay6
  generalize k0_pay5 x0 gm x1 w1 x2 w2 = y
  pointwise

/-- The normalised residual from its centred row and sum of squares. -/
theorem pay7_at (g b : Vec Ideal S1x1024 .f32) (v35 : FVec Ideal S512x1024 .f32) (v38 : FVec Ideal S512x1 .f32)
    (x : Row) (r : Fin 512) (h35 : ∀ k : Fin 1024, v35 (ix2 r k) = centred x k)
    (h38 : v38 (ix2 r 0) = ∑ k, centred x k * centred x k) (n : Fin 1024) :
    k0_pay7 (F := Ideal) (k0_pay3 g) (k0_pay4 b) v35 v38 (Scalar.ofBits .f32 0x44800000#32) (ix2 r n)
      = lnRow x (fun k => g (ix2 0 k)) (fun k => b (ix2 0 k)) n := by
  pointwise [k0_pay7, k0_pay3, k0_pay4, h35, h38]
  rfl

/-- The modulated row the products read. -/
theorem pay9_at (g b : FVec Ideal S1x1024 .f32) (v35 : FVec Ideal S512x1024 .f32) (v38 : FVec Ideal S512x1 .f32) (q : Ideal .f32)
    (sh sc : Vec Ideal S1x1x1024 .f32) (r : Fin 512) (n : Fin 1024) :
    k0_pay9 (F := Ideal) g b v35 v38 q sh sc (ix2 r n)
      = modRow (fun k => k0_pay7 (F := Ideal) g b v35 v38 q (ix2 r k)) (fun k => sh (ix3 0 0 k)) (fun k => sc (ix3 0 0 k)) n := by
  unfold k0_pay9
  generalize k0_pay7 g b v35 v38 q = y
  pointwise [modRow]

/-- The first tile's payload is the second's at the modulated block. -/
theorem pay10_eq (g b : FVec Ideal S1x1024 .f32) (v35 : FVec Ideal S512x1024 .f32) (v38 : FVec Ideal S512x1 .f32) (q : Ideal .f32)
    (sh sc : Vec Ideal S1x1x1024 .f32) (wa wb : Vec Ideal S1024x256 .bf16) :
    k0_pay10 (F := Ideal) g b v35 v38 q sh sc wa wb = k0_pay11 (k0_pay9 g b v35 v38 q sh sc) wa wb := rfl

/-- The second residual from the hidden layer. -/
theorem pay26_at (h : FVec Ideal S512x1024 .f32) (gt : Vec Ideal S1x1x1024 .f32) (a : Vec Ideal S512x2816 .bf16)
    (w : Vec Ideal S2816x1024 .bf16) (r : Fin 512) (n : Fin 1024) :
    k0_pay26 (F := Ideal) h (k0_pay8 gt) a w (ix2 r n)
      = resRow (fun k => h (ix2 r k)) (fun k => gt (ix3 0 0 k))
          (fun o => Ideal.ofBits FTy.f32 0x3F000000#32 * colDot (fun f => a (ix2 r f)) (fun f o => w (ix2 f o)) o) n := by
  pointwise [k0_pay26, k0_pay8, resRow, colDot]

/-- The normalised first residual of the latent rows, at any gate row `gm`. -/
theorem mix512_at (x0 : Vec Ideal S1x512x1024 .f32) (gm : Vec Ideal S1x1x1024 .f32) (x1 : Vec Ideal S1x512x512 .bf16)
    (w1 : Vec Ideal S512x1024 .bf16) (x2 : Vec Ideal S1x512x512 .bf16) (w2 : Vec Ideal S512x1024 .bf16)
    (g b : Vec Ideal S1x1024 .f32) (r : Fin 512) (n : Fin 1024) (gate : Row) (hg : ∀ k, gm (ix3 0 0 k) = gate k) :
    k0_pay7 (F := Ideal) (k0_pay3 g) (k0_pay4 b) (k0_pay5 x0 gm x1 w1 x2 w2) (k0_pay6 x0 gm x1 w1 x2 w2)
        (Scalar.ofBits .f32 0x44800000#32) (ix2 r n)
      = lnRow (resRow (fun k => x0 (ix3 0 r k)) gate fun o =>
          colDot (fun k => x1 (ix3 0 r k)) (fun k o => w1 (ix2 k o)) o
            + colDot (fun k => x2 (ix3 0 r k)) (fun k o => w2 (ix2 k o)) o)
          (fun k => g (ix2 0 k)) (fun k => b (ix2 0 k)) n := by
  obtain rfl : (fun k => gm (ix3 0 0 k)) = gate := funext hg
  exact pay7_at g b _ _ _ r (fun k => pay5_at x0 gm x1 w1 x2 w2 r k)
    ((pay6_at x0 gm x1 w1 x2 w2 r).trans (Finset.sum_congr rfl fun k _ => by rw [pay5_at])) n

/-- The stored context block is the layer normalisation of the residual. -/
theorem pay2_at (v : FVec Ideal S256x1024 .f32) (g b : Vec Ideal S1x1024 .f32) (r : Fin 256) (n : Fin 1024) :
    k0_pay2 (F := Ideal) v (k0_pay52 g) b (ix3 0 r n)
      = lnRow (fun k => v (ix2 r k)) (fun k => g (ix2 0 k)) (fun k => b (ix2 0 k)) n := by
  pointwise [k0_pay2, k0_pay52, lnRow, centred]

/-- The first residual, centred. -/
theorem pay30_at (x0 : Vec Ideal S1x256x1024 .f32) (gm : Vec Ideal S1x1x1024 .f32) (x1 : Vec Ideal S1x256x512 .bf16)
    (w1 : Vec Ideal S512x1024 .bf16) (x2 : Vec Ideal S1x256x512 .bf16) (w2 : Vec Ideal S512x1024 .bf16)
    (r : Fin 256) (n : Fin 1024) :
    k0_pay30 (F := Ideal) x0 gm x1 w1 x2 w2 (ix2 r n)
      = centred (resRow (fun k => x0 (ix3 0 r k)) (fun k => gm (ix3 0 0 k)) fun o =>
          colDot (fun k => x1 (ix3 0 r k)) (fun k o => w1 (ix2 k o)) o
            + colDot (fun k => x2 (ix3 0 r k)) (fun k o => w2 (ix2 k o)) o) n := by
  pointwise [k0_pay30, centred, resRow, colDot]

/-- The row's sum of squares of the centred residual. -/
theorem pay31_at (x0 : Vec Ideal S1x256x1024 .f32) (gm : Vec Ideal S1x1x1024 .f32) (x1 : Vec Ideal S1x256x512 .bf16)
    (w1 : Vec Ideal S512x1024 .bf16) (x2 : Vec Ideal S1x256x512 .bf16) (w2 : Vec Ideal S512x1024 .bf16) (r : Fin 256) :
    k0_pay31 (F := Ideal) x0 gm x1 w1 x2 w2 (ix2 r 0)
      = ∑ k, k0_pay30 (F := Ideal) x0 gm x1 w1 x2 w2 (ix2 r k) * k0_pay30 (F := Ideal) x0 gm x1 w1 x2 w2 (ix2 r k) := by
  unfold k0_pay31
  generalize k0_pay30 x0 gm x1 w1 x2 w2 = y
  pointwise

/-- The normalised residual from its centred row and sum of squares. -/
theorem pay32_at (g b : Vec Ideal S1x1024 .f32) (v35 : FVec Ideal S256x1024 .f32) (v38 : FVec Ideal S256x1 .f32)
    (x : Row) (r : Fin 256) (h35 : ∀ k : Fin 1024, v35 (ix2 r k) = centred x k)
    (h38 : v38 (ix2 r 0) = ∑ k, centred x k * centred x k) (n : Fin 1024) :
    k0_pay32 (F := Ideal) (k0_pay28 g) (k0_pay29 b) v35 v38 (Scalar.ofBits .f32 0x44800000#32) (ix2 r n)
      = lnRow x (fun k => g (ix2 0 k)) (fun k => b (ix2 0 k)) n := by
  pointwise [k0_pay32, k0_pay28, k0_pay29, h35, h38]
  rfl

/-- The modulated row the products read. -/
theorem pay34_at (g b : FVec Ideal S1x1024 .f32) (v35 : FVec Ideal S256x1024 .f32) (v38 : FVec Ideal S256x1 .f32) (q : Ideal .f32)
    (sh sc : Vec Ideal S1x1x1024 .f32) (r : Fin 256) (n : Fin 1024) :
    k0_pay34 (F := Ideal) g b v35 v38 q sh sc (ix2 r n)
      = modRow (fun k => k0_pay32 (F := Ideal) g b v35 v38 q (ix2 r k)) (fun k => sh (ix3 0 0 k)) (fun k => sc (ix3 0 0 k)) n := by
  unfold k0_pay34
  generalize k0_pay32 g b v35 v38 q = y
  pointwise [modRow]

/-- The first tile's payload is the second's at the modulated block. -/
theorem pay35_eq (g b : FVec Ideal S1x1024 .f32) (v35 : FVec Ideal S256x1024 .f32) (v38 : FVec Ideal S256x1 .f32) (q : Ideal .f32)
    (sh sc : Vec Ideal S1x1x1024 .f32) (wa wb : Vec Ideal S1024x256 .bf16) :
    k0_pay35 (F := Ideal) g b v35 v38 q sh sc wa wb = k0_pay36 (k0_pay34 g b v35 v38 q sh sc) wa wb := rfl

/-- The second residual from the hidden layer. -/
theorem pay51_at (h : FVec Ideal S256x1024 .f32) (gt : Vec Ideal S1x1x1024 .f32) (a : Vec Ideal S256x2816 .bf16)
    (w : Vec Ideal S2816x1024 .bf16) (r : Fin 256) (n : Fin 1024) :
    k0_pay51 (F := Ideal) h (k0_pay33 gt) a w (ix2 r n)
      = resRow (fun k => h (ix2 r k)) (fun k => gt (ix3 0 0 k))
          (fun o => Ideal.ofBits FTy.f32 0x3F000000#32 * colDot (fun f => a (ix2 r f)) (fun f o => w (ix2 f o)) o) n := by
  pointwise [k0_pay51, k0_pay33, resRow, colDot]

/-- The normalised first residual of the context rows, at any gate row `gm`. -/
theorem mix256_at (x0 : Vec Ideal S1x256x1024 .f32) (gm : Vec Ideal S1x1x1024 .f32) (x1 : Vec Ideal S1x256x512 .bf16)
    (w1 : Vec Ideal S512x1024 .bf16) (x2 : Vec Ideal S1x256x512 .bf16) (w2 : Vec Ideal S512x1024 .bf16)
    (g b : Vec Ideal S1x1024 .f32) (r : Fin 256) (n : Fin 1024) (gate : Row) (hg : ∀ k, gm (ix3 0 0 k) = gate k) :
    k0_pay32 (F := Ideal) (k0_pay28 g) (k0_pay29 b) (k0_pay30 x0 gm x1 w1 x2 w2) (k0_pay31 x0 gm x1 w1 x2 w2)
        (Scalar.ofBits .f32 0x44800000#32) (ix2 r n)
      = lnRow (resRow (fun k => x0 (ix3 0 r k)) gate fun o =>
          colDot (fun k => x1 (ix3 0 r k)) (fun k o => w1 (ix2 k o)) o
            + colDot (fun k => x2 (ix3 0 r k)) (fun k o => w2 (ix2 k o)) o)
          (fun k => g (ix2 0 k)) (fun k => b (ix2 0 k)) n := by
  obtain rfl : (fun k => gm (ix3 0 0 k)) = gate := funext hg
  exact pay32_at g b _ _ _ r (fun k => pay30_at x0 gm x1 w1 x2 w2 r k)
    ((pay31_at x0 gm x1 w1 x2 w2 r).trans (Finset.sum_congr rfl fun k _ => by rw [pay30_at])) n

/-- A row below 256 of a tile of 256 rows and columns: its columns decide. -/
theorem mem_cols {o : ℕ} {inb} {r : Fin 512} (hr : (r : ℕ) < 256) (f : Fin 2816) :
    (ix2 r f : S512x2816.Idx) ∈ (Rect.unit (s := S512x2816) ![0, o] ![256, 256] inb).set ↔ o ≤ (f : ℕ) ∧ (f : ℕ) < o + 256 := by
  rw [Rect.mem_set_unit]
  refine ⟨fun h => h 1, fun h a => ?_⟩
  match a with
  | 0 => exact ⟨Nat.zero_le _, by show (r : ℕ) < 0 + 256; omega⟩
  | 1 => exact h

variable (m : (ℓ : Loc nD τ sig) → Buf (Elt Ideal) ℓ) (c : Dev nD) (t : Fin cfg0.N)

/-- Row `r` of what a grid point of latent rows leaves in its output block. -/
theorem outLat_at (h : t.val % 9 ≤ 7) (x0 : FVec Ideal S1x512x1024 .f32) (x1 x2 : FVec Ideal S1x512x512 .bf16) (x3 : FVec Ideal S1x9x1024 .f32)
    (x4 x5 : FVec Ideal S512x1024 .bf16) (x6 x7 : FVec Ideal S1x1024 .f32) (x8 : FVec Ideal S1024x5632 .bf16)
    (x9 : FVec Ideal S2816x1024 .bf16) (x10 x11 : FVec Ideal S1x1024 .f32)
    (h0 : iblk m c 0 t = x0) (h1 : iblk m c 1 t = x1) (h2 : X0_2 m c t = x2) (h3 : iblk m c 6 t = x3)
    (h4 : iblk m c 8 t = x4) (h5 : iblk m c 9 t = x5) (h6 : iblk m c 10 t = x6) (h7 : iblk m c 11 t = x7)
    (h8 : iblk m c 12 t = x8) (h9 : iblk m c 13 t = x9) (h10 : iblk m c 14 t = x10) (h11 : iblk m c 15 t = x11)
    (r : Fin 512) (n : Fin 1024) :
    outLat m c t h (ix3 0 r n)
      = ffnRow
          (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
          (fun k => x3 (ix3 0 6 k)) (fun k => x3 (ix3 0 7 k)) (fun k => x3 (ix3 0 8 k))
          (fun k => x10 (ix2 0 k)) (fun k => x11 (ix2 0 k)) (fun k o => x8 (ix2 k o)) (fun f o => x9 (ix2 f o)) n := by
  unfold outLat outLatPieces
  frame_out
  refine (congrFun (View.canon_cons_unit_lit (S := S1x512x1024) _ _ [] (by decide)) _).trans ?_
  rw [h0, h1, h2, h3, h4, h5, h6, h7, h8, h9, h10, h11]
  refine (pay1_at _ _ _ r n).trans ?_
  unfold ffnRow
  refine congrArg (fun v => lnRow v _ _ n) (funext fun k => ?_)
  rw [pay26_at]
  refine resRow_congr (fun k => mix512_at _ _ _ _ _ _ _ _ r k _ fun k => ?_) (fun k => ?_) (fun o => ?_) k
  · pointwise
  · pointwise
  refine congrArg (_ * ·) (Finset.sum_congr rfl fun f _ => Ideal.mul_congr ?_ rfl)
  rw [pay10_eq]
  generalize hX : k0_pay9 (F := Ideal) _ _ _ _ _ _ _ = X
  have hXk : ∀ k : Fin 1024, X (ix2 r k) = modRow
        (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
        (fun k => x3 (ix3 0 6 k)) (fun k => x3 (ix3 0 7 k)) k := by
    intro k
    rw [← hX, pay9_at]
    refine modRow_congr (fun k => mix512_at _ _ _ _ _ _ _ _ r k _ fun k => ?_) (fun k => ?_) (fun k => ?_) k
    · pointwise
    · pointwise
    · pointwise
  generalize modRow _ _ _ = M at hXk ⊢
  clear hX h0 h1 h2 h3 h4 h5 h6 h7 h8 h9 h10 h11
  beta_reduce
  rw [View.readCov_eq_canon']
  pointwise
  canon_tiles x h
  all_goals
    idx_vars x
    obtain rfl : r = x0 := Fin.ext h0
    obtain ⟨fv, hf⟩ := f
    replace h1 : fv = _ := h1
    subst h1
    open_payloads
    pointwise [swiglu, colDot, hXk]
    try simp only [← Nat.add_assoc, Nat.reduceAdd]

/-- Row `r` of what a grid point of context rows leaves in its output block. -/
theorem outCtx_at (h : t.val % 9 = 8) (x0 : FVec Ideal S1x256x1024 .f32) (x1 x2 : FVec Ideal S1x256x512 .bf16) (x3 : FVec Ideal S1x9x1024 .f32)
    (x4 x5 : FVec Ideal S512x1024 .bf16) (x6 x7 : FVec Ideal S1x1024 .f32) (x8 : FVec Ideal S1024x5632 .bf16)
    (x9 : FVec Ideal S2816x1024 .bf16) (x10 x11 : FVec Ideal S1x1024 .f32)
    (h0 : iblk m c 3 t = x0) (h1 : iblk m c 4 t = x1) (h2 : iblk m c 5 t = x2) (h3 : iblk m c 7 t = x3)
    (h4 : iblk m c 8 t = x4) (h5 : iblk m c 9 t = x5) (h6 : iblk m c 10 t = x6) (h7 : iblk m c 11 t = x7)
    (h8 : iblk m c 12 t = x8) (h9 : iblk m c 13 t = x9) (h10 : iblk m c 14 t = x10) (h11 : iblk m c 15 t = x11)
    (r : Fin 256) (n : Fin 1024) :
    outCtx m c t h (ix3 0 r n)
      = ffnRow
          (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
          (fun k => x3 (ix3 0 6 k)) (fun k => x3 (ix3 0 7 k)) (fun k => x3 (ix3 0 8 k))
          (fun k => x10 (ix2 0 k)) (fun k => x11 (ix2 0 k)) (fun k o => x8 (ix2 k o)) (fun f o => x9 (ix2 f o)) n := by
  unfold outCtx outCtxPieces
  frame_out
  refine (congrFun (View.canon_cons_unit_lit (S := S1x256x1024) _ _ [] (by decide)) _).trans ?_
  rw [h0, h1, h2, h3, h4, h5, h6, h7, h8, h9, h10, h11]
  refine (pay2_at _ _ _ r n).trans ?_
  unfold ffnRow
  refine congrArg (fun v => lnRow v _ _ n) (funext fun k => ?_)
  rw [pay51_at]
  refine resRow_congr (fun k => mix256_at _ _ _ _ _ _ _ _ r k _ fun k => ?_) (fun k => ?_) (fun o => ?_) k
  · pointwise
  · pointwise
  refine congrArg (_ * ·) (Finset.sum_congr rfl fun f _ => Ideal.mul_congr ?_ rfl)
  rw [pay35_eq]
  generalize hX : k0_pay34 (F := Ideal) _ _ _ _ _ _ _ = X
  have hXk : ∀ k : Fin 1024, X (ix2 r k) = modRow
        (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
        (fun k => x3 (ix3 0 6 k)) (fun k => x3 (ix3 0 7 k)) k := by
    intro k
    rw [← hX, pay34_at]
    refine modRow_congr (fun k => mix256_at _ _ _ _ _ _ _ _ r k _ fun k => ?_) (fun k => ?_) (fun k => ?_) k
    · pointwise
    · pointwise
    · pointwise
  generalize modRow _ _ _ = M at hXk ⊢
  clear hX h0 h1 h2 h3 h4 h5 h6 h7 h8 h9 h10 h11
  beta_reduce
  rw [View.readCov_eq_canon']
  pointwise
  canon_tiles x h using (by
    simp only [List.mem_cons, exists_eq_or_imp, List.not_mem_nil, or_false, exists_eq_left]
    repeat rw [mem_cols r.isLt f]
    omega)
  all_goals
    idx_vars x
    obtain rfl : r = x0 := Fin.ext (by simpa using h0)
    obtain ⟨fv, hf⟩ := f
    replace h1 : fv = _ := h1
    subst h1
    open_payloads
    pointwise [swiglu, colDot, hXk]
    try simp only [← Nat.add_assoc, Nat.reduceAdd]

end Cert.Ffn.Mix

end
-- ==== Proof.FfnMixKer.lean ====
module

public import proofs.«01_k».proof.Proof.FfnMixPay

/-! The two arrays the feed-forward call with context and mixing leaves: the blocks of latent rows put together are the half step of
    every mixed latent token, with the modulation of its sample; those of context rows, of every mixed context token, with the
    shared modulation row. -/

@[expose] public section

set_option maxRecDepth 16384

noncomputable section

namespace Cert.Ffn.Mix

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- Which block of each array a grid point works on: sample `t / 9`, latent rows `512 * (t % 9) …` (the last ones again at
    the point of context rows); the context rows of the joint array are its block 16 of 256 rows. -/
theorem idx : ∀ t : Fin cfg0.N, win0_0.index t = ![t.val / 9, min (t.val % 9) 7, 0] ∧ win0_1.index t = ![t.val / 9, min (t.val % 9) 7, 0]
    ∧ win0_2.index t = ![t.val / 9, min (t.val % 9) 7, 0] ∧ win0_3.index t = ![t.val / 9, 0, 0]
    ∧ win0_4.index t = ![t.val / 9, 0, 0] ∧ win0_5.index t = ![t.val / 9, 16, 0]
    ∧ win0_6.index t = ![t.val / 9, 0, 0] ∧ win0_7.index t = ![8, 0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![t.val / 9, min (t.val % 9) 7, 0] ∧ win0_17.index t = ![t.val / 9, 0, 0] :=
  (by decide +kernel : ∀ t : Fin grid0.N, _)

/-- The point of context rows is the only one of its sample that writes the context output back. -/
theorem flush_ctx : ∀ t : Fin cfg0.N, (cfg0.win 17).flush t = true → t.val % 9 = 8 :=
  (by decide +kernel : ∀ t : Fin grid0.N, win0_17.flush t = true → t.val % 9 = 8)

variable (t : Fin cfg0.N)

theorem blk0 (r : Fin 512) (k : Fin 1024) (b : Fin 8) (R : Fin 4096) (hb : (b : ℕ) = t.val / 9) (hR : (R : ℕ) = min (t.val % 9) 7 * 512 + r) :
    (show FVec Ideal S1x512x1024 .f32 from iblk m c 0 t) (ix3 0 r k)
      = (show FVec Ideal S8x4096x1024 .f32 from m ((c : Thread nD τ).loc main_arg0)) (ix3 b R k) := by
  blk_point [iblk, V, idx t]

theorem blk1 (r : Fin 512) (k : Fin 512) (b : Fin 8) (R : Fin 4096) (hb : (b : ℕ) = t.val / 9) (hR : (R : ℕ) = min (t.val % 9) 7 * 512 + r) :
    (show FVec Ideal S1x512x512 .bf16 from iblk m c 1 t) (ix3 0 r k)
      = (show FVec Ideal S8x4096x512 .bf16 from m ((c : Thread nD τ).loc main_arg2)) (ix3 b R k) := by
  blk_point [iblk, V, idx t]

theorem blk2 (r : Fin 512) (k : Fin 512) (b : Fin 8) (R : Fin 4352) (hb : (b : ℕ) = t.val / 9) (hR : (R : ℕ) = min (t.val % 9) 7 * 512 + r) :
    (show FVec Ideal S1x512x512 .bf16 from X0_2 m c t) (ix3 0 r k)
      = (show FVec Ideal S8x4352x512 .bf16 from m ((c : Thread nD τ).loc main_arg4)) (ix3 b R k) := by
  refine (dif_pos (moved0_2 t (ix3 0 r k))).trans ?_
  blk_point [iblk, V, idx t]

theorem blk3 (r : Fin 256) (k : Fin 1024) (b : Fin 8) (hb : (b : ℕ) = t.val / 9) :
    (show FVec Ideal S1x256x1024 .f32 from iblk m c 3 t) (ix3 0 r k)
      = (show FVec Ideal S8x256x1024 .f32 from m ((c : Thread nD τ).loc main_arg1)) (ix3 b r k) := by
  blk_point [iblk, V, idx t]

theorem blk4 (r : Fin 256) (k : Fin 512) (b : Fin 8) (hb : (b : ℕ) = t.val / 9) :
    (show FVec Ideal S1x256x512 .bf16 from iblk m c 4 t) (ix3 0 r k)
      = (show FVec Ideal S8x256x512 .bf16 from m ((c : Thread nD τ).loc main_arg3)) (ix3 b r k) := by
  blk_point [iblk, V, idx t]

theorem blk5 (r : Fin 256) (k : Fin 512) (b : Fin 8) (hb : (b : ℕ) = t.val / 9) :
    (show FVec Ideal S1x256x512 .bf16 from iblk m c 5 t) (ix3 0 r k)
      = (show FVec Ideal S8x4352x512 .bf16 from m ((c : Thread nD τ).loc main_arg4)) (ix3 b ⟨4096 + r, by omega⟩ k) := by
  blk_point [iblk, V, idx t]

theorem blk6 (j : Fin 9) (k : Fin 1024) (b : Fin 16) (hb : (b : ℕ) = t.val / 9) :
    (show FVec Ideal S1x9x1024 .f32 from iblk m c 6 t) (ix3 0 j k)
      = (show FVec Ideal S16x9x1024 .f32 from m ((c : Thread nD τ).loc main_arg5)) (ix3 b j k) := by
  blk_point [iblk, V, idx t]

theorem blk7 (j : Fin 9) (k : Fin 1024) :
    (show FVec Ideal S1x9x1024 .f32 from iblk m c 7 t) (ix3 0 j k)
      = (show FVec Ideal S16x9x1024 .f32 from m ((c : Thread nD τ).loc main_arg5)) (ix3 8 j k) := by
  blk_point [iblk, V, idx t]

theorem blk8 (k : Fin 512) (o : Fin 1024) :
    (show FVec Ideal S512x1024 .bf16 from iblk m c 8 t) (ix2 k o)
      = (show FVec Ideal S1024x1024 .f32 from m ((c : Thread nD τ).loc main_arg8)) (ix2 ⟨k, by omega⟩ o) := by
  blk_point [iblk, V, idx t]

theorem blk9 (k : Fin 512) (o : Fin 1024) :
    (show FVec Ideal S512x1024 .bf16 from iblk m c 9 t) (ix2 k o)
      = (show FVec Ideal S1024x1024 .f32 from m ((c : Thread nD τ).loc main_arg8)) (ix2 ⟨512 + k, by omega⟩ o) := by
  blk_point [iblk, V, idx t]

theorem blk10 (k : Fin 1024) :
    (show FVec Ideal S1x1024 .f32 from iblk m c 10 t) (ix2 0 k)
      = (show FVec Ideal S1024 .f32 from m ((c : Thread nD τ).loc main_arg6)) (ix1 k) := by
  blk_point [iblk, V, idx t]

theorem blk11 (k : Fin 1024) :
    (show FVec Ideal S1x1024 .f32 from iblk m c 11 t) (ix2 0 k)
      = (show FVec Ideal S1024 .f32 from m ((c : Thread nD τ).loc main_arg7)) (ix1 k) := by
  blk_point [iblk, V, idx t]

theorem blk12 (k : Fin 1024) (o : Fin 5632) :
    (show FVec Ideal S1024x5632 .bf16 from iblk m c 12 t) (ix2 k o)
      = (show FVec Ideal S1024x5632 .f32 from m ((c : Thread nD τ).loc main_arg9)) (ix2 k o) := by
  blk_point [iblk, V, idx t]

theorem blk13 (f : Fin 2816) (o : Fin 1024) :
    (show FVec Ideal S2816x1024 .bf16 from iblk m c 13 t) (ix2 f o)
      = (show FVec Ideal S2816x1024 .f32 from m ((c : Thread nD τ).loc main_arg10)) (ix2 f o) := by
  blk_point [iblk, V, idx t]

theorem blk14 (k : Fin 1024) :
    (show FVec Ideal S1x1024 .f32 from iblk m c 14 t) (ix2 0 k)
      = (show FVec Ideal S1024 .f32 from m ((c : Thread nD τ).loc main_arg11)) (ix1 k) := by
  blk_point [iblk, V, idx t]

theorem blk15 (k : Fin 1024) :
    (show FVec Ideal S1x1024 .f32 from iblk m c 15 t) (ix2 0 k)
      = (show FVec Ideal S1024 .f32 from m ((c : Thread nD τ).loc main_arg12)) (ix1 k) := by
  blk_point [iblk, V, idx t]

/-- What a grid point of latent rows stores is its rows of the whole answer. -/
theorem point_lat (h : t.val % 9 ≤ 7) (r : Fin 512) (n : Fin 1024) (b : Fin 8) (R : Fin 4096) (hb : (b : ℕ) = t.val / 9)
    (hR : (R : ℕ) = min (t.val % 9) 7 * 512 + r) :
    outLat m c t h (ix3 0 r n)
      = mixLatResult (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) b R n := by
  have e0 := funext fun k => blk0 m c t r k b R hb hR
  have e1 := funext fun k => blk1 m c t r k b R hb hR
  have e2 := funext fun k => blk2 m c t r k b ⟨R, by omega⟩ hb hR
  have e6 (j : Fin 9) := funext fun k => blk6 m c t j k ⟨b, by omega⟩ hb
  have e8 := funext fun k => funext fun o => blk8 m c t k o
  have e9 := funext fun k => funext fun o => blk9 m c t k o
  have e10 := funext fun k => blk10 m c t k
  have e11 := funext fun k => blk11 m c t k
  have e12 := funext fun k => funext fun o => blk12 m c t k o
  have e13 := funext fun k => funext fun o => blk13 m c t k o
  have e14 := funext fun k => blk14 m c t k
  have e15 := funext fun k => blk15 m c t k
  refine (outLat_at m c t h _ _ _ _ _ _ _ _ _ _ _ _ rfl rfl rfl rfl rfl rfl rfl rfl rfl rfl rfl rfl r n).trans ?_
  unfold mixLatResult mixStepRow mixRow
  rw [e0, e1, e2, e6 5, e6 6, e6 7, e6 8, e8, e9, e10, e11, e12, e13, e14, e15]

/-- What a grid point of context rows stores is its rows of the whole answer. -/
theorem point_ctx (h : t.val % 9 = 8) (r : Fin 256) (n : Fin 1024) (b : Fin 8) (hb : (b : ℕ) = t.val / 9) :
    outCtx m c t h (ix3 0 r n)
      = mixCtxResult (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) b r n := by
  have e3 := funext fun k => blk3 m c t r k b hb
  have e4 := funext fun k => blk4 m c t r k b hb
  have e5 := funext fun k => blk5 m c t r k b hb
  have e7 (j : Fin 9) := funext fun k => blk7 m c t j k
  have e8 := funext fun k => funext fun o => blk8 m c t k o
  have e9 := funext fun k => funext fun o => blk9 m c t k o
  have e10 := funext fun k => blk10 m c t k
  have e11 := funext fun k => blk11 m c t k
  have e12 := funext fun k => funext fun o => blk12 m c t k o
  have e13 := funext fun k => funext fun o => blk13 m c t k o
  have e14 := funext fun k => blk14 m c t k
  have e15 := funext fun k => blk15 m c t k
  refine (outCtx_at m c t h _ _ _ _ _ _ _ _ _ _ _ _ rfl rfl rfl rfl rfl rfl rfl rfl rfl rfl rfl rfl r n).trans ?_
  unfold mixCtxResult mixStepRow mixRow
  rw [e3, e4, e5, e7 5, e7 6, e7 7, e7 8, e8, e9, e10, e11, e12, e13, e14, e15]

/-- The latent rows of a point and of the point of latent rows it names are the same. -/
theorem lastLat_rows : (lastLat t).val / 9 = t.val / 9 ∧ min ((lastLat t).val % 9) 7 = min (t.val % 9) 7 := by
  have e : (lastLat t).val = if t.val % 9 = 8 then t.val - 1 else t.val := rfl
  rw [e]
  split <;> omega

/-- The call's array of latent rows. -/
theorem final_lat : (dats m 0 c).arrAt 16 cfg0.N = fun i =>
    mixLatResult (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) (i 0) (i 1) (i 2) := by
  refine (dats m 0 c).arrAt_eq_of_covers 16 _ (by decide +kernel) fun t _ y => ?_
  blk_simp
  rw [after_16]
  obtain ⟨-, -, -, -, -, -, -, -, -, -, -, -, -, -, -, -, e, -⟩ := idx t
  have h1 : (((win0_16.blk t).view.emb y) 0 : ℕ) = t.val / 9 := by
    blk_simp [e]
  have h2 : (((win0_16.blk t).view.emb y) 1 : ℕ) = min (t.val % 9) 7 * 512 + (y 1 : ℕ) := by
    blk_simp [e]
  have h3 : (((win0_16.blk t).view.emb y) 2 : ℕ) = (y 2 : ℕ) := by
    blk_simp [e]
  have hy : (show S1x512x1024.Idx from y) = ix3 0 (y 1) (y 2) := by
    funext a
    match a with
    | 0 => exact Fin.ext (Nat.lt_one_iff.mp (show (y 0 : ℕ) < 1 from (y 0).isLt))
    | 1 => rfl
    | 2 => rfl
  obtain ⟨q1, q2⟩ := lastLat_rows t
  refine (congrArg (outLat m c (lastLat t) (lastLat_le t)) hy).trans
    ((point_lat m c (lastLat t) (lastLat_le t) (y 1) (y 2) _ _ (h1.trans q1.symm) (h2.trans (by rw [q2]))).trans ?_)
  exact congrArg _ (Fin.ext h3.symm)

/-- The call's array of context rows. -/
theorem final_ctx : (dats m 0 c).arrAt 17 cfg0.N = fun i =>
    mixCtxResult (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) (i 0) (i 1) (i 2) := by
  refine (dats m 0 c).arrAt_eq_of_covers 17 _ (by decide +kernel) fun t hf y => ?_
  have h := flush_ctx t hf
  blk_simp
  rw [after_17 m c t h]
  obtain ⟨-, -, -, -, -, -, -, -, -, -, -, -, -, -, -, -, -, e⟩ := idx t
  have h1 : (((win0_17.blk t).view.emb y) 0 : ℕ) = t.val / 9 := by
    blk_simp [e]
  have h2 : (((win0_17.blk t).view.emb y) 1 : ℕ) = (y 1 : ℕ) := by
    blk_simp [e]
  have h3 : (((win0_17.blk t).view.emb y) 2 : ℕ) = (y 2 : ℕ) := by
    blk_simp [e]
  have hy : (show S1x256x1024.Idx from y) = ix3 0 ((win0_17.blk t).view.emb y 1) (y 2) := by
    funext a
    match a with
    | 0 => exact Fin.ext (Nat.lt_one_iff.mp (show (y 0 : ℕ) < 1 from (y 0).isLt))
    | 1 => exact Fin.ext h2.symm
    | 2 => rfl
  refine (congrArg (outCtx m c t h) hy).trans ((point_ctx m c t h _ (y 2) _ h1).trans ?_)
  exact congrArg _ (Fin.ext h3.symm)

end Cert.Ffn.Mix

end
-- ==== Proof.FfnMixRef.lean ====
module

public import proofs.«01_k».proof.Proof.FfnMixSpec
public import proofs.«01_k».proof.Proof.FfnCtxRef
public import proofs.«01_k».proof.Proof.Gen.Reference4Ideal.Run

/-! The reference of the feed-forward call with context and mixing, read at a token. Its token rows are the sample's latent
    rows followed by its context rows; the mixing is projected and normalised, and the half step of the call without mixing
    follows, whose lemmas are used here. The first 4096 rows and the last 256 are its two results. -/

@[expose] public section

set_option maxRecDepth 16384

noncomputable section

namespace Cert.Ffn.MixRef

open Idealize.ShloMosaic Idealize.ShloMosaic.TcCoe Idealize.SL.Sem
open Cert.Reference4Ideal Cert.Reference4Ideal.Gen Cert.Reference4Ideal.Value
open Cert.Ffn.CtxRef (rows rows_lat rows_ctx num norm norm_at step step_at)

/-- A row of every sample for its latent tokens, one row for all context tokens. -/
def spread (x : FVec Ideal S8x1x1024 .f32) (y : FVec Ideal S1x1x1024 .f32) : FVec Ideal S8x4352x1024 .f32 :=
  rows (broadcastInDim S8x4096x1024 ![0, 1, 2] bcast_S8x1x1024_S8x4096x1024_0_1_2 (shapeCast _ (shapeCast _ x shapeCasts_S8x1x1024_S8x1024) shapeCasts_S8x1024_S8x1x1024))
    (broadcastInDim S8x256x1024 ![0, 1, 2] bcast_S1x1x1024_S8x256x1024_0_1_2 (shapeCast _ (shapeCast _ y shapeCasts_S1x1x1024_S1x1024) shapeCasts_S1x1024_S1x1x1024))

theorem spread_lat (x : FVec Ideal S8x1x1024 .f32) (y : FVec Ideal S1x1x1024 .f32) (s : Fin 8) (r : Fin 4096) (n : Fin 1024) :
    spread x y (ix3 s ⟨r, by omega⟩ n) = x (ix3 s 0 n) := by
  refine (rows_lat _ _ s r n).trans ?_
  pointwise

theorem spread_ctx (x : FVec Ideal S8x1x1024 .f32) (y : FVec Ideal S1x1x1024 .f32) (s : Fin 8) (r : Fin 256) (n : Fin 1024) :
    spread x y (ix3 s ⟨4096 + r, by omega⟩ n) = y (ix3 0 0 n) := by
  refine (rows_ctx _ _ s r n).trans ?_
  pointwise

/-- The mixing's gate of every token: entry 5 of its sample's row for a latent token, of row 8 for a context token. -/
def mixGate (a5 : FVec Ideal S16x9x1024 .f32) : FVec Ideal S8x4352x1024 .f32 :=
  spread (extractStridedSlice S8x1x1024 ![0, 5, 0] a5 slices_S16x9x1024_S8x1x1024_0_5_0) (extractStridedSlice S1x1x1024 ![8, 5, 0] a5 slices_S16x9x1024_S1x1x1024_8_5_0)

theorem mixGate_lat (a5 : FVec Ideal S16x9x1024 .f32) (s : Fin 8) (r : Fin 4096) (n : Fin 1024) :
    mixGate a5 (ix3 s ⟨r, by omega⟩ n) = a5 (ix3 ⟨s, by omega⟩ 5 n) := by
  refine (spread_lat _ _ s r n).trans ?_
  pointwise

theorem mixGate_ctx (a5 : FVec Ideal S16x9x1024 .f32) (s : Fin 8) (r : Fin 256) (n : Fin 1024) :
    mixGate a5 (ix3 s ⟨4096 + r, by omega⟩ n) = a5 (ix3 8 5 n) := by
  refine (spread_ctx _ _ s r n).trans ?_
  pointwise

/-- The shift of every token: entry 6 of its sample's row for a latent token, of row 8 for a context token. -/
def shift (a5 : FVec Ideal S16x9x1024 .f32) : FVec Ideal S8x4352x1024 .f32 :=
  spread (extractStridedSlice S8x1x1024 ![0, 6, 0] a5 slices_S16x9x1024_S8x1x1024_0_6_0) (extractStridedSlice S1x1x1024 ![8, 6, 0] a5 slices_S16x9x1024_S1x1x1024_8_6_0)

theorem shift_lat (a5 : FVec Ideal S16x9x1024 .f32) (s : Fin 8) (r : Fin 4096) (n : Fin 1024) :
    shift a5 (ix3 s ⟨r, by omega⟩ n) = a5 (ix3 ⟨s, by omega⟩ 6 n) := by
  refine (spread_lat _ _ s r n).trans ?_
  pointwise

theorem shift_ctx (a5 : FVec Ideal S16x9x1024 .f32) (s : Fin 8) (r : Fin 256) (n : Fin 1024) :
    shift a5 (ix3 s ⟨4096 + r, by omega⟩ n) = a5 (ix3 8 6 n) := by
  refine (spread_ctx _ _ s r n).trans ?_
  pointwise

/-- The scale of every token: entry 7 of its sample's row for a latent token, of row 8 for a context token. -/
def scale (a5 : FVec Ideal S16x9x1024 .f32) : FVec Ideal S8x4352x1024 .f32 :=
  spread (extractStridedSlice S8x1x1024 ![0, 7, 0] a5 slices_S16x9x1024_S8x1x1024_0_7_0) (extractStridedSlice S1x1x1024 ![8, 7, 0] a5 slices_S16x9x1024_S1x1x1024_8_7_0)

theorem scale_lat (a5 : FVec Ideal S16x9x1024 .f32) (s : Fin 8) (r : Fin 4096) (n : Fin 1024) :
    scale a5 (ix3 s ⟨r, by omega⟩ n) = a5 (ix3 ⟨s, by omega⟩ 7 n) := by
  refine (spread_lat _ _ s r n).trans ?_
  pointwise

theorem scale_ctx (a5 : FVec Ideal S16x9x1024 .f32) (s : Fin 8) (r : Fin 256) (n : Fin 1024) :
    scale a5 (ix3 s ⟨4096 + r, by omega⟩ n) = a5 (ix3 8 7 n) := by
  refine (spread_ctx _ _ s r n).trans ?_
  pointwise

/-- The gate of every token: entry 8 of its sample's row for a latent token, of row 8 for a context token. -/
def gate (a5 : FVec Ideal S16x9x1024 .f32) : FVec Ideal S8x4352x1024 .f32 :=
  spread (extractStridedSlice S8x1x1024 ![0, 8, 0] a5 slices_S16x9x1024_S8x1x1024_0_8_0) (extractStridedSlice S1x1x1024 ![8, 8, 0] a5 slices_S16x9x1024_S1x1x1024_8_8_0)

theorem gate_lat (a5 : FVec Ideal S16x9x1024 .f32) (s : Fin 8) (r : Fin 4096) (n : Fin 1024) :
    gate a5 (ix3 s ⟨r, by omega⟩ n) = a5 (ix3 ⟨s, by omega⟩ 8 n) := by
  refine (spread_lat _ _ s r n).trans ?_
  pointwise

theorem gate_ctx (a5 : FVec Ideal S16x9x1024 .f32) (s : Fin 8) (r : Fin 256) (n : Fin 1024) :
    gate a5 (ix3 s ⟨4096 + r, by omega⟩ n) = a5 (ix3 8 8 n) := by
  refine (spread_ctx _ _ s r n).trans ?_
  pointwise

/-- The first half of the mixing output on all token rows. -/
def halves (a : FVec Ideal S8x4096x512 .bf16) (b : FVec Ideal S8x256x512 .bf16) : FVec Ideal S8x4352x512 .bf16 :=
  concatenate S8x4352x512 1 [⟨S8x4096x512, a⟩, ⟨S8x256x512, b⟩] concatenates_S8x4096x512_S8x256x512_S8x4352x512_d1

theorem halves_lat (a : FVec Ideal S8x4096x512 .bf16) (b : FVec Ideal S8x256x512 .bf16) (s : Fin 8) (r : Fin 4096) (n : Fin 512) :
    halves a b (ix3 s ⟨r, by omega⟩ n) = a (ix3 s r n) := by
  pointwise [halves]

theorem halves_ctx (a : FVec Ideal S8x4096x512 .bf16) (b : FVec Ideal S8x256x512 .bf16) (s : Fin 8) (r : Fin 256) (n : Fin 512) :
    halves a b (ix3 s ⟨4096 + r, by omega⟩ n) = b (ix3 s r n) := by
  pointwise [halves]

/-- The first residual: the scaled rows plus the gated projection of the two halves side by side. -/
def resid (h gt : FVec Ideal S8x4352x1024 .f32) (d r : FVec Ideal S8x4352x512 .bf16) (a8 : FVec Ideal S1024x1024 .f32) :
    FVec Ideal S8x4352x1024 .f32 :=
  addf (mulf (num 0x3FD744FD#32) h)
    (mulf gt (Host.dotGeneral dot_S8x4352x1024_S1024x1024_S8x4352x1024_2_0_01_1_n_n none
      (concatenate S8x4352x1024 2 [⟨S8x4352x512, extf .f32 d bitsLt_bf16_f32⟩, ⟨S8x4352x512, extf .f32 r bitsLt_bf16_f32⟩]
        concatenates_S8x4352x512_S8x4352x512_S8x4352x1024_d2) a8))

theorem resid_at (h gt : FVec Ideal S8x4352x1024 .f32) (d r : FVec Ideal S8x4352x512 .bf16) (a8 : FVec Ideal S1024x1024 .f32)
    (s : Fin 8) (t : Fin 4352) (n : Fin 1024) :
    resid h gt d r a8 (ix3 s t n)
      = resRow (fun k => h (ix3 s t k)) (fun k => gt (ix3 s t k)) (fun o =>
          colDot (fun k : Fin 512 => d (ix3 s t k)) (fun k o => a8 (ix2 ⟨k, by omega⟩ o)) o
          + colDot (fun k : Fin 512 => r (ix3 s t k)) (fun k o => a8 (ix2 ⟨512 + k, by omega⟩ o)) o) n := by
  pointwise [resid, num, resRow, colDot]

/-- The mixed and normalised token rows. -/
def mixed (h gt : FVec Ideal S8x4352x1024 .f32) (d r : FVec Ideal S8x4352x512 .bf16) (a6 a7 : FVec Ideal S1024 .f32)
    (a8 : FVec Ideal S1024x1024 .f32) : FVec Ideal S8x4352x1024 .f32 :=
  norm (resid h gt d r a8) a6 a7

theorem mixed_at (h gt : FVec Ideal S8x4352x1024 .f32) (d r : FVec Ideal S8x4352x512 .bf16) (a6 a7 : FVec Ideal S1024 .f32)
    (a8 : FVec Ideal S1024x1024 .f32) (s : Fin 8) (t : Fin 4352) (n : Fin 1024) :
    mixed h gt d r a6 a7 a8 (ix3 s t n)
      = mixRow (fun k => h (ix3 s t k)) (fun k => gt (ix3 s t k)) (fun k => a6 (ix1 k)) (fun k => a7 (ix1 k))
          (fun k => d (ix3 s t k)) (fun k => r (ix3 s t k)) (fun k o => a8 (ix2 k o)) n := by
  refine (norm_at _ _ _ s t n).trans ?_
  unfold mixRow
  exact congrArg (fun v => lnRow v _ _ n) (funext fun k => resid_at h gt d r a8 s t k)

variable (V : Valuation τ sig (Elt Ideal))

/-- The arguments: the residual stream, the first half of the mixing output, each for latent and context tokens; the second
    half of the mixing output; the modulation rows; the mixing's gain, offset and projection; the feed-forward's two
    matrices; the half step's gain and offset. -/
abbrev A0 : FVec Ideal S8x4096x1024 .f32 := V (Proc.devRef .tc main_arg0)
abbrev A1 : FVec Ideal S8x256x1024 .f32 := V (Proc.devRef .tc main_arg1)
abbrev A2 : FVec Ideal S8x4096x512 .bf16 := V (Proc.devRef .tc main_arg2)
abbrev A3 : FVec Ideal S8x256x512 .bf16 := V (Proc.devRef .tc main_arg3)
abbrev A4 : FVec Ideal S8x4352x512 .bf16 := V (Proc.devRef .tc main_arg4)
abbrev A5 : FVec Ideal S16x9x1024 .f32 := V (Proc.devRef .tc main_arg5)
abbrev A6 : FVec Ideal S1024 .f32 := V (Proc.devRef .tc main_arg6)
abbrev A7 : FVec Ideal S1024 .f32 := V (Proc.devRef .tc main_arg7)
abbrev A8 : FVec Ideal S1024x1024 .f32 := V (Proc.devRef .tc main_arg8)
abbrev A9 : FVec Ideal S1024x5632 .f32 := V (Proc.devRef .tc main_arg9)
abbrev A10 : FVec Ideal S2816x1024 .f32 := V (Proc.devRef .tc main_arg10)
abbrev A11 : FVec Ideal S1024 .f32 := V (Proc.devRef .tc main_arg11)
abbrev A12 : FVec Ideal S1024 .f32 := V (Proc.devRef .tc main_arg12)

/-- The mixed rows of the arguments. -/
def first : FVec Ideal S8x4352x1024 .f32 :=
  mixed (rows (A0 V) (A1 V)) (mixGate (A5 V)) (halves (A2 V) (A3 V)) (A4 V) (A6 V) (A7 V) (A8 V)

/-- Their half step. -/
def whole : FVec Ideal S8x4352x1024 .f32 :=
  step (first V) (shift (A5 V)) (scale (A5 V)) (gate (A5 V)) (A9 V) (A10 V) (A11 V) (A12 V)

theorem v18_eq : res_main_v18 V = resid (rows (A0 V) (A1 V)) (mixGate (A5 V)) (halves (A2 V) (A3 V)) (A4 V) (A8 V) := rfl

theorem v42_eq : res_main_v42 V = first V := by
  unfold first mixed
  rw [← v18_eq]
  rfl

theorem v85_eq : res_main_v85 V
    = CtxRef.resid (first V) (gate (A5 V)) (CtxRef.hidden (CtxRef.wide (first V) (shift (A5 V)) (scale (A5 V)) (A9 V))) (A10 V) := by
  rw [← v42_eq]
  rfl

theorem whole_eq : res_main_v109 V = whole V := by
  unfold whole step
  rw [← v85_eq]
  rfl

/-- The array of latent rows. -/
theorem result_lat : (show FVec Ideal S8x4096x1024 .f32 from
      extractStridedSlice S8x4096x1024 ![0, 0, 0] (res_main_v109 V) slices_S8x4352x1024_S8x4096x1024_0_0_0) = fun i =>
    mixLatResult (A0 V) (A2 V) (A4 V) (A5 V) (A6 V) (A7 V) (A8 V) (A9 V) (A10 V) (A11 V) (A12 V) (i 0) (i 1) (i 2) := by
  refine funext fun (i : S8x4096x1024.Idx) => ?_
  obtain ⟨s, r, n, rfl⟩ : ∃ s r n, i = ix3 s r n := ⟨i 0, i 1, i 2, eq_ix3 i⟩
  rw [whole_eq]
  refine (show _ = whole V (ix3 s ⟨r, by omega⟩ n) from ?_).trans ?_
  · generalize whole V = w
    pointwise
  refine (step_at _ _ _ _ _ _ _ _ s _ n).trans ?_
  unfold first
  simp only [mixed_at, rows_lat, halves_lat, mixGate_lat, shift_lat, scale_lat, gate_lat]
  rfl

/-- The array of context rows. -/
theorem result_ctx : (show FVec Ideal S8x256x1024 .f32 from
      extractStridedSlice S8x256x1024 ![0, 4096, 0] (res_main_v109 V) slices_S8x4352x1024_S8x256x1024_0_4096_0) = fun i =>
    mixCtxResult (A1 V) (A3 V) (A4 V) (A5 V) (A6 V) (A7 V) (A8 V) (A9 V) (A10 V) (A11 V) (A12 V) (i 0) (i 1) (i 2) := by
  refine funext fun (i : S8x256x1024.Idx) => ?_
  obtain ⟨s, r, n, rfl⟩ : ∃ s r n, i = ix3 s r n := ⟨i 0, i 1, i 2, eq_ix3 i⟩
  rw [whole_eq]
  refine (show _ = whole V (ix3 s ⟨4096 + r, by omega⟩ n) from ?_).trans ?_
  · generalize whole V = w
    pointwise
  refine (step_at _ _ _ _ _ _ _ _ s _ n).trans ?_
  unfold first
  simp only [mixed_at, rows_ctx, halves_ctx, mixGate_ctx, shift_ctx, scale_ctx, gate_ctx]
  rfl

end Cert.Ffn.MixRef

end
-- ==== Proof.FfnJointSpec.lean ====
module

public import proofs.«01_k».proof.Proof.FfnMixSpec

/-! The rows of the half step when both halves of the mixing output are joint arrays, a sample's latent tokens followed by its
    context tokens. -/

@[expose] public section

noncomputable section

namespace Cert.Ffn

open Idealize.ShloMosaic

/-- Latent token `t` of sample `b`: row `t` of both joint arrays, the modulation of the sample. -/
def jointLatResult (a0 : FVec Ideal ⟨3, ![8, 4096, 1024]⟩ .f32) (d r : FVec Ideal ⟨3, ![8, 4352, 512]⟩ .bf16)
    (a4 : FVec Ideal ⟨3, ![16, 9, 1024]⟩ .f32) (a5 a6 : FVec Ideal ⟨1, ![1024]⟩ .f32)
    (a7 : FVec Ideal ⟨2, ![1024, 1024]⟩ .f32) (a8 : FVec Ideal ⟨2, ![1024, 5632]⟩ .f32)
    (a9 : FVec Ideal ⟨2, ![2816, 1024]⟩ .f32) (a10 a11 : FVec Ideal ⟨1, ![1024]⟩ .f32) (b : Fin 8) (t : Fin 4096) : Row :=
  mixStepRow (fun k => a0 (ix3 b t k)) (fun k => d (ix3 b ⟨t, by omega⟩ k)) (fun k => r (ix3 b ⟨t, by omega⟩ k)) a4
    ⟨b, by omega⟩ a5 a6 a7 a8 a9 a10 a11

/-- Context token `t` of sample `b`: row `4096 + t` of both joint arrays, the table's modulation row 8. -/
def jointCtxResult (a1 : FVec Ideal ⟨3, ![8, 256, 1024]⟩ .f32) (d r : FVec Ideal ⟨3, ![8, 4352, 512]⟩ .bf16)
    (a4 : FVec Ideal ⟨3, ![16, 9, 1024]⟩ .f32) (a5 a6 : FVec Ideal ⟨1, ![1024]⟩ .f32)
    (a7 : FVec Ideal ⟨2, ![1024, 1024]⟩ .f32) (a8 : FVec Ideal ⟨2, ![1024, 5632]⟩ .f32)
    (a9 : FVec Ideal ⟨2, ![2816, 1024]⟩ .f32) (a10 a11 : FVec Ideal ⟨1, ![1024]⟩ .f32) (b : Fin 8) (t : Fin 256) : Row :=
  mixStepRow (fun k => a1 (ix3 b t k)) (fun k => d (ix3 b ⟨4096 + t, by omega⟩ k))
    (fun k => r (ix3 b ⟨4096 + t, by omega⟩ k)) a4 8 a5 a6 a7 a8 a9 a10 a11

end Cert.Ffn

end
-- ==== Proof.FfnJointRun.lean ====
module

public import proofs.«01_k».proof.Proof.Gen.Kernel5Ideal.Frame
public import proofs.«01_k».proof.Proof.Gen.Kernel5Ideal.Skeleton

/-! One grid point of the feed-forward call with context and mixing over all tokens, run on any staging memrefs, over any float values. -/

@[expose] public section

set_option maxRecDepth 16384

noncomputable section

namespace Cert.Ffn.Joint

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]

/-- The grid point works on latent rows: the condition of the body's first `scf.if`. -/
abbrev latAt (i : grid0.Coords) : Prop := k0_cond1 i = 1#1

/-- The grid point works on context rows: the condition of the body's second `scf.if`. -/
abbrev ctxAt (i : grid0.Coords) : Prop := k0_cond2 i = 1#1

set_option maxHeartbeats 2000000 in
/-- A point of latent rows: the body fills the latent output and leaves the context output as it finds it. The pieces written to the output and
    to the scratch are the ones the run finds. -/
def runLat (c : Dev nD) (i : grid0.Coords)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1x256x1024 .f32) (harg5 : arg5.IsWhole)
    (arg6 : Memref sig .tc .vmem S1x256x512 .bf16) (harg6 : arg6.IsWhole)
    (arg7 : Memref sig .tc .vmem S1x256x512 .bf16) (harg7 : arg7.IsWhole)
    (arg8 : Memref sig .tc .vmem S1x9x1024 .f32) (harg8 : arg8.IsWhole)
    (arg9 : Memref sig .tc .vmem S1x9x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1024x5632 .bf16) (harg14 : arg14.IsWhole)
    (arg15 : Memref sig .tc .vmem S2816x1024 .bf16) (harg15 : arg15.IsWhole)
    (arg16 : Memref sig .tc .vmem S1x1024 .f32) (harg16 : arg16.IsWhole)
    (arg17 : Memref sig .tc .vmem S1x1024 .f32) (harg17 : arg17.IsWhole)
    (arg18 : Memref sig .tc .vmem S1x512x1024 .f32) (harg18 : arg18.IsWhole)
    (arg19 : Memref sig .tc .vmem S1x256x1024 .f32) (harg19 : arg19.IsWhole)
    (arg20 : Memref sig .tc .vmem S512x2816 .bf16) (harg20 : arg20.IsWhole)
    (hc0 : latAt i) (hc1 : ¬ctxAt i)
    (x0 : Vec F S1x512x1024 .f32) (x1 : Vec F S1x512x512 .bf16) (x2 : Vec F S1x512x512 .bf16) (x3 : Vec F S1x256x1024 .f32)
    (x4 : Vec F S1x256x512 .bf16) (x5 : Vec F S1x256x512 .bf16) (x6 : Vec F S1x9x1024 .f32) (x7 : Vec F S1x9x1024 .f32)
    (x8 : Vec F S512x1024 .bf16) (x9 : Vec F S512x1024 .bf16) (x10 : Vec F S1x1024 .f32) (x11 : Vec F S1x1024 .f32)
    (x12 : Vec F S1024x5632 .bf16) (x13 : Vec F S2816x1024 .bf16) (x14 : Vec F S1x1024 .f32) (x15 : Vec F S1x1024 .f32) :
    Σ' (L : List (View.Piece (Elt F) S1x512x1024 .f32)), { LT : List (View.Piece (Elt F) S512x2816 .bf16) //
      ∀ (y : Vec F S1x256x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare y ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L) ∗ owns (c : Thread nD τ) arg19 fullShare y
              ∗ (∃ f, arg20.view.loc (c : Thread nD τ) ↦[arg20.view.set]{fullShare} arg20.view.writes (Elt F) f LT)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun y E K => ?run⟩
  case run =>
    simp only [cc0_ffn_half_step_eq_skeleton]; unfold cc0_ffn_half_step_skel
    simp only [k0_part1_eq_skeleton, k0_part2_eq_skeleton, k0_part3_eq_skeleton, k0_part4_eq_skeleton, k0_part5_eq_skeleton, k0_part6_eq_skeleton]
    generalize (owns (c : Thread nD τ) arg19 fullShare y : sProp (MT nD τ sig Unit (Elt F) ℕ (UR sig nD τ) ℕ)) = kept
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, H17, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexact H17
    iexists _; iexact HS

set_option maxHeartbeats 2000000 in
/-- A point of context rows: the body fills the context output and leaves the latent output as it finds it. The pieces written to the output and
    to the scratch are the ones the run finds. -/
def runCtx (c : Dev nD) (i : grid0.Coords)
    (arg2 : Memref sig .tc .vmem S1x512x1024 .f32) (harg2 : arg2.IsWhole)
    (arg3 : Memref sig .tc .vmem S1x512x512 .bf16) (harg3 : arg3.IsWhole)
    (arg4 : Memref sig .tc .vmem S1x512x512 .bf16) (harg4 : arg4.IsWhole)
    (arg5 : Memref sig .tc .vmem S1x256x1024 .f32) (harg5 : arg5.IsWhole)
    (arg6 : Memref sig .tc .vmem S1x256x512 .bf16) (harg6 : arg6.IsWhole)
    (arg7 : Memref sig .tc .vmem S1x256x512 .bf16) (harg7 : arg7.IsWhole)
    (arg8 : Memref sig .tc .vmem S1x9x1024 .f32) (harg8 : arg8.IsWhole)
    (arg9 : Memref sig .tc .vmem S1x9x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1024x5632 .bf16) (harg14 : arg14.IsWhole)
    (arg15 : Memref sig .tc .vmem S2816x1024 .bf16) (harg15 : arg15.IsWhole)
    (arg16 : Memref sig .tc .vmem S1x1024 .f32) (harg16 : arg16.IsWhole)
    (arg17 : Memref sig .tc .vmem S1x1024 .f32) (harg17 : arg17.IsWhole)
    (arg18 : Memref sig .tc .vmem S1x512x1024 .f32) (harg18 : arg18.IsWhole)
    (arg19 : Memref sig .tc .vmem S1x256x1024 .f32) (harg19 : arg19.IsWhole)
    (arg20 : Memref sig .tc .vmem S512x2816 .bf16) (harg20 : arg20.IsWhole)
    (hc0 : ¬latAt i) (hc1 : ctxAt i)
    (x0 : Vec F S1x512x1024 .f32) (x1 : Vec F S1x512x512 .bf16) (x2 : Vec F S1x512x512 .bf16) (x3 : Vec F S1x256x1024 .f32)
    (x4 : Vec F S1x256x512 .bf16) (x5 : Vec F S1x256x512 .bf16) (x6 : Vec F S1x9x1024 .f32) (x7 : Vec F S1x9x1024 .f32)
    (x8 : Vec F S512x1024 .bf16) (x9 : Vec F S512x1024 .bf16) (x10 : Vec F S1x1024 .f32) (x11 : Vec F S1x1024 .f32)
    (x12 : Vec F S1024x5632 .bf16) (x13 : Vec F S2816x1024 .bf16) (x14 : Vec F S1x1024 .f32) (x15 : Vec F S1x1024 .f32) :
    Σ' (L : List (View.Piece (Elt F) S1x256x1024 .f32)), { LT : List (View.Piece (Elt F) S512x2816 .bf16) //
      ∀ (y : Vec F S1x512x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare y ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare y ∗ (∃ f, arg19.view.loc (c : Thread nD τ) ↦[arg19.view.set]{fullShare} arg19.view.writes (Elt F) f L)
              ∗ (∃ f, arg20.view.loc (c : Thread nD τ) ↦[arg20.view.set]{fullShare} arg20.view.writes (Elt F) f LT)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun y E K => ?run⟩
  case run =>
    simp only [cc0_ffn_half_step_eq_skeleton]; unfold cc0_ffn_half_step_skel
    simp only [k0_part7_eq_skeleton, k0_part8_eq_skeleton, k0_part9_eq_skeleton, k0_part10_eq_skeleton, k0_part11_eq_skeleton, k0_part12_eq_skeleton]
    generalize (owns (c : Thread nD τ) arg18 fullShare y : sProp (MT nD τ sig Unit (Elt F) ℕ (UR sig nD τ) ℕ)) = kept
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, H16, ⟨%d17, %f17, -, H17⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexact H16
    isplitl [H17]; · iexists _; iexact H17
    iexists _; iexact HS

end Cert.Ffn.Joint

end
-- ==== Proof.FfnJointFrame.lean ====
module

public import proofs.«01_k».proof.Proof.FfnJointRun
public import Idealize.ShloMosaic.Lib.Claim
public import Idealize.ShloMosaic.Lib.Pipeline.TableIdle
public import Idealize.ShloMosaic.Lib.Pipeline.FrameBody
public import Idealize.ShloMosaic.Lib.WordCmp

/-! The whole run of the feed-forward call with context and mixing over all tokens, over any float values: every execution ends, the inputs keep their contents, and the two
    outputs hold what the grid points leave. The latent output's last block of a sample is written back one point after the
    point that fills it, at the point of context rows. -/

@[expose] public section

set_option maxRecDepth 16384

noncomputable section

namespace Cert.Ffn.Joint

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]

variable (m : (ℓ : Loc nD τ sig) → Buf (Elt F) ℓ) (ρ : Dev nD → PrngReg) (c : Dev nD) (t : Fin cfg0.N)

theorem lat_iff : latAt (grid0.coords t) ↔ t.val % 9 ≤ 7 :=
  (by decide +kernel : ∀ t : Fin grid0.N, latAt (grid0.coords t) ↔ t.val % 9 ≤ 7) t

theorem ctx_iff : ctxAt (grid0.coords t) ↔ t.val % 9 = 8 :=
  (by decide +kernel : ∀ t : Fin grid0.N, ctxAt (grid0.coords t) ↔ t.val % 9 = 8) t

/-- The pieces the body writes to the latent output at point `t`. -/
def outLatPieces (h : t.val % 9 ≤ 7) : List (View.Piece (Elt F) S1x512x1024 .f32) :=
  (runLat c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17))
    (Memref.whole cc0_scratch0) (Memref.isWhole_whole _)
    ((lat_iff t).mpr h) (fun h' => absurd ((ctx_iff t).mp h') (by omega))
    (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).1

/-- They fill the block. -/
theorem outLat_cover (h : t.val % 9 ≤ 7) (y : S1x512x1024.Idx) : ∃ pc ∈ outLatPieces m c t h, y ∈ pc.1.set :=
  View.cover_of_tiledL (outLatPieces m c t h) S1x512x1024.size (by sl_kernel_rfl) y

/-- What the latent output's staging buffer holds after point `t`. -/
def outLat (h : t.val % 9 ≤ 7) : Vec F S1x512x1024 .f32 :=
  (Memref.whole cc0_stg16_0 : Memref sig .tc .vmem S1x512x1024 .f32).view.read (Elt F)
    ((Memref.whole cc0_stg16_0 : Memref sig .tc .vmem S1x512x1024 .f32).view.writes (Elt F)
      (Memref.whole cc0_stg16_0 : Memref sig .tc .vmem S1x512x1024 .f32).view.junk (outLatPieces m c t h))

/-- The pieces the body writes to the context output at point `t`. -/
def outCtxPieces (h : t.val % 9 = 8) : List (View.Piece (Elt F) S1x256x1024 .f32) :=
  (runCtx c (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17))
    (Memref.whole cc0_scratch0) (Memref.isWhole_whole _)
    (fun h' => absurd ((lat_iff t).mp h') (by omega)) ((ctx_iff t).mpr h)
    (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).1

/-- They fill the block. -/
theorem outCtx_cover (h : t.val % 9 = 8) (y : S1x256x1024.Idx) : ∃ pc ∈ outCtxPieces m c t h, y ∈ pc.1.set :=
  View.cover_of_tiledL (outCtxPieces m c t h) S1x256x1024.size (by sl_kernel_rfl) y

/-- What the context output's staging buffer holds after point `t`. -/
def outCtx (h : t.val % 9 = 8) : Vec F S1x256x1024 .f32 :=
  (Memref.whole cc0_stg17_0 : Memref sig .tc .vmem S1x256x1024 .f32).view.read (Elt F)
    ((Memref.whole cc0_stg17_0 : Memref sig .tc .vmem S1x256x1024 .f32).view.writes (Elt F)
      (Memref.whole cc0_stg17_0 : Memref sig .tc .vmem S1x256x1024 .f32).view.junk (outCtxPieces m c t h))

/-- The last point of latent rows up to `t`. -/
def lastLat : Fin cfg0.N := ⟨if t.val % 9 = 8 then t.val - 1 else t.val, by have := t.isLt; split <;> omega⟩

theorem lastLat_le : (lastLat t).val % 9 ≤ 7 := by
  show (if t.val % 9 = 8 then t.val - 1 else t.val) % 9 ≤ 7
  split <;> omega

/-- The proof data: each input's buffer keeps its block, the latent output's holds what the last point of latent rows
    left, the context output's what its point leaves (at the other points nothing reads it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outLat m c (lastLat t) (lastLat_le t)
    | ⟨17, _⟩ => if h : t.val % 9 = 8 then outCtx m c t h else iblk m c 3 t
    | ⟨n + 18, h⟩ => absurd h (by show ¬n + 18 < 18; omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = X0_1 m c t := by dsimp only [dats]
theorem after_2 : (dats m 0 c).after 2 t = X0_2 m c t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = iblk m c 14 t := by dsimp only [dats]
theorem after_15 : (dats m 0 c).after 15 t = iblk m c 15 t := by dsimp only [dats]
theorem after_16 : (dats m 0 c).after 16 t = outLat m c (lastLat t) (lastLat_le t) := by dsimp only [dats]
theorem after_17 (h : t.val % 9 = 8) : (dats m 0 c).after 17 t = outCtx m c t h := by
  dsimp only [dats]; exact dif_pos h

theorem before_0 (d) : (dats m 0 c).before 0 t d = iblk m c 0 t :=
  before0_0_of m (dats m 0 c) (A_eq m c 0) (after_0 m c) t d
theorem before_1 (d) : (dats m 0 c).before 1 t d = X0_1 m c t :=
  before0_1_of m (dats m 0 c) (A_eq m c 1) (after_1 m c) t d
theorem before_2 (d) : (dats m 0 c).before 2 t d = X0_2 m c t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d
theorem before_10 (d) : (dats m 0 c).before 10 t d = iblk m c 10 t :=
  before0_10_of m (dats m 0 c) (A_eq m c 10) (after_10 m c) t d
theorem before_11 (d) : (dats m 0 c).before 11 t d = iblk m c 11 t :=
  before0_11_of m (dats m 0 c) (A_eq m c 11) (after_11 m c) t d
theorem before_12 (d) : (dats m 0 c).before 12 t d = iblk m c 12 t :=
  before0_12_of m (dats m 0 c) (A_eq m c 12) (after_12 m c) t d
theorem before_13 (d) : (dats m 0 c).before 13 t d = iblk m c 13 t :=
  before0_13_of m (dats m 0 c) (A_eq m c 13) (after_13 m c) t d
theorem before_14 (d) : (dats m 0 c).before 14 t d = iblk m c 14 t :=
  before0_14_of m (dats m 0 c) (A_eq m c 14) (after_14 m c) t d
theorem before_15 (d) : (dats m 0 c).before 15 t d = iblk m c 15 t :=
  before0_15_of m (dats m 0 c) (A_eq m c 15) (after_15 m c) t d

theorem leaves_0 : (dats m 0 c).leavesExact 0 t = owns (c : Thread nD τ) ((cfg0.win 0).stage (cfg0.slots t 0)) fullShare (iblk m c 0 t) := by
  unfold Dat.leavesExact; rw [show cfg0.idle 0 (cfg0.grid.coords t) = false from rfl, after_0]
theorem leaves_1 : (dats m 0 c).leavesExact 1 t = owns (c : Thread nD τ) ((cfg0.win 1).stage (cfg0.slots t 1)) fullShare (X0_1 m c t) := by
  unfold Dat.leavesExact; rw [show cfg0.idle 1 (cfg0.grid.coords t) = false from rfl, after_1]
theorem leaves_2 : (dats m 0 c).leavesExact 2 t = owns (c : Thread nD τ) ((cfg0.win 2).stage (cfg0.slots t 2)) fullShare (X0_2 m c t) := by
  unfold Dat.leavesExact; rw [show cfg0.idle 2 (cfg0.grid.coords t) = false from rfl, after_2]
theorem leaves_3 : (dats m 0 c).leavesExact 3 t = owns (c : Thread nD τ) ((cfg0.win 3).stage (cfg0.slots t 3)) fullShare (iblk m c 3 t) := by
  unfold Dat.leavesExact; rw [show cfg0.idle 3 (cfg0.grid.coords t) = false from rfl, after_3]
theorem leaves_4 : (dats m 0 c).leavesExact 4 t = owns (c : Thread nD τ) ((cfg0.win 4).stage (cfg0.slots t 4)) fullShare (iblk m c 4 t) := by
  unfold Dat.leavesExact; rw [show cfg0.idle 4 (cfg0.grid.coords t) = false from rfl, after_4]
theorem leaves_5 : (dats m 0 c).leavesExact 5 t = owns (c : Thread nD τ) ((cfg0.win 5).stage (cfg0.slots t 5)) fullShare (iblk m c 5 t) := by
  unfold Dat.leavesExact; rw [show cfg0.idle 5 (cfg0.grid.coords t) = false from rfl, after_5]
theorem leaves_6 : (dats m 0 c).leavesExact 6 t = owns (c : Thread nD τ) ((cfg0.win 6).stage (cfg0.slots t 6)) fullShare (iblk m c 6 t) := by
  unfold Dat.leavesExact; rw [show cfg0.idle 6 (cfg0.grid.coords t) = false from rfl, after_6]
theorem leaves_7 : (dats m 0 c).leavesExact 7 t = owns (c : Thread nD τ) ((cfg0.win 7).stage (cfg0.slots t 7)) fullShare (iblk m c 7 t) := by
  unfold Dat.leavesExact; rw [show cfg0.idle 7 (cfg0.grid.coords t) = false from rfl, after_7]
theorem leaves_8 : (dats m 0 c).leavesExact 8 t = owns (c : Thread nD τ) ((cfg0.win 8).stage (cfg0.slots t 8)) fullShare (iblk m c 8 t) := by
  unfold Dat.leavesExact; rw [show cfg0.idle 8 (cfg0.grid.coords t) = false from rfl, after_8]
theorem leaves_9 : (dats m 0 c).leavesExact 9 t = owns (c : Thread nD τ) ((cfg0.win 9).stage (cfg0.slots t 9)) fullShare (iblk m c 9 t) := by
  unfold Dat.leavesExact; rw [show cfg0.idle 9 (cfg0.grid.coords t) = false from rfl, after_9]
theorem leaves_10 : (dats m 0 c).leavesExact 10 t = owns (c : Thread nD τ) ((cfg0.win 10).stage (cfg0.slots t 10)) fullShare (iblk m c 10 t) := by
  unfold Dat.leavesExact; rw [show cfg0.idle 10 (cfg0.grid.coords t) = false from rfl, after_10]
theorem leaves_11 : (dats m 0 c).leavesExact 11 t = owns (c : Thread nD τ) ((cfg0.win 11).stage (cfg0.slots t 11)) fullShare (iblk m c 11 t) := by
  unfold Dat.leavesExact; rw [show cfg0.idle 11 (cfg0.grid.coords t) = false from rfl, after_11]
theorem leaves_12 : (dats m 0 c).leavesExact 12 t = owns (c : Thread nD τ) ((cfg0.win 12).stage (cfg0.slots t 12)) fullShare (iblk m c 12 t) := by
  unfold Dat.leavesExact; rw [show cfg0.idle 12 (cfg0.grid.coords t) = false from rfl, after_12]
theorem leaves_13 : (dats m 0 c).leavesExact 13 t = owns (c : Thread nD τ) ((cfg0.win 13).stage (cfg0.slots t 13)) fullShare (iblk m c 13 t) := by
  unfold Dat.leavesExact; rw [show cfg0.idle 13 (cfg0.grid.coords t) = false from rfl, after_13]
theorem leaves_14 : (dats m 0 c).leavesExact 14 t = owns (c : Thread nD τ) ((cfg0.win 14).stage (cfg0.slots t 14)) fullShare (iblk m c 14 t) := by
  unfold Dat.leavesExact; rw [show cfg0.idle 14 (cfg0.grid.coords t) = false from rfl, after_14]
theorem leaves_15 : (dats m 0 c).leavesExact 15 t = owns (c : Thread nD τ) ((cfg0.win 15).stage (cfg0.slots t 15)) fullShare (iblk m c 15 t) := by
  unfold Dat.leavesExact; rw [show cfg0.idle 15 (cfg0.grid.coords t) = false from rfl, after_15]

theorem outLat_congr (s s' : Fin cfg0.N) (e : s = s') (h : s.val % 9 ≤ 7) (h' : s'.val % 9 ≤ 7) :
    outLat m c s h = outLat m c s' h' := by
  subst e; rfl

theorem lastLat_of_lat (h : t.val % 9 ≤ 7) : lastLat t = t :=
  Fin.ext (if_neg (by omega))

/-- A point of latent rows names its own block. -/
theorem after_lat (h : t.val % 9 ≤ 7) : (dats m 0 c).after 16 t = outLat m c t h :=
  (after_16 m c t).trans (outLat_congr m c _ _ (lastLat_of_lat t h) _ _)

/-- The point of context rows names the block of the point before it. -/
theorem after_carry (h : t.val % 9 = 8) : (dats m 0 c).after 16 t = (dats m 0 c).after 16 ⟨t.val - 1, by omega⟩ := by
  rw [after_16, after_16]
  refine outLat_congr m c _ _ (Fin.ext ?_) _ _
  show (if t.val % 9 = 8 then t.val - 1 else t.val) = if (t.val - 1) % 9 = 8 then t.val - 1 - 1 else t.val - 1
  rw [if_pos h, if_neg (by omega)]

/-- Where the latent output's window is idle. -/
theorem idle_lat : cfg0.idle 16 (grid0.coords t) = true ↔ t.val % 9 = 8 :=
  (by decide +kernel : ∀ t : Fin grid0.N, idle0 16 (grid0.coords t) = true ↔ t.val % 9 = 8) t

/-- Where the context output's window is idle. -/
theorem idle_ctx : cfg0.idle 17 (grid0.coords t) = true ↔ t.val % 9 ≤ 7 :=
  (by decide +kernel : ∀ t : Fin grid0.N, idle0 17 (grid0.coords t) = true ↔ t.val % 9 ≤ 7) t

/-- At which points the latent output's window is written back. -/
theorem flush_lat : (cfg0.win 16).flush t = true ↔ t.val % 9 ≠ 7 :=
  (by decide +kernel : ∀ t : Fin grid0.N, win0_16.flush t = true ↔ t.val % 9 ≠ 7) t

/-- The latent output's buffer holds nothing of its block except at the points of context rows. -/
theorem fresh_lat (n : ℕ) (hn : n ≤ cfg0.N) : cfg0.fresh 16 n = !decide (n % 9 = 8) := by
  refine cfg0.fresh_tab 16 (fun n => !decide (n % 9 = 8)) rfl (fun t => ?_) n hn
  rw [Bool.eq_iff_iff, Bool.or_eq_true, Bool.and_eq_true, flush_lat, idle_lat]
  simp only [Bool.not_eq_true', decide_eq_false_iff_not]
  omega

theorem ctxAt_before_lat (h : t.val % 9 = 8) (d) : (dats m 0 c).before 16 t d = (dats m 0 c).after 16 t := by
  refine ((dats m 0 c).before_out_traj 16 rfl (fun _ _ => rfl) (fun t _ hi _ => after_carry m c t ((idle_lat t).mp hi)) _ t rfl d).trans ?_
  rw [after_carry m c t h, fresh_lat _ t.isLt.le, h]
  rfl

theorem latAt_leaves_lat (h : t.val % 9 ≤ 7) :
    (dats m 0 c).leavesExact 16 t = owns (c : Thread nD τ) ((cfg0.win 16).stage (cfg0.slots t 16)) fullShare (outLat m c t h) := by
  unfold Dat.leavesExact
  rw [show cfg0.idle 16 (cfg0.grid.coords t) = false from Bool.eq_false_iff.mpr fun hi => by have := (idle_lat t).mp hi; omega,
    after_lat m c t h]

theorem latAt_leaves_ctx (h : t.val % 9 ≤ 7) :
    (dats m 0 c).leavesExact 17 t
      = iprop(∃ d, owns (c : Thread nD τ) ((cfg0.win 17).stage (cfg0.slots t 17)) fullShare ((dats m 0 c).before 17 t d)) :=
  (dats m 0 c).leavesExact_idle 17 t ((idle_ctx t).mpr h)
    (Bool.eq_false_iff.mpr fun hf => by have := (flush0_17 t).mp hf; omega)

theorem ctxAt_leaves_lat (h : t.val % 9 = 8) :
    (dats m 0 c).leavesExact 16 t = owns (c : Thread nD τ) ((cfg0.win 16).stage (cfg0.slots t 16)) fullShare ((dats m 0 c).after 16 t) := by
  unfold Dat.leavesExact
  rw [show cfg0.idle 16 (cfg0.grid.coords t) = true from (idle_lat t).mpr h,
    show (cfg0.win 16).flush t = true from (flush_lat t).mpr (by omega)]

theorem ctxAt_leaves_ctx (h : t.val % 9 = 8) :
    (dats m 0 c).leavesExact 17 t = owns (c : Thread nD τ) ((cfg0.win 17).stage (cfg0.slots t 17)) fullShare (outCtx m c t h) := by
  unfold Dat.leavesExact
  rw [show cfg0.idle 17 (cfg0.grid.coords t) = false from Bool.eq_false_iff.mpr fun hi => by have := (idle_ctx t).mp hi; omega,
    after_17 m c t h]

/-- The invariant between points: the scratch at some contents, and the generator register. -/
theorem inv_eq : (Pipeline.ΦA spec0 c : sProp (MT nD τ sig Unit (Elt F) ℕ (UR sig nD τ) ℕ))
    = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d)))

/-- and what it returns. -/
def bodyPost : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 2000000 in
/-- The body at a point of latent rows. -/
theorem sound_lat (h : t.val % 9 ≤ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.castSucc = Pipeline.ΦA spec0 c from rfl, show (dats m 0 c).Φ t.succ = Pipeline.ΦA spec0 c from rfl, inv_eq,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, latAt_leaves_lat m c t h, latAt_leaves_ctx m c t h]
  unfold outLat outLatPieces
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runLat c (grid0.coords t) _ _ _ _ _ _ _ _ _ _ _ _ _ _ _ _ _ _ _ _ _ _ _ _ _ _ _ _ _ _ _ _ _ _ _ _ _ _ ((lat_iff t).mpr h) (fun h' => absurd ((ctx_iff t).mp h') (by omega)) (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [HS]; · iexact HS
  iintro ⟨H0, H1, H2, H3, H4, H5, H6, H7, H8, H9, H10, H11, H12, H13, H14, H15, ⟨%e, H16⟩, H17, ⟨%fT, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (outLat_cover m c t h)
  iexists _; iexact H17

set_option maxHeartbeats 2000000 in
/-- The body at a point of context rows. -/
theorem sound_ctx (h : t.val % 9 = 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, ctxAt_before_lat m c t h]
  rw [show (dats m 0 c).Φ t.castSucc = Pipeline.ΦA spec0 c from rfl, show (dats m 0 c).Φ t.succ = Pipeline.ΦA spec0 c from rfl, inv_eq,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, ctxAt_leaves_lat m c t h, ctxAt_leaves_ctx m c t h]
  unfold outCtx outCtxPieces
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runCtx c (grid0.coords t) _ _ _ _ _ _ _ _ _ _ _ _ _ _ _ _ _ _ _ _ _ _ _ _ _ _ _ _ _ _ _ _ _ _ _ _ _ _ (fun h' => absurd ((lat_iff t).mp h') (by omega)) ((ctx_iff t).mpr h) (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS]; · iexact HS
  iintro ⟨H0, H1, H2, H3, H4, H5, H6, H7, H8, H9, H10, H11, H12, H13, H14, H15, H16, ⟨%e, H17⟩, ⟨%fT, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro; exact View.read_writes_of_cover _ _ _ _ _ (outCtx_cover m c t h)

/-- The body at any point. -/
theorem sound_body :
    bodyPre m c t ⊢ wp frame (wpE (defs₀ (F := F)) Variants.none c none) Set.univ (bodyAt0 t) (fun _ => bodyPost m c t) :=
  if h : t.val % 9 = 8 then sound_ctx m c t h else sound_lat m c t (by omega)

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

set_option backward.isDefEq.respectTransparency.types false in
/-- Every execution ends with each array of the pipeline at what the proof data say, every other buffer as it was, and
    every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run in the claims' words: the two results are the pipeline's arrays, the arguments unchanged, every semaphore
    counter at zero. -/
theorem run_ends : θ_run defs (onTc (τ := τ) (main (F := F))) ⟨m, fun _ => 0, ρ⟩ (fun r => (∀ c : Dev nD,
      r.2.mem ((c.tc : Thread nD τ).loc main_v10_0) = (dats m 0 c).arrAt 16 cfg0.N
      ∧ r.2.mem ((c.tc : Thread nD τ).loc main_v10_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.2.1 c).1 16, (h.2.1 c).1 17, h.1 c⟩, h.2.2⟩)
    (θ_run_and (frame_of m ρ (dats m) (A_eq m) ((θ_run defs _ _).mono (fun _ h => h.1) (run_main m ρ))) (run_main m ρ))

/-- The arguments unchanged, every semaphore counter at zero: the frame, at any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h.1 c).2.2, h.2⟩) (run_ends m ρ)

end Cert.Ffn.Joint

end
-- ==== Proof.FfnJointPay.lean ====
module

public import proofs.«01_k».proof.Proof.FfnJointSpec
public import proofs.«01_k».proof.Proof.FfnMixPay
public import proofs.«01_k».proof.Proof.FfnJointFrame

/-! What one grid point of the feed-forward call with context and mixing over all tokens computes, by the lemmas of the call
    whose first half of the mixing comes in two arrays, whose body has the same payloads: row `r` of the block it writes is the half step of
    the mixed row `r` of its input blocks, with the modulation rows of its sample at a point of latent rows and of the shared
    row at a point of context rows. -/

@[expose] public section

set_option maxRecDepth 16384

noncomputable section

namespace Cert.Ffn.Joint

open Idealize.ShloMosaic Idealize.ShloMosaic.TcCoe Idealize.SL.Sem
open Cert.Kernel5Ideal Cert.Kernel5Ideal.Gen

/-- The stored latent block is the layer normalisation of the residual. -/
theorem pay1_at (v : FVec Ideal S512x1024 .f32) (g b : Vec Ideal S1x1024 .f32) (r : Fin 512) (n : Fin 1024) :
    k0_pay1 (F := Ideal) v (k0_pay27 g) b (ix3 0 r n)
      = lnRow (fun k => v (ix2 r k)) (fun k => g (ix2 0 k)) (fun k => b (ix2 0 k)) n :=
  Mix.pay1_at v g b r n

/-- The modulated row the products read. -/
theorem pay9_at (g b : FVec Ideal S1x1024 .f32) (v35 : FVec Ideal S512x1024 .f32) (v38 : FVec Ideal S512x1 .f32) (q : Ideal .f32)
    (sh sc : Vec Ideal S1x1x1024 .f32) (r : Fin 512) (n : Fin 1024) :
    k0_pay9 (F := Ideal) g b v35 v38 q sh sc (ix2 r n)
      = modRow (fun k => k0_pay7 (F := Ideal) g b v35 v38 q (ix2 r k)) (fun k => sh (ix3 0 0 k)) (fun k => sc (ix3 0 0 k)) n :=
  Mix.pay9_at g b v35 v38 q sh sc r n

/-- The first tile's payload is the second's at the modulated block. -/
theorem pay10_eq (g b : FVec Ideal S1x1024 .f32) (v35 : FVec Ideal S512x1024 .f32) (v38 : FVec Ideal S512x1 .f32) (q : Ideal .f32)
    (sh sc : Vec Ideal S1x1x1024 .f32) (wa wb : Vec Ideal S1024x256 .bf16) :
    k0_pay10 (F := Ideal) g b v35 v38 q sh sc wa wb = k0_pay11 (k0_pay9 g b v35 v38 q sh sc) wa wb := rfl

/-- The second residual from the hidden layer. -/
theorem pay26_at (h : FVec Ideal S512x1024 .f32) (gt : Vec Ideal S1x1x1024 .f32) (a : Vec Ideal S512x2816 .bf16)
    (w : Vec Ideal S2816x1024 .bf16) (r : Fin 512) (n : Fin 1024) :
    k0_pay26 (F := Ideal) h (k0_pay8 gt) a w (ix2 r n)
      = resRow (fun k => h (ix2 r k)) (fun k => gt (ix3 0 0 k))
          (fun o => Ideal.ofBits FTy.f32 0x3F000000#32 * colDot (fun f => a (ix2 r f)) (fun f o => w (ix2 f o)) o) n :=
  Mix.pay26_at h gt a w r n

/-- The normalised first residual of the latent rows, at any gate row `gm`. -/
theorem mix512_at (x0 : Vec Ideal S1x512x1024 .f32) (gm : Vec Ideal S1x1x1024 .f32) (x1 : Vec Ideal S1x512x512 .bf16)
    (w1 : Vec Ideal S512x1024 .bf16) (x2 : Vec Ideal S1x512x512 .bf16) (w2 : Vec Ideal S512x1024 .bf16)
    (g b : Vec Ideal S1x1024 .f32) (r : Fin 512) (n : Fin 1024) (gate : Row) (hg : ∀ k, gm (ix3 0 0 k) = gate k) :
    k0_pay7 (F := Ideal) (k0_pay3 g) (k0_pay4 b) (k0_pay5 x0 gm x1 w1 x2 w2) (k0_pay6 x0 gm x1 w1 x2 w2)
        (Scalar.ofBits .f32 0x44800000#32) (ix2 r n)
      = lnRow (resRow (fun k => x0 (ix3 0 r k)) gate fun o =>
          colDot (fun k => x1 (ix3 0 r k)) (fun k o => w1 (ix2 k o)) o
            + colDot (fun k => x2 (ix3 0 r k)) (fun k o => w2 (ix2 k o)) o)
          (fun k => g (ix2 0 k)) (fun k => b (ix2 0 k)) n :=
  Mix.mix512_at x0 gm x1 w1 x2 w2 g b r n gate hg

/-- The stored context block is the layer normalisation of the residual. -/
theorem pay2_at (v : FVec Ideal S256x1024 .f32) (g b : Vec Ideal S1x1024 .f32) (r : Fin 256) (n : Fin 1024) :
    k0_pay2 (F := Ideal) v (k0_pay52 g) b (ix3 0 r n)
      = lnRow (fun k => v (ix2 r k)) (fun k => g (ix2 0 k)) (fun k => b (ix2 0 k)) n :=
  Mix.pay2_at v g b r n

/-- The modulated row the products read. -/
theorem pay34_at (g b : FVec Ideal S1x1024 .f32) (v35 : FVec Ideal S256x1024 .f32) (v38 : FVec Ideal S256x1 .f32) (q : Ideal .f32)
    (sh sc : Vec Ideal S1x1x1024 .f32) (r : Fin 256) (n : Fin 1024) :
    k0_pay34 (F := Ideal) g b v35 v38 q sh sc (ix2 r n)
      = modRow (fun k => k0_pay32 (F := Ideal) g b v35 v38 q (ix2 r k)) (fun k => sh (ix3 0 0 k)) (fun k => sc (ix3 0 0 k)) n :=
  Mix.pay34_at g b v35 v38 q sh sc r n

/-- The first tile's payload is the second's at the modulated block. -/
theorem pay35_eq (g b : FVec Ideal S1x1024 .f32) (v35 : FVec Ideal S256x1024 .f32) (v38 : FVec Ideal S256x1 .f32) (q : Ideal .f32)
    (sh sc : Vec Ideal S1x1x1024 .f32) (wa wb : Vec Ideal S1024x256 .bf16) :
    k0_pay35 (F := Ideal) g b v35 v38 q sh sc wa wb = k0_pay36 (k0_pay34 g b v35 v38 q sh sc) wa wb := rfl

/-- The second residual from the hidden layer. -/
theorem pay51_at (h : FVec Ideal S256x1024 .f32) (gt : Vec Ideal S1x1x1024 .f32) (a : Vec Ideal S256x2816 .bf16)
    (w : Vec Ideal S2816x1024 .bf16) (r : Fin 256) (n : Fin 1024) :
    k0_pay51 (F := Ideal) h (k0_pay33 gt) a w (ix2 r n)
      = resRow (fun k => h (ix2 r k)) (fun k => gt (ix3 0 0 k))
          (fun o => Ideal.ofBits FTy.f32 0x3F000000#32 * colDot (fun f => a (ix2 r f)) (fun f o => w (ix2 f o)) o) n :=
  Mix.pay51_at h gt a w r n

/-- The normalised first residual of the context rows, at any gate row `gm`. -/
theorem mix256_at (x0 : Vec Ideal S1x256x1024 .f32) (gm : Vec Ideal S1x1x1024 .f32) (x1 : Vec Ideal S1x256x512 .bf16)
    (w1 : Vec Ideal S512x1024 .bf16) (x2 : Vec Ideal S1x256x512 .bf16) (w2 : Vec Ideal S512x1024 .bf16)
    (g b : Vec Ideal S1x1024 .f32) (r : Fin 256) (n : Fin 1024) (gate : Row) (hg : ∀ k, gm (ix3 0 0 k) = gate k) :
    k0_pay32 (F := Ideal) (k0_pay28 g) (k0_pay29 b) (k0_pay30 x0 gm x1 w1 x2 w2) (k0_pay31 x0 gm x1 w1 x2 w2)
        (Scalar.ofBits .f32 0x44800000#32) (ix2 r n)
      = lnRow (resRow (fun k => x0 (ix3 0 r k)) gate fun o =>
          colDot (fun k => x1 (ix3 0 r k)) (fun k o => w1 (ix2 k o)) o
            + colDot (fun k => x2 (ix3 0 r k)) (fun k o => w2 (ix2 k o)) o)
          (fun k => g (ix2 0 k)) (fun k => b (ix2 0 k)) n :=
  Mix.mix256_at x0 gm x1 w1 x2 w2 g b r n gate hg

variable (m : (ℓ : Loc nD τ sig) → Buf (Elt Ideal) ℓ) (c : Dev nD) (t : Fin cfg0.N)

/-- Row `r` of what a grid point of latent rows leaves in its output block. -/
theorem outLat_at (h : t.val % 9 ≤ 7) (x0 : FVec Ideal S1x512x1024 .f32) (x1 x2 : FVec Ideal S1x512x512 .bf16) (x3 : FVec Ideal S1x9x1024 .f32)
    (x4 x5 : FVec Ideal S512x1024 .bf16) (x6 x7 : FVec Ideal S1x1024 .f32) (x8 : FVec Ideal S1024x5632 .bf16)
    (x9 : FVec Ideal S2816x1024 .bf16) (x10 x11 : FVec Ideal S1x1024 .f32)
    (h0 : iblk m c 0 t = x0) (h1 : X0_1 m c t = x1) (h2 : X0_2 m c t = x2) (h3 : iblk m c 6 t = x3)
    (h4 : iblk m c 8 t = x4) (h5 : iblk m c 9 t = x5) (h6 : iblk m c 10 t = x6) (h7 : iblk m c 11 t = x7)
    (h8 : iblk m c 12 t = x8) (h9 : iblk m c 13 t = x9) (h10 : iblk m c 14 t = x10) (h11 : iblk m c 15 t = x11)
    (r : Fin 512) (n : Fin 1024) :
    outLat m c t h (ix3 0 r n)
      = ffnRow
          (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
          (fun k => x3 (ix3 0 6 k)) (fun k => x3 (ix3 0 7 k)) (fun k => x3 (ix3 0 8 k))
          (fun k => x10 (ix2 0 k)) (fun k => x11 (ix2 0 k)) (fun k o => x8 (ix2 k o)) (fun f o => x9 (ix2 f o)) n := by
  unfold outLat outLatPieces
  frame_out
  refine (congrFun (View.canon_cons_unit_lit (S := S1x512x1024) _ _ [] (by decide)) _).trans ?_
  rw [h0, h1, h2, h3, h4, h5, h6, h7, h8, h9, h10, h11]
  refine (pay1_at _ _ _ r n).trans ?_
  unfold ffnRow
  refine congrArg (fun v => lnRow v _ _ n) (funext fun k => ?_)
  rw [pay26_at]
  refine resRow_congr (fun k => mix512_at _ _ _ _ _ _ _ _ r k _ fun k => ?_) (fun k => ?_) (fun o => ?_) k
  · pointwise
  · pointwise
  refine congrArg (_ * ·) (Finset.sum_congr rfl fun f _ => Ideal.mul_congr ?_ rfl)
  rw [pay10_eq]
  generalize hX : k0_pay9 (F := Ideal) _ _ _ _ _ _ _ = X
  have hXk : ∀ k : Fin 1024, X (ix2 r k) = modRow
        (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
        (fun k => x3 (ix3 0 6 k)) (fun k => x3 (ix3 0 7 k)) k := by
    intro k
    rw [← hX, pay9_at]
    refine modRow_congr (fun k => mix512_at _ _ _ _ _ _ _ _ r k _ fun k => ?_) (fun k => ?_) (fun k => ?_) k
    · pointwise
    · pointwise
    · pointwise
  generalize modRow _ _ _ = M at hXk ⊢
  clear hX h0 h1 h2 h3 h4 h5 h6 h7 h8 h9 h10 h11
  beta_reduce
  rw [View.readCov_eq_canon']
  pointwise
  canon_tiles x h
  all_goals
    idx_vars x
    obtain rfl : r = x0 := Fin.ext h0
    obtain ⟨fv, hf⟩ := f
    replace h1 : fv = _ := h1
    subst h1
    open_payloads
    pointwise [swiglu, colDot, hXk]
    try simp only [← Nat.add_assoc, Nat.reduceAdd]

/-- Row `r` of what a grid point of context rows leaves in its output block. -/
theorem outCtx_at (h : t.val % 9 = 8) (x0 : FVec Ideal S1x256x1024 .f32) (x1 x2 : FVec Ideal S1x256x512 .bf16) (x3 : FVec Ideal S1x9x1024 .f32)
    (x4 x5 : FVec Ideal S512x1024 .bf16) (x6 x7 : FVec Ideal S1x1024 .f32) (x8 : FVec Ideal S1024x5632 .bf16)
    (x9 : FVec Ideal S2816x1024 .bf16) (x10 x11 : FVec Ideal S1x1024 .f32)
    (h0 : iblk m c 3 t = x0) (h1 : iblk m c 4 t = x1) (h2 : iblk m c 5 t = x2) (h3 : iblk m c 7 t = x3)
    (h4 : iblk m c 8 t = x4) (h5 : iblk m c 9 t = x5) (h6 : iblk m c 10 t = x6) (h7 : iblk m c 11 t = x7)
    (h8 : iblk m c 12 t = x8) (h9 : iblk m c 13 t = x9) (h10 : iblk m c 14 t = x10) (h11 : iblk m c 15 t = x11)
    (r : Fin 256) (n : Fin 1024) :
    outCtx m c t h (ix3 0 r n)
      = ffnRow
          (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
          (fun k => x3 (ix3 0 6 k)) (fun k => x3 (ix3 0 7 k)) (fun k => x3 (ix3 0 8 k))
          (fun k => x10 (ix2 0 k)) (fun k => x11 (ix2 0 k)) (fun k o => x8 (ix2 k o)) (fun f o => x9 (ix2 f o)) n := by
  unfold outCtx outCtxPieces
  frame_out
  refine (congrFun (View.canon_cons_unit_lit (S := S1x256x1024) _ _ [] (by decide)) _).trans ?_
  rw [h0, h1, h2, h3, h4, h5, h6, h7, h8, h9, h10, h11]
  refine (pay2_at _ _ _ r n).trans ?_
  unfold ffnRow
  refine congrArg (fun v => lnRow v _ _ n) (funext fun k => ?_)
  rw [pay51_at]
  refine resRow_congr (fun k => mix256_at _ _ _ _ _ _ _ _ r k _ fun k => ?_) (fun k => ?_) (fun o => ?_) k
  · pointwise
  · pointwise
  refine congrArg (_ * ·) (Finset.sum_congr rfl fun f _ => Ideal.mul_congr ?_ rfl)
  rw [pay35_eq]
  generalize hX : k0_pay34 (F := Ideal) _ _ _ _ _ _ _ = X
  have hXk : ∀ k : Fin 1024, X (ix2 r k) = modRow
        (lnRow (resRow (fun k => x0 (ix3 0 r k)) (fun k => x3 (ix3 0 5 k)) fun o =>
            colDot (fun k => x1 (ix3 0 r k)) (fun k o => x4 (ix2 k o)) o
              + colDot (fun k => x2 (ix3 0 r k)) (fun k o => x5 (ix2 k o)) o)
            (fun k => x6 (ix2 0 k)) (fun k => x7 (ix2 0 k)))
        (fun k => x3 (ix3 0 6 k)) (fun k => x3 (ix3 0 7 k)) k := by
    intro k
    rw [← hX, pay34_at]
    refine modRow_congr (fun k => mix256_at _ _ _ _ _ _ _ _ r k _ fun k => ?_) (fun k => ?_) (fun k => ?_) k
    · pointwise
    · pointwise
    · pointwise
  generalize modRow _ _ _ = M at hXk ⊢
  clear hX h0 h1 h2 h3 h4 h5 h6 h7 h8 h9 h10 h11
  beta_reduce
  rw [View.readCov_eq_canon']
  pointwise
  canon_tiles x h using (by
    simp only [List.mem_cons, exists_eq_or_imp, List.not_mem_nil, or_false, exists_eq_left]
    repeat rw [Mix.mem_cols r.isLt f]
    omega)
  all_goals
    idx_vars x
    obtain rfl : r = x0 := Fin.ext (by simpa using h0)
    obtain ⟨fv, hf⟩ := f
    replace h1 : fv = _ := h1
    subst h1
    open_payloads
    pointwise [swiglu, colDot, hXk]
    try simp only [← Nat.add_assoc, Nat.reduceAdd]

end Cert.Ffn.Joint

end
-- ==== Proof.FfnJointKer.lean ====
module

public import proofs.«01_k».proof.Proof.FfnJointPay

/-! The two arrays the feed-forward call with context and mixing over all tokens leaves: the blocks of latent rows put together are the half step of
    every mixed latent token, with the modulation of its sample; those of context rows, of every mixed context token, with the
    shared modulation row. -/

@[expose] public section

set_option maxRecDepth 16384

noncomputable section

namespace Cert.Ffn.Joint

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- Which block of each array a grid point works on: sample `t / 9`, latent rows `512 * (t % 9) …` (the last ones again at
    the point of context rows); the context rows of a joint array are its block 16 of 256 rows. -/
theorem idx : ∀ t : Fin cfg0.N, win0_0.index t = ![t.val / 9, min (t.val % 9) 7, 0] ∧ win0_1.index t = ![t.val / 9, min (t.val % 9) 7, 0]
    ∧ win0_2.index t = ![t.val / 9, min (t.val % 9) 7, 0] ∧ win0_3.index t = ![t.val / 9, 0, 0]
    ∧ win0_4.index t = ![t.val / 9, 16, 0] ∧ win0_5.index t = ![t.val / 9, 16, 0]
    ∧ win0_6.index t = ![t.val / 9, 0, 0] ∧ win0_7.index t = ![8, 0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![t.val / 9, min (t.val % 9) 7, 0] ∧ win0_17.index t = ![t.val / 9, 0, 0] :=
  (by decide +kernel : ∀ t : Fin grid0.N, _)

/-- The point of context rows is the only one of its sample that writes the context output back. -/
theorem flush_ctx : ∀ t : Fin cfg0.N, (cfg0.win 17).flush t = true → t.val % 9 = 8 :=
  (by decide +kernel : ∀ t : Fin grid0.N, win0_17.flush t = true → t.val % 9 = 8)

variable (t : Fin cfg0.N)

theorem blk0 (r : Fin 512) (k : Fin 1024) (b : Fin 8) (R : Fin 4096) (hb : (b : ℕ) = t.val / 9) (hR : (R : ℕ) = min (t.val % 9) 7 * 512 + r) :
    (show FVec Ideal S1x512x1024 .f32 from iblk m c 0 t) (ix3 0 r k)
      = (show FVec Ideal S8x4096x1024 .f32 from m ((c : Thread nD τ).loc main_arg0)) (ix3 b R k) := by
  blk_point [iblk, V, idx t]

theorem blk1 (r : Fin 512) (k : Fin 512) (b : Fin 8) (R : Fin 4352) (hb : (b : ℕ) = t.val / 9) (hR : (R : ℕ) = min (t.val % 9) 7 * 512 + r) :
    (show FVec Ideal S1x512x512 .bf16 from X0_1 m c t) (ix3 0 r k)
      = (show FVec Ideal S8x4352x512 .bf16 from m ((c : Thread nD τ).loc main_arg2)) (ix3 b R k) := by
  refine (dif_pos (moved0_1 t (ix3 0 r k))).trans ?_
  blk_point [iblk, V, idx t]

theorem blk2 (r : Fin 512) (k : Fin 512) (b : Fin 8) (R : Fin 4352) (hb : (b : ℕ) = t.val / 9) (hR : (R : ℕ) = min (t.val % 9) 7 * 512 + r) :
    (show FVec Ideal S1x512x512 .bf16 from X0_2 m c t) (ix3 0 r k)
      = (show FVec Ideal S8x4352x512 .bf16 from m ((c : Thread nD τ).loc main_arg3)) (ix3 b R k) := by
  refine (dif_pos (moved0_2 t (ix3 0 r k))).trans ?_
  blk_point [iblk, V, idx t]

theorem blk3 (r : Fin 256) (k : Fin 1024) (b : Fin 8) (hb : (b : ℕ) = t.val / 9) :
    (show FVec Ideal S1x256x1024 .f32 from iblk m c 3 t) (ix3 0 r k)
      = (show FVec Ideal S8x256x1024 .f32 from m ((c : Thread nD τ).loc main_arg1)) (ix3 b r k) := by
  blk_point [iblk, V, idx t]

theorem blk4 (r : Fin 256) (k : Fin 512) (b : Fin 8) (hb : (b : ℕ) = t.val / 9) :
    (show FVec Ideal S1x256x512 .bf16 from iblk m c 4 t) (ix3 0 r k)
      = (show FVec Ideal S8x4352x512 .bf16 from m ((c : Thread nD τ).loc main_arg2)) (ix3 b ⟨4096 + r, by omega⟩ k) := by
  blk_point [iblk, V, idx t]

theorem blk5 (r : Fin 256) (k : Fin 512) (b : Fin 8) (hb : (b : ℕ) = t.val / 9) :
    (show FVec Ideal S1x256x512 .bf16 from iblk m c 5 t) (ix3 0 r k)
      = (show FVec Ideal S8x4352x512 .bf16 from m ((c : Thread nD τ).loc main_arg3)) (ix3 b ⟨4096 + r, by omega⟩ k) := by
  blk_point [iblk, V, idx t]

theorem blk6 (j : Fin 9) (k : Fin 1024) (b : Fin 16) (hb : (b : ℕ) = t.val / 9) :
    (show FVec Ideal S1x9x1024 .f32 from iblk m c 6 t) (ix3 0 j k)
      = (show FVec Ideal S16x9x1024 .f32 from m ((c : Thread nD τ).loc main_arg4)) (ix3 b j k) := by
  blk_point [iblk, V, idx t]

theorem blk7 (j : Fin 9) (k : Fin 1024) :
    (show FVec Ideal S1x9x1024 .f32 from iblk m c 7 t) (ix3 0 j k)
      = (show FVec Ideal S16x9x1024 .f32 from m ((c : Thread nD τ).loc main_arg4)) (ix3 8 j k) := by
  blk_point [iblk, V, idx t]

theorem blk8 (k : Fin 512) (o : Fin 1024) :
    (show FVec Ideal S512x1024 .bf16 from iblk m c 8 t) (ix2 k o)
      = (show FVec Ideal S1024x1024 .f32 from m ((c : Thread nD τ).loc main_arg7)) (ix2 ⟨k, by omega⟩ o) := by
  blk_point [iblk, V, idx t]

theorem blk9 (k : Fin 512) (o : Fin 1024) :
    (show FVec Ideal S512x1024 .bf16 from iblk m c 9 t) (ix2 k o)
      = (show FVec Ideal S1024x1024 .f32 from m ((c : Thread nD τ).loc main_arg7)) (ix2 ⟨512 + k, by omega⟩ o) := by
  blk_point [iblk, V, idx t]

theorem blk10 (k : Fin 1024) :
    (show FVec Ideal S1x1024 .f32 from iblk m c 10 t) (ix2 0 k)
      = (show FVec Ideal S1024 .f32 from m ((c : Thread nD τ).loc main_arg5)) (ix1 k) := by
  blk_point [iblk, V, idx t]

theorem blk11 (k : Fin 1024) :
    (show FVec Ideal S1x1024 .f32 from iblk m c 11 t) (ix2 0 k)
      = (show FVec Ideal S1024 .f32 from m ((c : Thread nD τ).loc main_arg6)) (ix1 k) := by
  blk_point [iblk, V, idx t]

theorem blk12 (k : Fin 1024) (o : Fin 5632) :
    (show FVec Ideal S1024x5632 .bf16 from iblk m c 12 t) (ix2 k o)
      = (show FVec Ideal S1024x5632 .f32 from m ((c : Thread nD τ).loc main_arg8)) (ix2 k o) := by
  blk_point [iblk, V, idx t]

theorem blk13 (f : Fin 2816) (o : Fin 1024) :
    (show FVec Ideal S2816x1024 .bf16 from iblk m c 13 t) (ix2 f o)
      = (show FVec Ideal S2816x1024 .f32 from m ((c : Thread nD τ).loc main_arg9)) (ix2 f o) := by
  blk_point [iblk, V, idx t]

theorem blk14 (k : Fin 1024) :
    (show FVec Ideal S1x1024 .f32 from iblk m c 14 t) (ix2 0 k)
      = (show FVec Ideal S1024 .f32 from m ((c : Thread nD τ).loc main_arg10)) (ix1 k) := by
  blk_point [iblk, V, idx t]

theorem blk15 (k : Fin 1024) :
    (show FVec Ideal S1x1024 .f32 from iblk m c 15 t) (ix2 0 k)
      = (show FVec Ideal S1024 .f32 from m ((c : Thread nD τ).loc main_arg11)) (ix1 k) := by
  blk_point [iblk, V, idx t]

/-- What a grid point of latent rows stores is its rows of the whole answer. -/
theorem point_lat (h : t.val % 9 ≤ 7) (r : Fin 512) (n : Fin 1024) (b : Fin 8) (R : Fin 4096) (hb : (b : ℕ) = t.val / 9)
    (hR : (R : ℕ) = min (t.val % 9) 7 * 512 + r) :
    outLat m c t h (ix3 0 r n)
      = jointLatResult (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) b R n := by
  have e0 := funext fun k => blk0 m c t r k b R hb hR
  have e1 := funext fun k => blk1 m c t r k b ⟨R, by omega⟩ hb hR
  have e2 := funext fun k => blk2 m c t r k b ⟨R, by omega⟩ hb hR
  have e6 (j : Fin 9) := funext fun k => blk6 m c t j k ⟨b, by omega⟩ hb
  have e8 := funext fun k => funext fun o => blk8 m c t k o
  have e9 := funext fun k => funext fun o => blk9 m c t k o
  have e10 := funext fun k => blk10 m c t k
  have e11 := funext fun k => blk11 m c t k
  have e12 := funext fun k => funext fun o => blk12 m c t k o
  have e13 := funext fun k => funext fun o => blk13 m c t k o
  have e14 := funext fun k => blk14 m c t k
  have e15 := funext fun k => blk15 m c t k
  refine (outLat_at m c t h _ _ _ _ _ _ _ _ _ _ _ _ rfl rfl rfl rfl rfl rfl rfl rfl rfl rfl rfl rfl r n).trans ?_
  unfold jointLatResult mixStepRow mixRow
  rw [e0, e1, e2, e6 5, e6 6, e6 7, e6 8, e8, e9, e10, e11, e12, e13, e14, e15]

/-- What a grid point of context rows stores is its rows of the whole answer. -/
theorem point_ctx (h : t.val % 9 = 8) (r : Fin 256) (n : Fin 1024) (b : Fin 8) (hb : (b : ℕ) = t.val / 9) :
    outCtx m c t h (ix3 0 r n)
      = jointCtxResult (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) b r n := by
  have e3 := funext fun k => blk3 m c t r k b hb
  have e4 := funext fun k => blk4 m c t r k b hb
  have e5 := funext fun k => blk5 m c t r k b hb
  have e7 (j : Fin 9) := funext fun k => blk7 m c t j k
  have e8 := funext fun k => funext fun o => blk8 m c t k o
  have e9 := funext fun k => funext fun o => blk9 m c t k o
  have e10 := funext fun k => blk10 m c t k
  have e11 := funext fun k => blk11 m c t k
  have e12 := funext fun k => funext fun o => blk12 m c t k o
  have e13 := funext fun k => funext fun o => blk13 m c t k o
  have e14 := funext fun k => blk14 m c t k
  have e15 := funext fun k => blk15 m c t k
  refine (outCtx_at m c t h _ _ _ _ _ _ _ _ _ _ _ _ rfl rfl rfl rfl rfl rfl rfl rfl rfl rfl rfl rfl r n).trans ?_
  unfold jointCtxResult mixStepRow mixRow
  rw [e3, e4, e5, e7 5, e7 6, e7 7, e7 8, e8, e9, e10, e11, e12, e13, e14, e15]

/-- The latent rows of a point and of the point of latent rows it names are the same. -/
theorem lastLat_rows : (lastLat t).val / 9 = t.val / 9 ∧ min ((lastLat t).val % 9) 7 = min (t.val % 9) 7 := by
  have e : (lastLat t).val = if t.val % 9 = 8 then t.val - 1 else t.val := rfl
  rw [e]
  split <;> omega

/-- The call's array of latent rows. -/
theorem final_lat : (dats m 0 c).arrAt 16 cfg0.N = fun i =>
    jointLatResult (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (i 0) (i 1) (i 2) := by
  refine (dats m 0 c).arrAt_eq_of_covers 16 _ (by decide +kernel) fun t _ y => ?_
  blk_simp
  rw [after_16]
  obtain ⟨-, -, -, -, -, -, -, -, -, -, -, -, -, -, -, -, e, -⟩ := idx t
  have h1 : (((win0_16.blk t).view.emb y) 0 : ℕ) = t.val / 9 := by
    blk_simp [e]
  have h2 : (((win0_16.blk t).view.emb y) 1 : ℕ) = min (t.val % 9) 7 * 512 + (y 1 : ℕ) := by
    blk_simp [e]
  have h3 : (((win0_16.blk t).view.emb y) 2 : ℕ) = (y 2 : ℕ) := by
    blk_simp [e]
  have hy : (show S1x512x1024.Idx from y) = ix3 0 (y 1) (y 2) := by
    funext a
    match a with
    | 0 => exact Fin.ext (Nat.lt_one_iff.mp (show (y 0 : ℕ) < 1 from (y 0).isLt))
    | 1 => rfl
    | 2 => rfl
  obtain ⟨q1, q2⟩ := lastLat_rows t
  refine (congrArg (outLat m c (lastLat t) (lastLat_le t)) hy).trans
    ((point_lat m c (lastLat t) (lastLat_le t) (y 1) (y 2) _ _ (h1.trans q1.symm) (h2.trans (by rw [q2]))).trans ?_)
  exact congrArg _ (Fin.ext h3.symm)

/-- The call's array of context rows. -/
theorem final_ctx : (dats m 0 c).arrAt 17 cfg0.N = fun i =>
    jointCtxResult (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (i 0) (i 1) (i 2) := by
  refine (dats m 0 c).arrAt_eq_of_covers 17 _ (by decide +kernel) fun t hf y => ?_
  have h := flush_ctx t hf
  blk_simp
  rw [after_17 m c t h]
  obtain ⟨-, -, -, -, -, -, -, -, -, -, -, -, -, -, -, -, -, e⟩ := idx t
  have h1 : (((win0_17.blk t).view.emb y) 0 : ℕ) = t.val / 9 := by
    blk_simp [e]
  have h2 : (((win0_17.blk t).view.emb y) 1 : ℕ) = (y 1 : ℕ) := by
    blk_simp [e]
  have h3 : (((win0_17.blk t).view.emb y) 2 : ℕ) = (y 2 : ℕ) := by
    blk_simp [e]
  have hy : (show S1x256x1024.Idx from y) = ix3 0 ((win0_17.blk t).view.emb y 1) (y 2) := by
    funext a
    match a with
    | 0 => exact Fin.ext (Nat.lt_one_iff.mp (show (y 0 : ℕ) < 1 from (y 0).isLt))
    | 1 => exact Fin.ext h2.symm
    | 2 => rfl
  refine (congrArg (outCtx m c t h) hy).trans ((point_ctx m c t h _ (y 2) _ h1).trans ?_)
  exact congrArg _ (Fin.ext h3.symm)

end Cert.Ffn.Joint

end
-- ==== Proof.FfnJointRef.lean ====
module

public import proofs.«01_k».proof.Proof.FfnJointSpec
public import proofs.«01_k».proof.Proof.FfnMixRef
public import proofs.«01_k».proof.Proof.Gen.Reference5Ideal.Run

/-! The reference of the feed-forward call with context and mixing over all tokens, read at a token: the steps of the call
    whose first half of the mixing comes in two arrays, at a joint array, by the lemmas proved there. -/

@[expose] public section

set_option maxRecDepth 16384

noncomputable section

namespace Cert.Ffn.JointRef

open Idealize.ShloMosaic Idealize.ShloMosaic.TcCoe Idealize.SL.Sem
open Cert.Reference5Ideal Cert.Reference5Ideal.Gen Cert.Reference5Ideal.Value
open Cert.Ffn.CtxRef (rows rows_lat rows_ctx step step_at)
open Cert.Ffn.MixRef (mixGate mixGate_lat mixGate_ctx shift shift_lat shift_ctx scale scale_lat scale_ctx gate gate_lat gate_ctx
  resid mixed mixed_at)

variable (V : Valuation τ sig (Elt Ideal))

/-- The arguments: the residual stream for latent and context tokens; the two halves of the mixing output; the modulation
    rows; the mixing's gain, offset and projection; the feed-forward's two matrices; the half step's gain and offset. -/
abbrev A0 : FVec Ideal S8x4096x1024 .f32 := V (Proc.devRef .tc main_arg0)
abbrev A1 : FVec Ideal S8x256x1024 .f32 := V (Proc.devRef .tc main_arg1)
abbrev A2 : FVec Ideal S8x4352x512 .bf16 := V (Proc.devRef .tc main_arg2)
abbrev A3 : FVec Ideal S8x4352x512 .bf16 := V (Proc.devRef .tc main_arg3)
abbrev A4 : FVec Ideal S16x9x1024 .f32 := V (Proc.devRef .tc main_arg4)
abbrev A5 : FVec Ideal S1024 .f32 := V (Proc.devRef .tc main_arg5)
abbrev A6 : FVec Ideal S1024 .f32 := V (Proc.devRef .tc main_arg6)
abbrev A7 : FVec Ideal S1024x1024 .f32 := V (Proc.devRef .tc main_arg7)
abbrev A8 : FVec Ideal S1024x5632 .f32 := V (Proc.devRef .tc main_arg8)
abbrev A9 : FVec Ideal S2816x1024 .f32 := V (Proc.devRef .tc main_arg9)
abbrev A10 : FVec Ideal S1024 .f32 := V (Proc.devRef .tc main_arg10)
abbrev A11 : FVec Ideal S1024 .f32 := V (Proc.devRef .tc main_arg11)

/-- The mixed rows of the arguments. -/
def first : FVec Ideal S8x4352x1024 .f32 :=
  mixed (rows (A0 V) (A1 V)) (mixGate (A4 V)) (A2 V) (A3 V) (A5 V) (A6 V) (A7 V)

/-- Their half step. -/
def whole : FVec Ideal S8x4352x1024 .f32 :=
  step (first V) (shift (A4 V)) (scale (A4 V)) (gate (A4 V)) (A8 V) (A9 V) (A10 V) (A11 V)

theorem v17_eq : res_main_v17 V = resid (rows (A0 V) (A1 V)) (mixGate (A4 V)) (A2 V) (A3 V) (A7 V) := rfl

theorem v41_eq : res_main_v41 V = first V := by
  unfold first mixed
  rw [← v17_eq]
  rfl

theorem v84_eq : res_main_v84 V
    = CtxRef.resid (first V) (gate (A4 V)) (CtxRef.hidden (CtxRef.wide (first V) (shift (A4 V)) (scale (A4 V)) (A8 V))) (A9 V) := by
  rw [← v41_eq]
  rfl

theorem whole_eq : res_main_v108 V = whole V := by
  unfold whole step
  rw [← v84_eq]
  rfl

/-- The array of latent rows. -/
theorem result_lat : (show FVec Ideal S8x4096x1024 .f32 from
      extractStridedSlice S8x4096x1024 ![0, 0, 0] (res_main_v108 V) slices_S8x4352x1024_S8x4096x1024_0_0_0) = fun i =>
    jointLatResult (A0 V) (A2 V) (A3 V) (A4 V) (A5 V) (A6 V) (A7 V) (A8 V) (A9 V) (A10 V) (A11 V) (i 0) (i 1) (i 2) := by
  refine funext fun (i : S8x4096x1024.Idx) => ?_
  obtain ⟨s, r, n, rfl⟩ : ∃ s r n, i = ix3 s r n := ⟨i 0, i 1, i 2, eq_ix3 i⟩
  rw [whole_eq]
  refine (show _ = whole V (ix3 s ⟨r, by omega⟩ n) from ?_).trans ?_
  · generalize whole V = w
    pointwise
  refine (step_at _ _ _ _ _ _ _ _ s _ n).trans ?_
  unfold first
  simp only [mixed_at, rows_lat, mixGate_lat, shift_lat, scale_lat, gate_lat]
  rfl

/-- The array of context rows. -/
theorem result_ctx : (show FVec Ideal S8x256x1024 .f32 from
      extractStridedSlice S8x256x1024 ![0, 4096, 0] (res_main_v108 V) slices_S8x4352x1024_S8x256x1024_0_4096_0) = fun i =>
    jointCtxResult (A1 V) (A2 V) (A3 V) (A4 V) (A5 V) (A6 V) (A7 V) (A8 V) (A9 V) (A10 V) (A11 V) (i 0) (i 1) (i 2) := by
  refine funext fun (i : S8x256x1024.Idx) => ?_
  obtain ⟨s, r, n, rfl⟩ : ∃ s r n, i = ix3 s r n := ⟨i 0, i 1, i 2, eq_ix3 i⟩
  rw [whole_eq]
  refine (show _ = whole V (ix3 s ⟨4096 + r, by omega⟩ n) from ?_).trans ?_
  · generalize whole V = w
    pointwise
  refine (step_at _ _ _ _ _ _ _ _ s _ n).trans ?_
  unfold first
  simp only [mixed_at, rows_ctx, mixGate_ctx, shift_ctx, scale_ctx, gate_ctx]
  rfl

end Cert.Ffn.JointRef

end
-- ==== Proof.ProjSpec.lean ====
module

public import proofs.«01_k».proof.Proof.FfnSpec
public import proofs.«01_k».proof.Proof.Gen.Reference6Ideal

/-! The mathematics of the retention layers' input projection, one token row at a time. Nothing here mentions a program:
    the kernel's blocks and the reference's arrays are both shown equal to these. -/

@[expose] public section

noncomputable section

namespace Cert.Proj

open Idealize.ShloMosaic Cert.Ffn

/-- The channel 64 on, round within its head of 128. -/
def partner (o : Fin 768) : Fin 768 := ⟨128 * (o.val / 128) + (o.val + 64) % 128, by omega⟩

/-- A channel's place in its head. -/
def lane (o : Fin 768) : Fin 128 := ⟨o.val % 128, by omega⟩

/-- Each channel times its entry of `c`, plus its partner times its entry of `s`. -/
def turned (y : Fin 768 → EReal) (c s : Fin 128 → EReal) (o : Fin 768) : EReal :=
  y o * c (lane o) + y (partner o) * s (lane o)

/-- A turned channel from its entries' places. -/
theorem turned_of (y : Fin 768 → EReal) (c s : Fin 128 → EReal) (o a b : Fin 768) (l : Fin 128) (ha : a.val = o.val)
    (hb : b.val = 128 * (o.val / 128) + (o.val + 64) % 128) (hl : l.val = o.val % 128) :
    y a * c l + y b * s l = turned y c s o := by
  obtain rfl : a = o := Fin.ext ha
  obtain rfl : b = partner a := Fin.ext hb
  obtain rfl : l = lane a := Fin.ext hl
  rfl

/-- With ones and noughts the channels stay. -/
theorem turned_one (y : Fin 768 → EReal) (c s : Fin 128 → EReal) (hc : ∀ l, c l = 1) (hs : ∀ l, s l = 0) (o : Fin 768) :
    turned y c s o = y o := by
  unfold turned
  rw [hc, hs, mul_one, mul_zero, add_zero]

/-- The cosines of a head's two halves. -/
def twice (c : Fin 64 → EReal) (l : Fin 128) : EReal := c ⟨l.val % 64, by omega⟩

/-- The sines of a head's two halves, negative in the first. -/
def signed (s : Fin 64 → EReal) (l : Fin 128) : EReal :=
  if l.val < 64 then -s ⟨l.val % 64, by omega⟩ else s ⟨l.val % 64, by omega⟩

/-- In the first half of a head the turn takes the second half's sine part away, -/
theorem turned_fst (y : Fin 768 → EReal) (c s : Fin 64 → EReal) (h : Fin 6) (l : Fin 64) :
    turned y (twice c) (signed s) ⟨128 * h.val + l.val, by omega⟩
      = y ⟨128 * h.val + l.val, by omega⟩ * c l - y ⟨128 * h.val + (64 + l.val), by omega⟩ * s l := by
  have e : lane ⟨128 * h.val + l.val, by omega⟩ = ⟨l.val, by omega⟩ := Fin.ext (by show (128 * h.val + l.val) % 128 = l.val; omega)
  have p : partner ⟨128 * h.val + l.val, by omega⟩ = ⟨128 * h.val + (64 + l.val), by omega⟩ :=
    Fin.ext (by show 128 * ((128 * h.val + l.val) / 128) + (128 * h.val + l.val + 64) % 128 = 128 * h.val + (64 + l.val); omega)
  have t : (⟨l.val % 64, by omega⟩ : Fin 64) = l := Fin.ext (by show l.val % 64 = l.val; omega)
  unfold turned twice signed
  rw [e, p]
  simp only
  rw [if_pos l.isLt, t, mul_neg, ← sub_eq_add_neg]

/-- and in the second half it adds the first half's. -/
theorem turned_snd (y : Fin 768 → EReal) (c s : Fin 64 → EReal) (h : Fin 6) (l : Fin 64) :
    turned y (twice c) (signed s) ⟨128 * h.val + (64 + l.val), by omega⟩
      = y ⟨128 * h.val + l.val, by omega⟩ * s l + y ⟨128 * h.val + (64 + l.val), by omega⟩ * c l := by
  have e : lane ⟨128 * h.val + (64 + l.val), by omega⟩ = ⟨64 + l.val, by omega⟩ :=
    Fin.ext (by show (128 * h.val + (64 + l.val)) % 128 = 64 + l.val; omega)
  have p : partner ⟨128 * h.val + (64 + l.val), by omega⟩ = ⟨128 * h.val + l.val, by omega⟩ :=
    Fin.ext (by show 128 * ((128 * h.val + (64 + l.val)) / 128) + (128 * h.val + (64 + l.val) + 64) % 128 = 128 * h.val + l.val; omega)
  have t : (⟨(64 + l.val) % 64, by omega⟩ : Fin 64) = l := Fin.ext (by show (64 + l.val) % 64 = l.val; omega)
  unfold turned twice signed
  rw [e, p]
  simp only
  rw [if_neg (by omega), t, add_comm]

section angles

open Cert.Reference6Ideal Cert.Reference6Ideal.Gen

/-- The angle of each latent token and channel pair: token `64 * i + j` at row `i` and column `j` of the image turns its
    first 32 pairs by `i` times their frequency and the other 32 by `j` times it, pair `f` having frequency
    `10000 ^ (-f / 32)`. -/
def angles : FVec Ideal S4096x64 .f32 :=
  let freq : FVec Ideal S4096x32 .f32 := broadcastInDim S4096x32 ![0, 1] bcast_S1x32_S4096x32_0_1 (broadcastInDim S1x32 ![1] bcast_S32_S1x32_1
    (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32)))))
  concatenate S4096x64 1 [⟨S4096x32, mulf (broadcastInDim S4096x32 ![0, 1] bcast_S4096x1_S4096x32_0_1 (broadcastInDim S4096x1 ![0] bcast_S4096_S4096x1_0
      (shapeCast _ (broadcastInDim S64x64 ![0, 1] bcast_S64x1_S64x64_0_1 (broadcastInDim S64x1 ![0] bcast_S64_S64x1_0 (sitofp .f32 (iotaInDim S64 32 0)))) shapeCasts_S64x64_S4096))) freq⟩,
    ⟨S4096x32, mulf (broadcastInDim S4096x32 ![0, 1] bcast_S4096x1_S4096x32_0_1 (broadcastInDim S4096x1 ![0] bcast_S4096_S4096x1_0
      (shapeCast _ (broadcastInDim S64x64 ![0, 1] bcast_S1x64_S64x64_0_1 (broadcastInDim S1x64 ![1] bcast_S64_S1x64_1 (sitofp .f32 (iotaInDim S64 32 0)))) shapeCasts_S64x64_S4096))) freq⟩]
    concatenates_S4096x32_S4096x32_S4096x64_d1

end angles

/-- A latent token's channels turned by its angles; a context token's as they are. -/
def rot (R : Fin 4352) (y : Fin 768 → EReal) (o : Fin 768) : EReal :=
  if h : R.val < 4096 then
    turned y (twice fun l => Host.cos angles (ix2 ⟨R, h⟩ l)) (signed fun l => Host.sin angles (ix2 ⟨R, h⟩ l)) o
  else y o

section results

variable (a0 : FVec Ideal ⟨3, ![8, 4096, 1024]⟩ .f32) (a1 : FVec Ideal ⟨3, ![8, 256, 1024]⟩ .f32)
  (a2 : FVec Ideal ⟨3, ![16, 9, 1024]⟩ .f32) (a3 : FVec Ideal ⟨2, ![1024, 3328]⟩ .f32) (b : Fin 8) (R : Fin 4352)

/-- A token's row modulated by entries 3 and 4: of its sample for a latent token, of row 8 for a context token. -/
def inRow : Row :=
  if h : R.val < 4096 then
    modRow (fun k => a0 (ix3 b ⟨R, h⟩ k)) (fun k => a2 (ix3 ⟨b, by omega⟩ 3 k)) (fun k => a2 (ix3 ⟨b, by omega⟩ 4 k))
  else
    modRow (fun k => a1 (ix3 b ⟨R - 4096, by omega⟩ k)) (fun k => a2 (ix3 8 3 k)) (fun k => a2 (ix3 8 4 k))

/-- The projection's columns from `j` on. -/
def proj {N : ℕ} (j : ℕ) (hj : j + N ≤ 3328) (o : Fin N) : EReal :=
  colDot (inRow a0 a1 a2 b R) (fun k (o : Fin N) => a3 (ix2 k ⟨j + o, by omega⟩)) o

/-- The queries. -/
def qRow (o : Fin 768) : EReal := rot R (proj a0 a1 a2 a3 b R 256 (by omega)) o

/-- The keys, scaled by the root of the head's width. -/
def kRow (o : Fin 768) : EReal := rot R (proj a0 a1 a2 a3 b R 1024 (by omega)) o * Ideal.ofBits FTy.f32 0x3DB504F3#32

end results

end Cert.Proj

end
-- ==== Proof.ProjPay.lean ====
module

public import proofs.«01_k».proof.Proof.ProjSpec
public import proofs.«01_k».proof.Proof.Gen.Kernel6Ideal.Skeleton

/-! What one grid point of the input projection computes from its blocks: row `r` of each block it writes is the product
    of row `r` of its modulated input block with the block of the weight, the queries and keys turned by the rows of the
    two tables. -/

@[expose] public section

set_option maxRecDepth 16384

noncomputable section

namespace Cert.Proj

open Idealize.ShloMosaic Idealize.ShloMosaic.TcCoe Idealize.SL.Sem
open Cert.Ffn Cert.Kernel6Ideal Cert.Kernel6Ideal.Gen

/-- The modulated block. -/
theorem pay7_at (x : Vec Ideal S1x256x1024 .f32) (sh sc : Vec Ideal S1x1x1024 .f32) (r : Fin 256) (n : Fin 1024) :
    k0_pay7 (F := Ideal) x sh sc (ix2 r n)
      = modRow (fun k => x (ix3 0 r k)) (fun k => sh (ix3 0 0 k)) (fun k => sc (ix3 0 0 k)) n := by
  pointwise [k0_pay7, modRow]

/-- The product of the keys, -/
theorem pay14_at (x : FVec Ideal S256x1024 .bf16) (w : Vec Ideal S1024x768 .bf16) (r : Fin 256) (o : Fin 768) :
    k0_pay14 (F := Ideal) x w (ix2 r o) = colDot (fun k => x (ix2 r k)) (fun k o => w (ix2 k o)) o := by
  pointwise [k0_pay14, colDot]

/-- and of the queries, the same operation; -/
theorem pay8_eq (x : Vec Ideal S1x256x1024 .f32) (sh sc : Vec Ideal S1x1x1024 .f32) (w : Vec Ideal S1024x768 .bf16) :
    k0_pay8 (F := Ideal) x sh sc w = k0_pay14 (k0_pay7 x sh sc) w := rfl

/-- the values and gates; -/
theorem pay19_at (x : FVec Ideal S256x1024 .bf16) (w : Vec Ideal S1024x1536 .bf16) (r : Fin 256) (o : Fin 1536) :
    k0_pay1 (k0_pay19 (F := Ideal) x w) (ix3 0 r o) = colDot (fun k => x (ix2 r k)) (fun k o => w (ix2 k o)) o := by
  pointwise [k0_pay1, k0_pay19, colDot]

/-- the other half's input. -/
theorem pay20_at (x : FVec Ideal S256x1024 .bf16) (w : Vec Ideal S1024x256 .bf16) (r : Fin 256) (o : Fin 256) :
    k0_pay2 (k0_pay20 (F := Ideal) x w) (ix3 0 r o) = colDot (fun k => x (ix2 r k)) (fun k o => w (ix2 k o)) o := by
  pointwise [k0_pay2, k0_pay20, colDot]

/-- The keys a point stores. -/
abbrev keys (x : FVec Ideal S256x1024 .bf16) (c s : Vec Ideal S1x256x128 .f32) (w : Vec Ideal S1024x768 .bf16) : FVec Ideal S1x256x768 .f32 :=
  k0_pay22 (k0_pay5 c) (k0_pay6 s) (k0_pay14 x w) (k0_pay15 (k0_pay5 c) (k0_pay6 s) x w) (k0_pay16 (k0_pay5 c) (k0_pay6 s) x w)
    (k0_pay17 x w) (k0_pay18 (k0_pay5 c) x w)

theorem keys_at (x : FVec Ideal S256x1024 .bf16) (c s : Vec Ideal S1x256x128 .f32) (w : Vec Ideal S1024x768 .bf16) (r : Fin 256) (o : Fin 768) :
    keys x c s w (ix3 0 r o)
      = turned (colDot (fun k => x (ix2 r k)) (fun k o => w (ix2 k o))) (fun l => c (ix3 0 r l)) (fun l => s (ix3 0 r l)) o
          * Ideal.ofBits FTy.f32 0x3DB504F3#32 := by
  have e : colDot (fun k => x (ix2 r k)) (fun k o => w (ix2 k o)) = fun o => k0_pay14 x w (ix2 r o) :=
    funext fun o => (pay14_at x w r o).symm
  rw [e]
  unfold keys k0_pay15 k0_pay16 k0_pay18 k0_pay17
  generalize k0_pay14 x w = y
  have ho := o.isLt
  pointwise [k0_pay22, k0_pay5, k0_pay6]
  split_ifs <;> exact congrArg (· * _) (turned_of (fun o => y (ix2 r o)) (fun l => c (ix3 0 r l)) (fun l => s (ix3 0 r l)) o _ _ _
    (by simp only <;> omega) (by simp only <;> omega) (by simp only <;> omega))

/-- The queries a point of latent rows stores. -/
abbrev queries (h : Vec Ideal S1x256x1024 .f32) (sh sc : Vec Ideal S1x1x1024 .f32) (c s : Vec Ideal S1x256x128 .f32)
    (w : Vec Ideal S1024x768 .bf16) : FVec Ideal S1x256x768 .f32 :=
  k0_pay21 (k0_pay13 (k0_pay5 c) (k0_pay6 s) (k0_pay8 h sh sc w) (k0_pay9 h c s sh sc w) (k0_pay10 h c s sh sc w)
    (k0_pay11 h sh sc w) (k0_pay12 h c sh sc w) 64#32)

theorem queries_at (h : Vec Ideal S1x256x1024 .f32) (sh sc : Vec Ideal S1x1x1024 .f32) (c s : Vec Ideal S1x256x128 .f32)
    (w : Vec Ideal S1024x768 .bf16) (r : Fin 256) (o : Fin 768) :
    queries h sh sc c s w (ix3 0 r o)
      = turned (colDot (modRow (fun k => h (ix3 0 r k)) (fun k => sh (ix3 0 0 k)) (fun k => sc (ix3 0 0 k))) (fun k o => w (ix2 k o)))
          (fun l => c (ix3 0 r l)) (fun l => s (ix3 0 r l)) o := by
  have e : colDot (modRow (fun k => h (ix3 0 r k)) (fun k => sh (ix3 0 0 k)) (fun k => sc (ix3 0 0 k))) (fun k o => w (ix2 k o))
      = fun o => k0_pay8 h sh sc w (ix2 r o) := by
    rw [pay8_eq, ← funext fun k => pay7_at h sh sc r k]
    exact funext fun o => (pay14_at _ w r o).symm
  rw [e]
  unfold queries k0_pay9 k0_pay10 k0_pay12 k0_pay11
  generalize k0_pay8 h sh sc w = y
  have ho := o.isLt
  pointwise [k0_pay21, k0_pay13, k0_pay5, k0_pay6]
  split_ifs <;> exact (turned_of (fun o => y (ix2 r o)) (fun l => c (ix3 0 r l)) (fun l => s (ix3 0 r l)) o _ _ _
    (by simp only <;> omega) (by simp only <;> omega) (by simp only <;> omega))

end Cert.Proj

end
-- ==== Proof.ProjBlk.lean ====
module

public import proofs.«01_k».proof.Proof.ProjPay
public import proofs.«01_k».proof.Proof.Gen.Kernel6Ideal.Frame

/-! What a grid point of the input projection finds in its input blocks, entry by entry of the call's arguments and of the
    angle table. -/

@[expose] public section

set_option maxRecDepth 16384

noncomputable section

namespace Cert.Proj

open Idealize.ShloMosaic Idealize.ShloMosaic.TcCoe Idealize.SL.Sem
open Cert.Ffn Cert.Kernel6Ideal Cert.Kernel6Ideal.Gen

variable (m : (ℓ : Loc nD τ sig) → Buf (Elt Ideal) ℓ) (c : Dev nD)

/-! ### What the host makes -/

/-- The two halves of a head side by side. -/
abbrev halves (a b : FVec Ideal S4096x64 .f32) : FVec Ideal S1x4096x128 .f32 :=
  broadcastInDim S1x4096x128 ![1, 2] bcast_S4096x128_S1x4096x128_1_2
    (concatenate S4096x128 1 [⟨S4096x64, a⟩, ⟨S4096x64, b⟩] concatenates_S4096x64_S4096x64_S4096x128_d1)

theorem halves_at (a b : FVec Ideal S4096x64 .f32) (R : Fin 4096) (l : Fin 128) : halves a b (ix3 0 R l)
    = if l.val < 64 then a (ix2 R ⟨l.val % 64, by omega⟩) else b (ix2 R ⟨l.val % 64, by omega⟩) := by
  have h := l.isLt
  pointwise [halves]
  split_ifs
  · exact congrArg (fun x => a (ix2 R x)) (Fin.ext (by show l.val = l.val % 64; omega))
  all_goals exact congrArg (fun x => b (ix2 R x)) (Fin.ext (by show l.val - 64 = l.val % 64; omega))

theorem cosines : V m c main_v34 = halves (Host.cos angles) (Host.cos angles) := rfl

theorem sines : V m c main_v35 = halves (Host.negf (Host.sin angles)) (Host.sin angles) := rfl

/-! ### Which block of each array a grid point works on -/

/-- Sample `t / 17`, rows `256 * (t % 17) …`. -/
theorem idx : ∀ t : Fin cfg0.N, win0_0.index t = ![t.val / 17, min (t.val % 17) 15, 0] ∧ win0_1.index t = ![0, min (t.val % 17) 15, 0]
    ∧ win0_2.index t = ![0, min (t.val % 17) 15, 0] ∧ win0_3.index t = ![t.val / 17, 0, 0]
    ∧ win0_4.index t = ![0, 0, 0] ∧ win0_5.index t = ![0, 0, 0] ∧ win0_6.index t = ![t.val / 17, 0, 0] ∧ win0_7.index t = ![8, 0, 0]
    ∧ win0_8.index t = ![0, 0] ∧ win0_9.index t = ![0, 0] ∧ win0_10.index t = ![0, 0] ∧ win0_11.index t = ![0, 0]
    ∧ win0_12.index t = ![t.val / 17, t.val % 17, 0] ∧ win0_13.index t = ![t.val / 17, t.val % 17, 0]
    ∧ win0_14.index t = ![t.val / 17, t.val % 17, 0] ∧ win0_15.index t = ![t.val / 17, t.val % 17, 0] :=
  (by decide +kernel : ∀ t : Fin grid0.N, _)

variable (t : Fin cfg0.N)

theorem blk0 (r : Fin 256) (k : Fin 1024) (b : Fin 8) (R : Fin 4096) (hb : (b : ℕ) = t.val / 17) (hR : (R : ℕ) = min (t.val % 17) 15 * 256 + r) :
    (show FVec Ideal S1x256x1024 .f32 from iblk m c 0 t) (ix3 0 r k)
      = (show FVec Ideal S8x4096x1024 .f32 from m ((c : Thread nD τ).loc main_arg0)) (ix3 b R k) := by
  blk_point [iblk, V, idx t]

theorem blk1 (r : Fin 256) (l : Fin 128) (R : Fin 4096) (hR : (R : ℕ) = min (t.val % 17) 15 * 256 + r) :
    (show FVec Ideal S1x256x128 .f32 from iblk m c 1 t) (ix3 0 r l) = twice (fun l => Host.cos angles (ix2 R l)) l := by
  refine Eq.trans (b := (show FVec Ideal S1x4096x128 .f32 from V m c main_v34) (ix3 0 R l)) ?_ ?_
  · generalize hv : V m c main_v34 = v
    unfold iblk
    rw [show V m c (Pipeline.arrRef spec0 1) = v from hv]
    blk_point [idx t]
  · rw [cosines]
    refine (halves_at _ _ R l).trans ?_
    rw [ite_self]
    rfl

theorem blk2 (r : Fin 256) (l : Fin 128) (R : Fin 4096) (hR : (R : ℕ) = min (t.val % 17) 15 * 256 + r) :
    (show FVec Ideal S1x256x128 .f32 from iblk m c 2 t) (ix3 0 r l) = signed (fun l => Host.sin angles (ix2 R l)) l := by
  refine Eq.trans (b := (show FVec Ideal S1x4096x128 .f32 from V m c main_v35) (ix3 0 R l)) ?_ ?_
  · generalize hv : V m c main_v35 = v
    unfold iblk
    rw [show V m c (Pipeline.arrRef spec0 2) = v from hv]
    blk_point [idx t]
  · rw [sines]
    exact halves_at _ _ R l

theorem blk3 (r : Fin 256) (k : Fin 1024) (b : Fin 8) (hb : (b : ℕ) = t.val / 17) :
    (show FVec Ideal S1x256x1024 .f32 from iblk m c 3 t) (ix3 0 r k)
      = (show FVec Ideal S8x256x1024 .f32 from m ((c : Thread nD τ).loc main_arg1)) (ix3 b r k) := by
  blk_point [iblk, V, idx t]

theorem blk4 (r : Fin 256) (l : Fin 128) : (show FVec Ideal S1x256x128 .f32 from iblk m c 4 t) (ix3 0 r l) = 1 := by
  blk_point [iblk, V, idx t]

theorem blk5 (r : Fin 256) (l : Fin 128) : (show FVec Ideal S1x256x128 .f32 from iblk m c 5 t) (ix3 0 r l) = 0 := by
  blk_point [iblk, V, idx t]

theorem blk6 (j : Fin 9) (k : Fin 1024) (b : Fin 16) (hb : (b : ℕ) = t.val / 17) :
    (show FVec Ideal S1x9x1024 .f32 from iblk m c 6 t) (ix3 0 j k)
      = (show FVec Ideal S16x9x1024 .f32 from m ((c : Thread nD τ).loc main_arg2)) (ix3 b j k) := by
  blk_point [iblk, V, idx t]

theorem blk7 (j : Fin 9) (k : Fin 1024) :
    (show FVec Ideal S1x9x1024 .f32 from iblk m c 7 t) (ix3 0 j k)
      = (show FVec Ideal S16x9x1024 .f32 from m ((c : Thread nD τ).loc main_arg2)) (ix3 8 j k) := by
  blk_point [iblk, V, idx t]

theorem blk8 (k : Fin 1024) (o : Fin 768) :
    (show FVec Ideal S1024x768 .bf16 from iblk m c 8 t) (ix2 k o)
      = (show FVec Ideal S1024x3328 .f32 from m ((c : Thread nD τ).loc main_arg3)) (ix2 k ⟨256 + o, by omega⟩) := by
  blk_point [iblk, V, idx t]

theorem blk9 (k : Fin 1024) (o : Fin 768) :
    (show FVec Ideal S1024x768 .bf16 from iblk m c 9 t) (ix2 k o)
      = (show FVec Ideal S1024x3328 .f32 from m ((c : Thread nD τ).loc main_arg3)) (ix2 k ⟨1024 + o, by omega⟩) := by
  blk_point [iblk, V, idx t]

theorem blk10 (k : Fin 1024) (o : Fin 1536) :
    (show FVec Ideal S1024x1536 .bf16 from iblk m c 10 t) (ix2 k o)
      = (show FVec Ideal S1024x3328 .f32 from m ((c : Thread nD τ).loc main_arg3)) (ix2 k ⟨1792 + o, by omega⟩) := by
  blk_point [iblk, V, idx t]

theorem blk11 (k : Fin 1024) (o : Fin 256) :
    (show FVec Ideal S1024x256 .bf16 from iblk m c 11 t) (ix2 k o)
      = (show FVec Ideal S1024x3328 .f32 from m ((c : Thread nD τ).loc main_arg3)) (ix2 k ⟨0 + o, by omega⟩) := by
  blk_point [iblk, V, idx t]

end Cert.Proj

end
-- ==== Proof.ProjKer.lean ====
module

public import proofs.«01_k».proof.Proof.ProjBlk

/-! The four arrays the input projection leaves: the blocks of latent rows put together with those of context rows are the
    queries, keys, values and gates, and the other half's input, of every token. -/

@[expose] public section

set_option maxRecDepth 16384

noncomputable section

namespace Cert.Proj

open Idealize.ShloMosaic Idealize.ShloMosaic.TcCoe Idealize.SL.Sem
open Cert.Ffn Cert.Kernel6Ideal Cert.Kernel6Ideal.Gen

/-- The four blocks a point leaves. -/
abbrev Blocks := Vec Ideal S1x256x768 .f32 × Vec Ideal S1x256x768 .f32 × Vec Ideal S1x256x1536 .f32 × Vec Ideal S1x256x256 .f32

/-- The four blocks, entry by entry, from row `r`'s modulated row `y r`, its rows of the two tables and the weights. -/
structure Stored (o : Blocks) (y : Fin 256 → Row) (co si : Fin 256 → Fin 128 → EReal)
    (wq wk : Fin 1024 → Fin 768 → EReal) (wvg : Fin 1024 → Fin 1536 → EReal) (wu : Fin 1024 → Fin 256 → EReal) : Prop where
  q : ∀ r n, o.1 (ix3 0 r n) = turned (colDot (y r) wq) (co r) (si r) n
  k : ∀ r n, o.2.1 (ix3 0 r n) = turned (colDot (y r) wk) (co r) (si r) n * Ideal.ofBits FTy.f32 0x3DB504F3#32
  vg : ∀ r n, o.2.2.1 (ix3 0 r n) = colDot (y r) wvg n
  u : ∀ r n, o.2.2.2 (ix3 0 r n) = colDot (y r) wu n

section point

variable (x : Vec Ideal S1x256x1024 .f32) (md : Vec Ideal S1x9x1024 .f32) (co si : Vec Ideal S1x256x128 .f32)
  (wq wk : Vec Ideal S1024x768 .bf16) (wvg : Vec Ideal S1024x1536 .bf16) (wu : Vec Ideal S1024x256 .bf16)

/-- The modulation's shift, -/
abbrev shiftOf : Vec Ideal S1x1x1024 .f32 := View.ld md (Rect.unit ![0, 3, 0] ![1, 1, 1024] inb_S1x9x1024_S1x1x1024_0_3_0)

/-- and its scale. -/
abbrev scaleOf : Vec Ideal S1x1x1024 .f32 := View.ld md (Rect.unit ![0, 4, 0] ![1, 1, 1024] inb_S1x9x1024_S1x1x1024_0_4_0)

/-- What a point computes from its blocks. -/
abbrev computed : Blocks :=
  (queries x (shiftOf md) (scaleOf md) co si wq, keys (k0_pay7 x (shiftOf md) (scaleOf md)) co si wk,
    k0_pay1 (k0_pay19 (k0_pay7 x (shiftOf md) (scaleOf md)) wvg), k0_pay2 (k0_pay20 (k0_pay7 x (shiftOf md) (scaleOf md)) wu))

theorem computed_at : Stored (computed x md co si wq wk wvg wu)
    (fun r => modRow (fun k => x (ix3 0 r k)) (fun k => md (ix3 0 3 k)) (fun k => md (ix3 0 4 k)))
    (fun r l => co (ix3 0 r l)) (fun r l => si (ix3 0 r l)) (fun k o => wq (ix2 k o)) (fun k o => wk (ix2 k o))
    (fun k o => wvg (ix2 k o)) (fun k o => wu (ix2 k o)) := by
  have e3 : (fun k : Fin 1024 => shiftOf md (ix3 0 0 k)) = fun k => md (ix3 0 3 k) := funext fun k => by pointwise [shiftOf]
  have e4 : (fun k : Fin 1024 => scaleOf md (ix3 0 0 k)) = fun k => md (ix3 0 4 k) := funext fun k => by pointwise [scaleOf]
  have e (r : Fin 256) : (fun k : Fin 1024 => k0_pay7 x (shiftOf md) (scaleOf md) (ix2 r k))
      = modRow (fun k => x (ix3 0 r k)) (fun k => md (ix3 0 3 k)) (fun k => md (ix3 0 4 k)) := by
    rw [← e3, ← e4]
    exact funext fun k => pay7_at _ _ _ r k
  refine ⟨fun r n => ?_, fun r n => ?_, fun r n => ?_, fun r n => ?_⟩
  · refine (queries_at _ _ _ _ _ _ r n).trans ?_
    rw [e3, e4]
  · refine (keys_at _ _ _ _ r n).trans ?_
    rw [e]
  · refine (pay19_at _ _ r n).trans ?_
    rw [e]
  · refine (pay20_at _ _ r n).trans ?_
    rw [e]

end point

variable (m : (ℓ : Loc nD τ sig) → Buf (Elt Ideal) ℓ) (c : Dev nD) (t : Fin cfg0.N)

/-- A point of latent rows leaves what is computed from the latent blocks, -/
theorem outs_lat (h : t.val % 17 ≤ 15) : outsAt0 m c t.val t.isLt
    = computed (iblk m c 0 t) (iblk m c 6 t) (iblk m c 1 t) (iblk m c 2 t) (iblk m c 8 t) (iblk m c 9 t) (iblk m c 10 t) (iblk m c 11 t) := by
  rw [outsAt0_A m c t h (by omega)]
  refine Prod.ext ?_ (Prod.ext ?_ (Prod.ext ?_ ?_)) <;> (frame_out; try rfl)

/-- and the point of context rows the same from the context blocks. -/
theorem outs_ctx (h : t.val % 17 = 16) : outsAt0 m c t.val t.isLt
    = computed (iblk m c 3 t) (iblk m c 7 t) (iblk m c 4 t) (iblk m c 5 t) (iblk m c 8 t) (iblk m c 9 t) (iblk m c 10 t) (iblk m c 11 t) := by
  rw [outsAt0_B m c t (by omega) h]
  refine Prod.ext ?_ (Prod.ext ?_ (Prod.ext ?_ ?_)) <;> (frame_out; try rfl)

/-! ### The answer's rows -/

abbrev argH : FVec Ideal S8x4096x1024 .f32 := m ((c : Thread nD τ).loc main_arg0)
abbrev argC : FVec Ideal S8x256x1024 .f32 := m ((c : Thread nD τ).loc main_arg1)
abbrev argM : FVec Ideal S16x9x1024 .f32 := m ((c : Thread nD τ).loc main_arg2)
abbrev argW : FVec Ideal S1024x3328 .f32 := m ((c : Thread nD τ).loc main_arg3)

/-- What a point leaves is its rows of the whole answer. -/
structure Answer (o : Blocks) (b : Fin 8) (row : Fin 256 → Fin 4352) : Prop where
  q : ∀ r n, o.1 (ix3 0 r n) = qRow (argH m c) (argC m c) (argM m c) (argW m c) b (row r) n
  k : ∀ r n, o.2.1 (ix3 0 r n) = kRow (argH m c) (argC m c) (argM m c) (argW m c) b (row r) n
  vg : ∀ r (n : Fin 1536), o.2.2.1 (ix3 0 r n) = proj (argH m c) (argC m c) (argM m c) (argW m c) b (row r) 1792 (by omega) n
  u : ∀ r (n : Fin 256), o.2.2.2 (ix3 0 r n) = proj (argH m c) (argC m c) (argM m c) (argW m c) b (row r) 0 (by omega) n

theorem answer (b : Fin 8) (row : Fin 256 → Fin 4352) (hb : (b : ℕ) = t.val / 17) (hR : ∀ r, (row r : ℕ) = t.val % 17 * 256 + r) :
    Answer m c (outsAt0 m c t.val t.isLt) b row := by
  have e8 := funext fun k => funext fun o => blk8 m c t k o
  have e9 := funext fun k => funext fun o => blk9 m c t k o
  have e10 := funext fun k => funext fun o => blk10 m c t k o
  have e11 := funext fun k => funext fun o => blk11 m c t k o
  by_cases h : t.val % 17 ≤ 15
  · rw [outs_lat m c t h]
    have hl (r : Fin 256) : (row r : ℕ) < 4096 := by have := hR r; omega
    have hm (r : Fin 256) : (row r : ℕ) = min (t.val % 17) 15 * 256 + r := by have := hR r; omega
    obtain ⟨q, k, vg, u⟩ := computed_at (iblk m c 0 t) (iblk m c 6 t) (iblk m c 1 t) (iblk m c 2 t) (iblk m c 8 t) (iblk m c 9 t)
      (iblk m c 10 t) (iblk m c 11 t)
    have ey (r : Fin 256) : modRow (fun k => iblk m c 0 t (ix3 0 r k)) (fun k => iblk m c 6 t (ix3 0 3 k)) (fun k => iblk m c 6 t (ix3 0 4 k))
        = inRow (argH m c) (argC m c) (argM m c) b (row r) := by
      unfold inRow
      rw [dif_pos (hl r), ← funext fun k => blk0 m c t r k b ⟨row r, hl r⟩ hb (hm r),
        ← funext fun k => blk6 m c t 3 k ⟨b, by omega⟩ hb, ← funext fun k => blk6 m c t 4 k ⟨b, by omega⟩ hb]
    have et (r : Fin 256) (y : Fin 768 → EReal) : turned y (fun l => iblk m c 1 t (ix3 0 r l)) (fun l => iblk m c 2 t (ix3 0 r l)) = rot (row r) y := by
      funext n
      unfold rot
      rw [dif_pos (hl r), ← funext fun l => blk1 m c t r l ⟨row r, hl r⟩ (hm r), ← funext fun l => blk2 m c t r l ⟨row r, hl r⟩ (hm r)]
    refine ⟨fun r n => (q r n).trans ?_, fun r n => (k r n).trans ?_, fun r n => (vg r n).trans ?_, fun r n => (u r n).trans ?_⟩
    · simp only [ey, et]
      exact congrArg (fun w => rot (row r) (colDot _ w) n) e8
    · simp only [ey, et]
      exact congrArg (fun w => rot (row r) (colDot _ w) n * _) e9
    · simp only [ey]
      exact congrArg (fun w => colDot _ w n) e10
    · simp only [ey]
      exact congrArg (fun w => colDot _ w n) e11
  · have hx : t.val % 17 = 16 := by omega
    rw [outs_ctx m c t hx]
    have hl (r : Fin 256) : ¬ (row r : ℕ) < 4096 := by have := hR r; omega
    have hm (r : Fin 256) : (⟨(row r : ℕ) - 4096, by omega⟩ : Fin 256) = r := Fin.ext (by have := hR r; simp only; omega)
    obtain ⟨q, k, vg, u⟩ := computed_at (iblk m c 3 t) (iblk m c 7 t) (iblk m c 4 t) (iblk m c 5 t) (iblk m c 8 t) (iblk m c 9 t)
      (iblk m c 10 t) (iblk m c 11 t)
    have ey (r : Fin 256) : modRow (fun k => iblk m c 3 t (ix3 0 r k)) (fun k => iblk m c 7 t (ix3 0 3 k)) (fun k => iblk m c 7 t (ix3 0 4 k))
        = inRow (argH m c) (argC m c) (argM m c) b (row r) := by
      unfold inRow
      rw [dif_neg (hl r), hm r, ← funext fun k => blk3 m c t r k b hb, ← funext fun k => blk7 m c t 3 k, ← funext fun k => blk7 m c t 4 k]
    have et (r : Fin 256) (y : Fin 768 → EReal) : turned y (fun l => iblk m c 4 t (ix3 0 r l)) (fun l => iblk m c 5 t (ix3 0 r l)) = rot (row r) y := by
      funext n
      unfold rot
      rw [dif_neg (hl r)]
      exact turned_one y _ _ (fun l => blk4 m c t r l) (fun l => blk5 m c t r l) n
    refine ⟨fun r n => (q r n).trans ?_, fun r n => (k r n).trans ?_, fun r n => (vg r n).trans ?_, fun r n => (u r n).trans ?_⟩
    · simp only [ey, et]
      exact congrArg (fun w => rot (row r) (colDot _ w) n) e8
    · simp only [ey, et]
      exact congrArg (fun w => rot (row r) (colDot _ w) n * _) e9
    · simp only [ey]
      exact congrArg (fun w => colDot _ w n) e10
    · simp only [ey]
      exact congrArg (fun w => colDot _ w n) e11

/-! ### The four arrays -/

/-- A block's entry lies in the array where its point and place put it. -/
theorem place {n : ℕ} (f : Fin 8 → Fin 4352 → Fin n → EReal) (o : FVec Ideal ⟨3, ![1, 256, n]⟩ .f32)
    (ho : ∀ (b : Fin 8) (row : Fin 256 → Fin 4352), (b : ℕ) = t.val / 17 → (∀ r, (row r : ℕ) = t.val % 17 * 256 + r) →
      ∀ r k, o (ix3 0 r k) = f b (row r) k)
    (y : (⟨3, ![1, 256, n]⟩ : Shape).Idx) (z : (⟨3, ![8, 4352, n]⟩ : Shape).Idx) (h0 : (z 0 : ℕ) = t.val / 17)
    (h1 : (z 1 : ℕ) = t.val % 17 * 256 + (y 1 : ℕ)) (h2 : (z 2 : ℕ) = (y 2 : ℕ)) : o y = f (z 0) (z 1) (z 2) := by
  have hy : y = ix3 0 (y 1) (y 2) := by
    funext a
    match a with
    | 0 => exact Fin.ext (Nat.lt_one_iff.mp (show (y 0 : ℕ) < 1 from (y 0).isLt))
    | 1 => rfl
    | 2 => rfl
  refine (congrArg o hy).trans ((ho (z 0) (fun r => ⟨t.val % 17 * 256 + r, by omega⟩) h0 (fun _ => rfl) (y 1) (y 2)).trans ?_)
  exact congrArg₂ (f (z 0)) (Fin.ext h1.symm) (Fin.ext h2.symm)

/-- The queries of every token. -/
theorem final_q : (dats m 0 c).arrAt 12 cfg0.N = fun i => qRow (argH m c) (argC m c) (argM m c) (argW m c) (i 0) (i 1) (i 2) := by
  refine (dats m 0 c).arrAt_eq_of_covers 12 _ (by decide +kernel) fun t _ y => ?_
  blk_simp
  rw [after0_12]
  have e := (idx t).2.2.2.2.2.2.2.2.2.2.2.2.1
  exact place t (fun b R => qRow (argH m c) (argC m c) (argM m c) (argW m c) b R) _ (fun b row hb hR => (answer m c t b row hb hR).q) y _
    (by blk_simp [e]) (by blk_simp [e]) (by blk_simp [e])

/-- The keys of every token. -/
theorem final_k : (dats m 0 c).arrAt 13 cfg0.N = fun i => kRow (argH m c) (argC m c) (argM m c) (argW m c) (i 0) (i 1) (i 2) := by
  refine (dats m 0 c).arrAt_eq_of_covers 13 _ (by decide +kernel) fun t _ y => ?_
  blk_simp
  rw [after0_13]
  have e := (idx t).2.2.2.2.2.2.2.2.2.2.2.2.2.1
  exact place t (fun b R => kRow (argH m c) (argC m c) (argM m c) (argW m c) b R) _ (fun b row hb hR => (answer m c t b row hb hR).k) y _
    (by blk_simp [e]) (by blk_simp [e]) (by blk_simp [e])

/-- The values and gates of every token. -/
theorem final_vg : (dats m 0 c).arrAt 14 cfg0.N = fun i => proj (N := 1536) (argH m c) (argC m c) (argM m c) (argW m c) (i 0) (i 1) 1792 (by omega) (i 2) := by
  refine (dats m 0 c).arrAt_eq_of_covers 14 _ (by decide +kernel) fun t _ y => ?_
  blk_simp
  rw [after0_14]
  have e := (idx t).2.2.2.2.2.2.2.2.2.2.2.2.2.2.1
  exact place t (fun b R => proj (N := 1536) (argH m c) (argC m c) (argM m c) (argW m c) b R 1792 (by omega)) _ (fun b row hb hR => (answer m c t b row hb hR).vg) y _
    (by blk_simp [e]) (by blk_simp [e]) (by blk_simp [e])

/-- The other half's inputs of every token. -/
theorem final_u : (dats m 0 c).arrAt 15 cfg0.N = fun i => proj (N := 256) (argH m c) (argC m c) (argM m c) (argW m c) (i 0) (i 1) 0 (by omega) (i 2) := by
  refine (dats m 0 c).arrAt_eq_of_covers 15 _ (by decide +kernel) fun t _ y => ?_
  blk_simp
  rw [after0_15]
  have e := (idx t).2.2.2.2.2.2.2.2.2.2.2.2.2.2.2
  exact place t (fun b R => proj (N := 256) (argH m c) (argC m c) (argM m c) (argW m c) b R 0 (by omega)) _ (fun b row hb hR => (answer m c t b row hb hR).u) y _
    (by blk_simp [e]) (by blk_simp [e]) (by blk_simp [e])

end Cert.Proj

end
-- ==== Proof.ProjRef.lean ====
module

public import proofs.«01_k».proof.Proof.ProjSpec
public import proofs.«01_k».proof.Proof.FfnMixRef
public import proofs.«01_k».proof.Proof.Gen.Reference6Ideal.Run

/-! The reference of the input projection, read at a token. One product of the sample's modulated latent and context rows
    with the whole weight, whose columns are the other half's input, the queries, the keys, and the values and gates; the
    latent tokens' queries and keys are turned by their angles. -/

@[expose] public section

set_option maxRecDepth 16384

noncomputable section

namespace Cert.Proj.Ref

open Idealize.ShloMosaic Idealize.ShloMosaic.TcCoe Idealize.SL.Sem
open Cert.Ffn Cert.Ffn.CtxRef Cert.Ffn.MixRef Cert.Reference6Ideal Cert.Reference6Ideal.Gen Cert.Reference6Ideal.Value

/-- A token past the latent ones is a context token, -/
theorem ctx_token (R : Fin 4352) (h : ¬ R.val < 4096) : ∃ r : Fin 256, R = ⟨4096 + r.val, Nat.add_lt_add_left r.isLt 4096⟩ :=
  ⟨⟨R - 4096, by omega⟩, Fin.ext (by simp only; omega)⟩

/-- and a lane past the first half one of the second. -/
theorem snd_lane (l : Fin 128) (h : ¬ l.val < 64) : ∃ k : Fin 64, l = ⟨64 + k.val, Nat.add_lt_add_left k.isLt 64⟩ :=
  ⟨⟨l - 64, by omega⟩, Fin.ext (by simp only; omega)⟩

/-- The shift of every token: entry 3 of its sample's row for a latent token, of row 8 for a context token. -/
def shift3 (a2 : FVec Ideal S16x9x1024 .f32) : FVec Ideal S8x4352x1024 .f32 :=
  spread (extractStridedSlice S8x1x1024 ![0, 3, 0] a2 slices_S16x9x1024_S8x1x1024_0_3_0) (extractStridedSlice S1x1x1024 ![8, 3, 0] a2 slices_S16x9x1024_S1x1x1024_8_3_0)

/-- The scale of every token: entry 4 likewise. -/
def scale4 (a2 : FVec Ideal S16x9x1024 .f32) : FVec Ideal S8x4352x1024 .f32 :=
  spread (extractStridedSlice S8x1x1024 ![0, 4, 0] a2 slices_S16x9x1024_S8x1x1024_0_4_0) (extractStridedSlice S1x1x1024 ![8, 4, 0] a2 slices_S16x9x1024_S1x1x1024_8_4_0)

/-- The product with the whole weight. -/
def whole (h sh sc : FVec Ideal S8x4352x1024 .f32) (a3 : FVec Ideal S1024x3328 .f32) : FVec Ideal S8x4352x3328 .f32 :=
  Host.dotGeneral dot_S8x4352x1024_S1024x3328_S8x4352x3328_2_0_01_1_n_n none (addf (mulf h (addf (num 0x3F800000#32) sc)) sh) a3

theorem whole_at (h sh sc : FVec Ideal S8x4352x1024 .f32) (a3 : FVec Ideal S1024x3328 .f32) (s : Fin 8) (R : Fin 4352) (o : Fin 3328) :
    whole h sh sc a3 (ix3 s R o)
      = colDot (modRow (fun k => h (ix3 s R k)) (fun k => sh (ix3 s R k)) (fun k => sc (ix3 s R k))) (fun k o => a3 (ix2 k o)) o := by
  pointwise [whole, num, colDot, modRow]

section results

variable (a0 : FVec Ideal S8x4096x1024 .f32) (a1 : FVec Ideal S8x256x1024 .f32) (a2 : FVec Ideal S16x9x1024 .f32)
  (a3 : FVec Ideal S1024x3328 .f32)

/-- The rows the product reads. -/
theorem inRow_eq (s : Fin 8) (R : Fin 4352) :
    modRow (fun k => rows a0 a1 (ix3 s R k)) (fun k => shift3 a2 (ix3 s R k)) (fun k => scale4 a2 (ix3 s R k)) = inRow a0 a1 a2 s R := by
  unfold inRow
  by_cases h : R.val < 4096
  · rw [dif_pos h]
    refine funext fun n => modRow_congr (fun k => rows_lat a0 a1 s ⟨R, h⟩ k) (fun k => ?_) (fun k => ?_) n
    · refine (spread_lat _ _ s ⟨R, h⟩ k).trans ?_
      pointwise
    · refine (spread_lat _ _ s ⟨R, h⟩ k).trans ?_
      pointwise
  · obtain ⟨r, rfl⟩ := ctx_token R ‹_›
    rw [dif_neg h]
    have e : (⟨4096 + r.val - 4096, by omega⟩ : Fin 256) = r := Fin.ext (by simp only; omega)
    rw [e]
    refine funext fun n => modRow_congr (fun k => rows_ctx a0 a1 s r k) (fun k => ?_) (fun k => ?_) n
    · refine (spread_ctx _ _ s r k).trans ?_
      pointwise
    · refine (spread_ctx _ _ s r k).trans ?_
      pointwise

/-- The product, of the arguments. -/
def product : FVec Ideal S8x4352x3328 .f32 := whole (rows a0 a1) (shift3 a2) (scale4 a2) a3

/-- Its columns from `j` on. -/
theorem product_at {N : ℕ} (j : ℕ) (hj : j + N ≤ 3328) (s : Fin 8) (R : Fin 4352) (o : Fin N) :
    product a0 a1 a2 a3 (ix3 s R ⟨j + o, by omega⟩) = proj a0 a1 a2 a3 s R j hj o := by
  refine (whole_at _ _ _ _ s R _).trans ?_
  rw [inRow_eq]
  rfl

end results

/-- The columns of a head. -/
def heads (y : FVec Ideal S8x4352x768 .f32) : FVec Ideal S8x4352x6x128 .f32 := shapeCast _ y shapeCasts_S8x4352x768_S8x4352x6x128

theorem heads_at (y : FVec Ideal S8x4352x768 .f32) (s : Fin 8) (R : Fin 4352) (h : Fin 6) (l : Fin 128) :
    heads y (ix4 s R h l) = y (ix3 s R ⟨128 * h + l, by omega⟩) := by
  pointwise [heads]
  exact congrArg (fun o => y (ix3 s R o)) (Fin.ext (by simp only; omega))

/-- A table at every sample and head. -/
def table (a : FVec Ideal S4096x64 .f32) : FVec Ideal S8x4096x6x64 .f32 :=
  broadcastInDim S8x4096x6x64 ![0, 1, 2, 3] bcast_S1x4096x1x64_S8x4096x6x64_0_1_2_3 (broadcastInDim S1x4096x1x64 ![1, 3] bcast_S4096x64_S1x4096x1x64_1_3 a)

theorem table_at (a : FVec Ideal S4096x64 .f32) (s : Fin 8) (r : Fin 4096) (h : Fin 6) (l : Fin 64) :
    table a (ix4 s r h l) = a (ix2 r l) := by
  pointwise [table]

/-- The first half of the latent tokens' heads, -/
def fst (y : FVec Ideal S8x4352x6x128 .f32) : FVec Ideal S8x4096x6x64 .f32 :=
  extractStridedSlice S8x4096x6x64 ![0, 0, 0, 0] (extractStridedSlice S8x4096x6x128 ![0, 0, 0, 0] y slices_S8x4352x6x128_S8x4096x6x128_0_0_0_0) slices_S8x4096x6x128_S8x4096x6x64_0_0_0_0

/-- and the second. -/
def snd (y : FVec Ideal S8x4352x6x128 .f32) : FVec Ideal S8x4096x6x64 .f32 :=
  extractStridedSlice S8x4096x6x64 ![0, 0, 0, 64] (extractStridedSlice S8x4096x6x128 ![0, 0, 0, 0] y slices_S8x4352x6x128_S8x4096x6x128_0_0_0_0) slices_S8x4096x6x128_S8x4096x6x64_0_0_0_64

/-- The heads with the latent tokens' turned by angles of cosine `co` and sine `si`. -/
def rotated (y : FVec Ideal S8x4352x6x128 .f32) (co si : FVec Ideal S4096x64 .f32) : FVec Ideal S8x4352x6x128 .f32 :=
  concatenate S8x4352x6x128 1 [⟨S8x4096x6x128, concatenate S8x4096x6x128 3
      [⟨S8x4096x6x64, subf (mulf (fst y) (table co)) (mulf (snd y) (table si))⟩,
       ⟨S8x4096x6x64, addf (mulf (fst y) (table si)) (mulf (snd y) (table co))⟩] concatenates_S8x4096x6x64_S8x4096x6x64_S8x4096x6x128_d3⟩,
    ⟨S8x256x6x128, extractStridedSlice S8x256x6x128 ![0, 4096, 0, 0] y slices_S8x4352x6x128_S8x256x6x128_0_4096_0_0⟩]
    concatenates_S8x4096x6x128_S8x256x6x128_S8x4352x6x128_d1

theorem rotated_fst (y : FVec Ideal S8x4352x6x128 .f32) (co si : FVec Ideal S4096x64 .f32) (s : Fin 8) (r : Fin 4096) (h : Fin 6) (l : Fin 64) :
    rotated y co si (ix4 s ⟨r, by omega⟩ h ⟨l, by omega⟩)
      = y (ix4 s ⟨r, by omega⟩ h ⟨l, by omega⟩) * co (ix2 r l) - y (ix4 s ⟨r, by omega⟩ h ⟨64 + l, by omega⟩) * si (ix2 r l) := by
  pointwise [rotated, fst, snd, table]

theorem rotated_snd (y : FVec Ideal S8x4352x6x128 .f32) (co si : FVec Ideal S4096x64 .f32) (s : Fin 8) (r : Fin 4096) (h : Fin 6) (l : Fin 64) :
    rotated y co si (ix4 s ⟨r, by omega⟩ h ⟨64 + l, by omega⟩)
      = y (ix4 s ⟨r, by omega⟩ h ⟨l, by omega⟩) * si (ix2 r l) + y (ix4 s ⟨r, by omega⟩ h ⟨64 + l, by omega⟩) * co (ix2 r l) := by
  pointwise [rotated, fst, snd, table]

theorem rotated_ctx (y : FVec Ideal S8x4352x6x128 .f32) (co si : FVec Ideal S4096x64 .f32) (s : Fin 8) (r : Fin 256) (h : Fin 6) (l : Fin 128) :
    rotated y co si (ix4 s ⟨4096 + r, by omega⟩ h l) = y (ix4 s ⟨4096 + r, by omega⟩ h l) := by
  pointwise [rotated]

/-- The turned heads at a token and channel. -/
theorem rotated_at (y : FVec Ideal S8x4352x768 .f32) (s : Fin 8) (R : Fin 4352) (h : Fin 6) (l : Fin 128) :
    rotated (heads y) (Host.cos angles) (Host.sin angles) (ix4 s R h l) = rot R (fun o => y (ix3 s R o)) ⟨128 * h + l, by omega⟩ := by
  unfold rot
  by_cases hR : R.val < 4096
  · rw [dif_pos hR]
    by_cases hl : l.val < 64
    · refine (rotated_fst (heads y) _ _ s ⟨R, hR⟩ h ⟨l, hl⟩).trans ?_
      rw [heads_at, heads_at]
      exact (turned_fst (fun o => y (ix3 s R o)) (fun l => Host.cos angles (ix2 ⟨R, hR⟩ l)) (fun l => Host.sin angles (ix2 ⟨R, hR⟩ l)) h ⟨l, hl⟩).symm
    · obtain ⟨k, rfl⟩ := snd_lane l hl
      refine (rotated_snd (heads y) _ _ s ⟨R, hR⟩ h k).trans ?_
      rw [heads_at, heads_at]
      exact (turned_snd (fun o => y (ix3 s R o)) (fun l => Host.cos angles (ix2 ⟨R, hR⟩ l)) (fun l => Host.sin angles (ix2 ⟨R, hR⟩ l)) h k).symm
  · rw [dif_neg hR]
    obtain ⟨r, rfl⟩ := ctx_token R ‹_›
    rw [rotated_ctx, heads_at]

/-- Heads side by side again. -/
theorem flat_at (y : FVec Ideal S8x4352x6x128 .f32) (s : Fin 8) (R : Fin 4352) (o : Fin 768) :
    (shapeCast S8x4352x768 y shapeCasts_S8x4352x6x128_S8x4352x768) (ix3 s R o) = y (ix4 s R ⟨o / 128, by omega⟩ ⟨o % 128, by omega⟩) := by
  pointwise

variable (m : (ℓ : Loc nD τ sig) → Buf (Elt Ideal) ℓ) (c : Dev nD)

abbrev argH : FVec Ideal S8x4096x1024 .f32 := m ((c : Thread nD τ).loc main_arg0)
abbrev argC : FVec Ideal S8x256x1024 .f32 := m ((c : Thread nD τ).loc main_arg1)
abbrev argM : FVec Ideal S16x9x1024 .f32 := m ((c : Thread nD τ).loc main_arg2)
abbrev argW : FVec Ideal S1024x3328 .f32 := m ((c : Thread nD τ).loc main_arg3)

/-- The queries' columns, -/
abbrev qCols (y : FVec Ideal S8x4352x3328 .f32) : FVec Ideal S8x4352x768 .f32 :=
  extractStridedSlice S8x4352x768 ![0, 0, 256] y slices_S8x4352x3328_S8x4352x768_0_0_256

/-- the keys', -/
abbrev kCols (y : FVec Ideal S8x4352x3328 .f32) : FVec Ideal S8x4352x768 .f32 :=
  extractStridedSlice S8x4352x768 ![0, 0, 1024] y slices_S8x4352x3328_S8x4352x768_0_0_1024

/-- and the values' and gates'. -/
abbrev vgCols (y : FVec Ideal S8x4352x3328 .f32) : FVec Ideal S8x4352x1536 .f32 :=
  concatenate S8x4352x1536 2 [⟨S8x4352x768, extractStridedSlice S8x4352x768 ![0, 0, 1792] y slices_S8x4352x3328_S8x4352x768_0_0_1792⟩,
    ⟨S8x4352x768, extractStridedSlice S8x4352x768 ![0, 0, 2560] y slices_S8x4352x3328_S8x4352x768_0_0_2560⟩]
    concatenates_S8x4352x768_S8x4352x768_S8x4352x1536_d2

theorem vgCols_at (y : FVec Ideal S8x4352x3328 .f32) (s : Fin 8) (R : Fin 4352) (o : Fin 1536) :
    vgCols y (ix3 s R o) = y (ix3 s R ⟨1792 + o, by omega⟩) := by
  have ho := o.isLt
  pointwise [vgCols]
  split_ifs
  · rfl
  all_goals exact congrArg (fun o => y (ix3 s R o)) (Fin.ext (by simp only; omega))

/-- A result whose entry at every sample, token and column is known. -/
theorem ext3 {n : ℕ} {x : FVec Ideal ⟨3, ![8, 4352, n]⟩ .f32} {f : Fin 8 → Fin 4352 → Fin n → EReal}
    (h : ∀ s R o, x (ix3 s R o) = f s R o) : x = fun i => f (i 0) (i 1) (i 2) := by
  funext i
  have e : i = ix3 (i 0) (i 1) (i 2) := by
    funext a
    match a with
    | 0 => rfl
    | 1 => rfl
    | 2 => rfl
  exact (congrArg x e).trans (h _ _ _)

/-- A channel from its head and lane. -/
theorem of_head (o : Fin 768) : (⟨128 * (o.val / 128) + o.val % 128, by omega⟩ : Fin 768) = o := Fin.ext (Nat.div_add_mod _ _)

theorem turn_at (y : FVec Ideal S8x4352x768 .f32) (f : Fin 8 → Fin 4352 → Fin 768 → EReal) (h : ∀ s R o, y (ix3 s R o) = f s R o)
    (s : Fin 8) (R : Fin 4352) (o : Fin 768) :
    rotated (heads y) (Host.cos angles) (Host.sin angles) (ix4 s R ⟨o / 128, by omega⟩ ⟨o % 128, by omega⟩) = rot R (f s R) o := by
  rw [rotated_at, show (fun o => y (ix3 s R o)) = f s R from funext fun o => h s R o]
  exact congrArg (rot R (f s R)) (of_head o)

theorem q_eq : res_out0 m c = fun i => qRow (argH m c) (argC m c) (argM m c) (argW m c) (i 0) (i 1) (i 2) := by
  have e : res_out0 m c = shapeCast S8x4352x768 (rotated (heads (qCols (product (argH m c) (argC m c) (argM m c) (argW m c))))
      (Host.cos angles) (Host.sin angles)) shapeCasts_S8x4352x6x128_S8x4352x768 := rfl
  rw [e]
  refine ext3 fun s R o => (flat_at _ s R o).trans (turn_at _ (fun s R => proj (argH m c) (argC m c) (argM m c) (argW m c) s R 256 (by omega)) (fun s R o => ?_) s R o)
  refine Eq.trans ?_ (product_at _ _ _ _ 256 (by omega) s R o)
  pointwise [qCols]

theorem k_eq : res_out1 m c = fun i => kRow (argH m c) (argC m c) (argM m c) (argW m c) (i 0) (i 1) (i 2) := by
  have e : res_out1 m c = shapeCast S8x4352x768 (mulf (rotated (heads (kCols (product (argH m c) (argC m c) (argM m c) (argW m c))))
      (Host.cos angles) (Host.sin angles)) (broadcastInDim S8x4352x6x128 ![] bcast_S_S8x4352x6x128 (constant S_ .f32 0x3DB504F3#32)))
      shapeCasts_S8x4352x6x128_S8x4352x768 := rfl
  rw [e]
  refine ext3 fun s R o => (flat_at _ s R o).trans ?_
  refine congrArg (· * Ideal.ofBits FTy.f32 0x3DB504F3#32) (turn_at _ (fun s R => proj (argH m c) (argC m c) (argM m c) (argW m c) s R 1024 (by omega)) (fun s R o => ?_) s R o)
  refine Eq.trans ?_ (product_at _ _ _ _ 1024 (by omega) s R o)
  pointwise [kCols]

theorem vg_eq : vgCols (product (argH m c) (argC m c) (argM m c) (argW m c))
    = fun i => proj (N := 1536) (argH m c) (argC m c) (argM m c) (argW m c) (i 0) (i 1) 1792 (by omega) (i 2) :=
  ext3 fun s R o => (vgCols_at _ s R o).trans (product_at _ _ _ _ 1792 (by omega) s R o)

theorem u_eq : extractStridedSlice S8x4352x256 ![0, 0, 0] (product (argH m c) (argC m c) (argM m c) (argW m c)) slices_S8x4352x3328_S8x4352x256_0_0_0
    = fun i => proj (N := 256) (argH m c) (argC m c) (argM m c) (argW m c) (i 0) (i 1) 0 (by omega) (i 2) := by
  refine ext3 fun s R o => Eq.trans ?_ (product_at _ _ _ _ 0 (by omega) s R o)
  pointwise
  try exact congrArg (fun o => product _ _ _ _ (ix3 s R o)) (Fin.ext (by simp only; omega))

end Cert.Proj.Ref

end
-- ==== Proof.GdnSpec.lean ====
module

public import Idealize.ShloMosaic.Lib.Pointwise
public import Idealize.ShloMosaic.Lib.Pipeline.ValueKit
public import Mathlib.Data.Matrix.Mul
public import Mathlib.Tactic.NoncommRing
public import Mathlib.Analysis.SpecialFunctions.Exp

/-! The mathematics of the gated delta rule over the reals, for one batch row and one head. Nothing here mentions a
    program. One block of 64 tokens is run from its last row to its first: token by token (`tokS`, `tokO`), and all at
    once by the inverse of a triangular matrix (`vnew`, `oblk`, `snext`). `run_end` and `run_out` say that the two are
    the same. -/

@[expose] public section

noncomputable section

namespace Cert.Gdn

open Finset

/-- The real 64 by 64 matrices a block works with. -/
abbrev Mat : Type := Matrix (Fin 64) (Fin 64) ℝ

/-! ### The triangular inverse by blocks -/

/-- Rows and columns in the same block of `2 ^ b`. -/
def same (b : ℕ) (r c : Fin 64) : Prop := r.val / 2 ^ b = c.val / 2 ^ b

instance (b : ℕ) (r c : Fin 64) : Decidable (same b r c) := inferInstanceAs (Decidable (_ = _))

/-- The part of `n` inside the diagonal blocks of `2 ^ b`. -/
def diag (b : ℕ) (n : Mat) : Mat := fun r c => if same b r c then n r c else 0

/-- The part of `n` inside the diagonal blocks of `2 ^ (b + 1)` but outside those of `2 ^ b`. -/
def off (b : ℕ) (n : Mat) : Mat := fun r c => if same (b + 1) r c ∧ ¬ same b r c then n r c else 0

/-- The inverse of `1 - n` inside blocks of eight, by doubling powers. -/
def inv8 (n : Mat) : Mat :=
  ((1 + diag 3 n) + (1 + diag 3 n) * (diag 3 n * diag 3 n))
    + ((1 + diag 3 n) + (1 + diag 3 n) * (diag 3 n * diag 3 n)) * ((diag 3 n * diag 3 n) * (diag 3 n * diag 3 n))

/-- Two neighbouring blocks' inverses merged into one of twice the size. -/
def merge (b : ℕ) (n x : Mat) : Mat := x + (x * off b n) * x

/-- The inverse of `1 - n` of all 64 rows. -/
def tri (n : Mat) : Mat := merge 5 n (merge 4 n (merge 3 n (inv8 n)))

/-- `a` is zero except at least `j` columns above the diagonal inside the blocks of `2 ^ b`. -/
def Upper (b j : ℕ) (a : Mat) : Prop := ∀ r c, ¬ (same b r c ∧ r.val + j ≤ c.val) → a r c = 0

theorem Upper.mul {b j l : ℕ} {x y : Mat} (hx : Upper b j x) (hy : Upper b l y) : Upper b (j + l) (x * y) := by
  intro r c h
  rw [Matrix.mul_apply]
  refine sum_eq_zero fun i _ => ?_
  by_cases h1 : same b r i ∧ r.val + j ≤ i.val
  · rw [hy i c, mul_zero]
    rintro ⟨h2, h3⟩
    exact h ⟨h1.1.trans h2, by omega⟩
  · rw [hx r i h1, zero_mul]

theorem Upper.add {b j : ℕ} {x y : Mat} (hx : Upper b j x) (hy : Upper b j y) : Upper b j (x + y) := fun r c h => by
  rw [Matrix.add_apply, hx r c h, hy r c h, add_zero]

theorem Upper.mono {b j l : ℕ} {x : Mat} (h : l ≤ j) (hx : Upper b j x) : Upper b l x := fun r c hn =>
  hx r c fun h1 => hn ⟨h1.1, by omega⟩

theorem Upper.succ {b j : ℕ} {x : Mat} (hx : Upper b j x) : Upper (b + 1) j x := fun r c hn =>
  hx r c fun h1 => hn ⟨by
    have h := h1.1
    unfold same at h ⊢
    rw [pow_succ, ← Nat.div_div_eq_div_mul, ← Nat.div_div_eq_div_mul, h], h1.2⟩

theorem upper_one (b : ℕ) : Upper b 0 1 := fun r c hn => by
  rw [Matrix.one_apply, if_neg]
  rintro rfl
  exact hn ⟨rfl, le_refl _⟩

variable {n : Mat} (hn : ∀ r c : Fin 64, ¬ r < c → n r c = 0)

include hn in
theorem upper_diag (b : ℕ) : Upper b 1 (diag b n) := fun r c h => by
  unfold diag
  split_ifs with h1
  · refine hn r c fun h2 => h ⟨h1, ?_⟩
    have : r.val < c.val := h2
    omega
  · rfl

theorem upper_eight {x : Mat} (hx : Upper 3 8 x) : x = 0 := by
  ext r c
  refine hx r c fun h => ?_
  have h1 := h.1
  unfold same at h1
  omega

include hn in
theorem upper_inv8 : Upper 3 0 (inv8 n) := by
  have d := upper_diag hn 3
  have d0 := d.mono (Nat.zero_le 1)
  have p2 := d0.mul d0
  have x2 := ((upper_one 3).add d0).add (((upper_one 3).add d0).mul p2)
  exact x2.add (x2.mul (p2.mul p2))

include hn in
theorem inv8_mul : (1 - diag 3 n) * inv8 n = 1 := by
  have d := upper_diag hn 3
  have d2 := d.mul d
  have d4 := d2.mul d2
  have d8 : (diag 3 n * diag 3 n) * (diag 3 n * diag 3 n) * ((diag 3 n * diag 3 n) * (diag 3 n * diag 3 n)) = 0 :=
    upper_eight (d4.mul d4)
  have e : (1 - diag 3 n) * inv8 n
      = 1 - (diag 3 n * diag 3 n) * (diag 3 n * diag 3 n) * ((diag 3 n * diag 3 n) * (diag 3 n * diag 3 n)) := by
    unfold inv8
    noncomm_ring
  rw [e, d8, sub_zero]

theorem diag_succ (b : ℕ) : diag (b + 1) n = diag b n + off b n := by
  ext r c
  rw [Matrix.add_apply]
  unfold diag off
  by_cases h1 : same (b + 1) r c
  · by_cases h2 : same b r c <;> simp [h1, h2]
  · have h2 : ¬ same b r c := fun h => h1 (by
      unfold same at h ⊢
      rw [pow_succ, ← Nat.div_div_eq_div_mul, ← Nat.div_div_eq_div_mul, h])
    simp [h1, h2]

include hn in
/-- A step from the first half of a block into the second cannot be followed, inside a half, by another. -/
theorem off_off (b : ℕ) {x : Mat} (hx : Upper b 0 x) : off b n * x * off b n = 0 := by
  ext r c
  rw [Matrix.mul_apply]
  refine sum_eq_zero fun j _ => ?_
  rw [Matrix.mul_apply, sum_mul]
  refine sum_eq_zero fun i _ => ?_
  by_cases h1 : off b n r i = 0
  · rw [h1, zero_mul, zero_mul]
  by_cases h2 : x i j = 0
  · rw [h2, mul_zero, zero_mul]
  by_cases h3 : off b n j c = 0
  · rw [h3, mul_zero]
  exfalso
  have key : ∀ r c : Fin 64, off b n r c ≠ 0 →
      r.val / 2 ^ b / 2 = c.val / 2 ^ b / 2 ∧ r.val / 2 ^ b < c.val / 2 ^ b := by
    intro r c h
    unfold off at h
    split_ifs at h with h4
    · obtain ⟨h5, h6⟩ := h4
      unfold same at h5 h6
      rw [pow_succ, ← Nat.div_div_eq_div_mul, ← Nat.div_div_eq_div_mul] at h5
      refine ⟨h5, lt_of_le_of_ne (Nat.div_le_div_right ?_) h6⟩
      by_contra h7
      exact h (hn r c fun h8 => h7 (le_of_lt h8))
    · exact absurd rfl h
  obtain ⟨a1, a2⟩ := key r i h1
  obtain ⟨b1, b2⟩ := key j c h3
  have h4 : same b i j := by
    by_contra h
    exact h2 (hx i j fun h' => h h'.1)
  unfold same at h4
  omega

include hn in
theorem merge_mul (b : ℕ) {x : Mat} (hx : Upper b 0 x) (h : (1 - diag b n) * x = 1) :
    (1 - diag (b + 1) n) * merge b n x = 1 := by
  have e : (1 - diag (b + 1) n) * merge b n x
      = (1 - diag b n) * x + ((1 - diag b n) * x) * off b n * x - off b n * x - (off b n * x * off b n) * x := by
    rw [diag_succ]
    unfold merge
    noncomm_ring
  rw [e, h, off_off hn b hx]
  noncomm_ring

include hn in
theorem upper_merge (b : ℕ) {x : Mat} (hx : Upper b 0 x) : Upper (b + 1) 0 (merge b n x) := by
  have o : Upper (b + 1) 0 (off b n) := fun r c h => by
    unfold off
    split_ifs with h1
    · refine hn r c fun h2 => h ⟨h1.1, ?_⟩
      have : r.val < c.val := h2
      omega
    · rfl
  exact hx.succ.add ((hx.succ.mul o).mul hx.succ)

include hn in
/-- Built up from blocks of eight, `tri n` is the right inverse of `1 - n` when `n` is strictly above the diagonal. -/
theorem tri_mul : (1 - n) * tri n = 1 := by
  have u3 := upper_inv8 hn
  have u4 := upper_merge hn 3 u3
  have u5 := upper_merge hn 4 u4
  have h := merge_mul hn 5 u5 (merge_mul hn 4 u4 (merge_mul hn 3 u3 (inv8_mul hn)))
  have e : diag (5 + 1) n = n := by
    ext r c
    exact if_pos (show same (5 + 1) r c by unfold same; omega)
  rwa [e] at h

/-! ### A block of 64 tokens -/

variable (q k v : Fin 64 → Fin 128 → ℝ) (g β : Fin 64 → ℝ) (s : Fin 128 → Fin 128 → ℝ)

/-- The log decay from the block's end up to and including row `r`. -/
def acc (r : Fin 64) : ℝ := ∑ c : Fin 64, if r ≤ c then g c else 0

/-- The decay from row `c` to row `r`, which comes after it. -/
def dec (r c : Fin 64) : ℝ := if r ≤ c then Real.exp (acc g r - acc g c) else 0

/-- The strictly triangular part of a block's system, with its sign. -/
def nmat : Mat := fun r c => 0 - (if r < c then (∑ d, k r d * β r * k c d) * dec g r c else 0)

/-- What each row writes, solved for all rows of the block at once. -/
def vnew (r : Fin 64) (e : Fin 128) : ℝ :=
  (∑ c, tri (nmat k g β) r c * (v c e * β c))
    - ∑ d, (∑ c, tri (nmat k g β) r c * (k c d * β c * Real.exp (acc g c))) * s d e

/-- What the block puts out. -/
def oblk (r : Fin 64) (e : Fin 128) : ℝ :=
  (∑ d, q r d * Real.exp (acc g r) * s d e) + ∑ c, ((∑ d, q r d * k c d) * dec g r c) * vnew k v g β s c e

/-- The state the block leaves. -/
def snext (d e : Fin 128) : ℝ :=
  s d e * Real.exp (acc g 0) + ∑ r, k r d * Real.exp (acc g 0 - acc g r) * vnew k v g β s r e

theorem nmat_strict (r c : Fin 64) (h : ¬ r < c) : nmat k g β r c = 0 := by
  unfold nmat
  rw [if_neg h, sub_zero]

/-- The triangular system the rows' writes solve. -/
theorem vnew_eq (r : Fin 64) (e : Fin 128) :
    vnew k v g β s r e
      = β r * (v r e - Real.exp (acc g r) * ∑ d, k r d * s d e)
        - ∑ c, if r < c then β r * (∑ d, k r d * k c d) * Real.exp (acc g r - acc g c) * vnew k v g β s c e else 0 := by
  set n := nmat k g β with hndef
  have ht : (1 - n) * tri n = 1 := tri_mul (nmat_strict k g β)
  let y : Fin 64 → ℝ := fun c => v c e * β c - ∑ d, k c d * β c * Real.exp (acc g c) * s d e
  have hv : ∀ r, vnew k v g β s r e = ((tri n).mulVec y) r := by
    intro r
    show (∑ c, tri n r c * (v c e * β c)) - ∑ d, (∑ c, tri n r c * (k c d * β c * Real.exp (acc g c))) * s d e
        = ∑ c, tri n r c * y c
    have : ∑ d, (∑ c, tri n r c * (k c d * β c * Real.exp (acc g c))) * s d e
        = ∑ c, tri n r c * ∑ d, k c d * β c * Real.exp (acc g c) * s d e := by
      simp only [sum_mul, mul_sum]
      rw [sum_comm]
      exact sum_congr rfl fun c _ => sum_congr rfl fun d _ => by ring
    rw [this, ← sum_sub_distrib]
    exact sum_congr rfl fun c _ => by ring
  have hs : ((1 - n).mulVec ((tri n).mulVec y)) r = y r := by
    rw [Matrix.mulVec_mulVec, ht, Matrix.one_mulVec]
  rw [Matrix.sub_mulVec, Matrix.one_mulVec, Pi.sub_apply] at hs
  have hn : (n.mulVec ((tri n).mulVec y)) r
      = - ∑ c, if r < c then β r * (∑ d, k r d * k c d) * Real.exp (acc g r - acc g c) * vnew k v g β s c e else 0 := by
    show (∑ c, n r c * ((tri n).mulVec y) c) = _
    rw [← sum_neg_distrib]
    refine sum_congr rfl fun c _ => ?_
    rw [← hv c, hndef]
    unfold nmat dec
    by_cases h : r < c
    · rw [if_pos h, if_pos h, if_pos (le_of_lt h)]
      have : ∑ d, k r d * β r * k c d = β r * ∑ d, k r d * k c d := by
        rw [mul_sum]
        exact sum_congr rfl fun d _ => by ring
      rw [this]
      ring
    · rw [if_neg h, if_neg h]
      ring
  rw [hn, ← hv r] at hs
  have hy : y r = β r * (v r e - Real.exp (acc g r) * ∑ d, k r d * s d e) := by
    show v r e * β r - ∑ d, k r d * β r * Real.exp (acc g r) * s d e = _
    have : ∑ d, k r d * β r * Real.exp (acc g r) * s d e = β r * (Real.exp (acc g r) * ∑ d, k r d * s d e) := by
      simp only [mul_sum]
      exact sum_congr rfl fun d _ => by ring
    rw [this]
    ring
  rw [← hy]
  linarith

/-! ### Token by token -/

/-- What a token writes at its key: the value less what the decayed state holds there, times the step. -/
def tokV (k v : Fin 128 → ℝ) (g β : ℝ) (s : Fin 128 → Fin 128 → ℝ) (e : Fin 128) : ℝ :=
  β * (v e - ∑ d, k d * (s d e * Real.exp g))

/-- The state after a token. -/
def tokS (k v : Fin 128 → ℝ) (g β : ℝ) (s : Fin 128 → Fin 128 → ℝ) (d e : Fin 128) : ℝ :=
  s d e * Real.exp g + k d * tokV k v g β s e

/-- A token's output, read from the state after it. -/
def tokO (q : Fin 128 → ℝ) (s : Fin 128 → Fin 128 → ℝ) (e : Fin 128) : ℝ := ∑ d, q d * s d e

/-- The row of the block's `i`-th token: the block is run backward. -/
def row (i : ℕ) : Fin 64 := ⟨63 - i, by omega⟩

/-- The state after `i` tokens of the block. -/
def run : ℕ → Fin 128 → Fin 128 → ℝ
  | 0 => s
  | i + 1 => tokS (k (row i)) (v (row i)) (g (row i)) (β (row i)) (run i)

theorem sum_step (f : Fin 64 → ℝ) {i : ℕ} (hi : i < 64) :
    (∑ c : Fin 64, if 64 - (i + 1) ≤ c.val then f c else 0)
      = f (row i) + ∑ c : Fin 64, if 64 - i ≤ c.val then f c else 0 := by
  have e : ∀ c : Fin 64, (if 64 - (i + 1) ≤ c.val then f c else 0)
      = (if c = row i then f c else 0) + if 64 - i ≤ c.val then f c else 0 := by
    intro c
    have hr : c = row i ↔ c.val = 63 - i := Fin.ext_iff
    by_cases h1 : c = row i
    · rw [if_pos h1, if_pos (by have := hr.mp h1; omega), if_neg (by have := hr.mp h1; omega), add_zero]
    · have h2 : c.val ≠ 63 - i := fun h => h1 (hr.mpr h)
      rw [if_neg h1, zero_add]
      by_cases h3 : 64 - i ≤ c.val
      · rw [if_pos h3, if_pos (by omega)]
      · rw [if_neg h3, if_neg (by omega)]
  rw [sum_congr rfl fun c _ => e c, sum_add_distrib, sum_ite_eq' univ (row i) f, if_pos (mem_univ _)]

/-- The log decay of the block's first `i` tokens. -/
def pre (i : ℕ) : ℝ := ∑ c : Fin 64, if 64 - i ≤ c.val then g c else 0

theorem pre_succ {i : ℕ} (hi : i < 64) : pre g (i + 1) = acc g (row i) := by
  refine sum_congr rfl fun c _ => ?_
  have : row i ≤ c ↔ 64 - (i + 1) ≤ c.val := by
    show (row i).val ≤ c.val ↔ _
    show 63 - i ≤ c.val ↔ _
    omega
  simp only [this]

theorem pre_zero : pre g 0 = 0 := sum_eq_zero fun c _ => if_neg (by omega)

/-- The state after `i` tokens, from the block's old state and what the first `i` tokens wrote. -/
theorem run_eq : ∀ i : ℕ, i ≤ 64 → ∀ d e, run k v g β s i d e
    = s d e * Real.exp (pre g i)
      + ∑ c : Fin 64, if 64 - i ≤ c.val then k c d * Real.exp (pre g i - acc g c) * vnew k v g β s c e else 0
  | 0, _, d, e => by
    rw [pre_zero, Real.exp_zero, mul_one, sum_eq_zero fun c _ => if_neg (by omega), add_zero]
    rfl
  | i + 1, hi, d, e => by
    have ih := run_eq i (by omega)
    have hs : pre g (i + 1) = g (row i) + pre g i := sum_step g (by omega)
    have ha := pre_succ g (i := i) (by omega)
    -- the decayed state, in the new row's terms
    have hd : ∀ d e, run k v g β s i d e * Real.exp (g (row i))
        = s d e * Real.exp (pre g (i + 1))
          + ∑ c : Fin 64, if 64 - i ≤ c.val then
              k c d * Real.exp (pre g (i + 1) - acc g c) * vnew k v g β s c e else 0 := by
      intro d e
      rw [ih d e, add_mul, sum_mul, hs]
      congr 1
      · rw [Real.exp_add]; ring
      · refine sum_congr rfl fun c _ => ?_
        split_ifs
        · rw [add_sub_assoc, Real.exp_add]; ring
        · rw [zero_mul]
    have hw : tokV (k (row i)) (v (row i)) (g (row i)) (β (row i)) (run k v g β s i) e
        = vnew k v g β s (row i) e := by
      unfold tokV
      rw [vnew_eq]
      have e1 : ∑ d, k (row i) d * (run k v g β s i d e * Real.exp (g (row i)))
          = Real.exp (acc g (row i)) * (∑ d, k (row i) d * s d e)
            + ∑ c : Fin 64, if row i < c then
                (∑ d, k (row i) d * k c d) * Real.exp (acc g (row i) - acc g c) * vnew k v g β s c e else 0 := by
        simp only [hd, mul_add, sum_add_distrib, ha]
        congr 1
        · rw [mul_sum]
          exact sum_congr rfl fun d _ => by ring
        · simp only [mul_sum]
          rw [sum_comm]
          refine sum_congr rfl fun c _ => ?_
          have hc : row i < c ↔ 64 - i ≤ c.val := by
            show (row i).val < c.val ↔ _
            show 63 - i < c.val ↔ _
            omega
          by_cases h : row i < c
          · simp only [if_pos h, if_pos (hc.mp h), sum_mul]
            exact sum_congr rfl fun d _ => by ring
          · simp only [if_neg h, if_neg (fun h' => h (hc.mpr h')), mul_zero, sum_const_zero]
      rw [e1, mul_sub, mul_add, mul_sub, sub_sub]
      congr 2
      rw [mul_sum]
      refine sum_congr rfl fun c _ => ?_
      split_ifs
      · ring
      · rw [mul_zero]
    show run k v g β s i d e * Real.exp (g (row i))
      + k (row i) d * tokV (k (row i)) (v (row i)) (g (row i)) (β (row i)) (run k v g β s i) e = _
    rw [hw, hd, sum_step (fun c => k c d * Real.exp (pre g (i + 1) - acc g c) * vnew k v g β s c e) (by omega), ha,
      sub_self, Real.exp_zero]
    ring

/-- After all 64 tokens the state is the one the block leaves. -/
theorem run_end : run k v g β s 64 = snext k v g β s := by
  funext d e
  rw [run_eq k v g β s 64 (le_refl _), pre_succ g (i := 63) (by omega)]
  unfold snext
  refine congrArg (_ + ·) (sum_congr rfl fun c _ => ?_)
  rw [if_pos (by omega)]
  rfl

/-- The `i`-th token's output is the block's output at its row. -/
theorem run_out {i : ℕ} (hi : i < 64) (e : Fin 128) :
    tokO (q (row i)) (run k v g β s (i + 1)) e = oblk q k v g β s (row i) e := by
  unfold tokO oblk
  simp only [run_eq k v g β s (i + 1) (by omega), pre_succ g hi, mul_add, sum_add_distrib]
  congr 1
  · exact sum_congr rfl fun d _ => by ring
  · simp only [mul_sum]
    rw [sum_comm]
    refine sum_congr rfl fun c _ => ?_
    have hc : row i ≤ c ↔ 64 - (i + 1) ≤ c.val := by
      show (row i).val ≤ c.val ↔ _
      show 63 - i ≤ c.val ↔ _
      omega
    unfold dec
    by_cases h : row i ≤ c
    · simp only [if_pos h, if_pos (hc.mp h), sum_mul]
      exact sum_congr rfl fun d _ => by ring
    · simp only [if_neg h, if_neg (fun h' => h (hc.mpr h')), mul_zero, sum_const_zero, zero_mul]

end Cert.Gdn

end

end
-- ==== Proof.GdnSeq.lean ====
module

public import proofs.«01_k».proof.Proof.GdnSpec
public import Idealize.ShloMosaic.Lib.Pointwise
public import Idealize.ShloMosaic.Lib.Pipeline.ValueKit

/-! The gated delta rule over a whole sequence of real tokens, run backward, and its cut into blocks of 64 rows. -/

@[expose] public section

noncomputable section

namespace Cert.Gdn

open Idealize.ShloMosaic

/-! ### Sums and products of real numbers among the extended reals -/

theorem coe_sum {n : ℕ} (f : Fin n → ℝ) : (∑ d, ((f d : ℝ) : EReal)) = ((∑ d, f d : ℝ) : EReal) :=
  (map_sum (⟨⟨fun r : ℝ => (r : EReal), rfl⟩, EReal.coe_add⟩ : ℝ →+ EReal) f Finset.univ).symm

theorem coe_dot {n : ℕ} (f h : Fin n → ℝ) : (∑ d, ((f d : ℝ) : EReal) * ((h d : ℝ) : EReal)) = ((∑ d, f d * h d : ℝ) : EReal) := by
  rw [← coe_sum]
  exact Finset.sum_congr rfl fun d _ => (EReal.coe_mul _ _).symm

/-- The row of the `i`-th token: the sequence is run backward. -/
def back (i : ℕ) : Fin 4352 := ⟨4351 - i, by omega⟩

/-- Row `r` of the `n`-th block of the sequence run backward. -/
def blkRow (n : ℕ) (r : Fin 64) : Fin 4352 := ⟨64 * (67 - n) + r.val, by omega⟩

variable (q k v : Fin 4352 → Fin 128 → ℝ) (g β : Fin 4352 → ℝ)

/-- The state after `i` tokens. -/
def seqS : ℕ → Fin 128 → Fin 128 → ℝ
  | 0 => fun _ _ => 0
  | i + 1 => tokS (k (back i)) (v (back i)) (g (back i)) (β (back i)) (seqS i)

/-- The output of a row: its query read from the state after it. -/
def seqO (R : Fin 4352) (e : Fin 128) : ℝ := tokO (q R) (seqS k v g β (4352 - R.val)) e

theorem blkRow_row {n i : ℕ} (hn : n < 68) (hi : i < 64) : blkRow n (row i) = back (64 * n + i) :=
  Fin.ext (show 64 * (67 - n) + (63 - i) = 4351 - (64 * n + i) by omega)

/-- Inside a block the sequence is the block's own run. -/
theorem run_seq {n : ℕ} (hn : n < 68) : ∀ i : ℕ, i ≤ 64 →
    run (fun r => k (blkRow n r)) (fun r => v (blkRow n r)) (fun r => g (blkRow n r)) (fun r => β (blkRow n r)) (seqS k v g β (64 * n)) i
      = seqS k v g β (64 * n + i)
  | 0, _ => rfl
  | i + 1, hi => by
    show tokS _ _ _ _ _ = tokS _ _ _ _ _
    rw [run_seq hn i (by omega)]
    have e := blkRow_row hn (show i < 64 by omega)
    show tokS (k (blkRow n (row i))) (v (blkRow n (row i))) (g (blkRow n (row i))) (β (blkRow n (row i))) _ = _
    rw [e]
    rfl

/-- A block's new state. -/
theorem seq_next {n : ℕ} (hn : n < 68) :
    snext (fun r => k (blkRow n r)) (fun r => v (blkRow n r)) (fun r => g (blkRow n r)) (fun r => β (blkRow n r)) (seqS k v g β (64 * n))
      = seqS k v g β (64 * (n + 1)) := by
  rw [← run_end, run_seq k v g β hn 64 (le_refl _)]
  rfl

/-- A block's outputs. -/
theorem seq_out {n : ℕ} (hn : n < 68) (r : Fin 64) (e : Fin 128) :
    oblk (fun r => q (blkRow n r)) (fun r => k (blkRow n r)) (fun r => v (blkRow n r)) (fun r => g (blkRow n r)) (fun r => β (blkRow n r))
        (seqS k v g β (64 * n)) r e
      = seqO q k v g β (blkRow n r) e := by
  have hr : r = row (63 - r.val) := Fin.ext (show r.val = 63 - (63 - r.val) by omega)
  have h := run_out (fun r => q (blkRow n r)) (fun r => k (blkRow n r)) (fun r => v (blkRow n r)) (fun r => g (blkRow n r))
    (fun r => β (blkRow n r)) (seqS k v g β (64 * n)) (i := 63 - r.val) (by omega) e
  rw [← hr, run_seq k v g β hn _ (by omega)] at h
  rw [← h]
  unfold seqO
  have e1 : 64 * n + (63 - r.val + 1) = 4352 - (blkRow n r).val := by
    show _ = 4352 - (64 * (67 - n) + r.val)
    omega
  rw [e1]

/-! ### The tokens of one batch row and head in the arrays -/

/-- Every entry of an array is a real number. -/
def Real3 {n0 n1 n2 : ℕ} {φ : FTy} (X : FVec Ideal ⟨3, ![n0, n1, n2]⟩ φ) : Prop :=
  ∀ a b c, X (ix3 a b c) = ((EReal.toReal (X (ix3 a b c)) : ℝ) : EReal)

/-- One head's rows of a query, key or value array. -/
def rows (X : FVec Ideal ⟨3, ![8, 4352, 512]⟩ .f32) (b : Fin 8) (h : Fin 4) (R : Fin 4352) (d : Fin 128) : ℝ :=
  EReal.toReal (X (ix3 b R ⟨128 * h.val + d.val, by omega⟩))

/-- One head's log gates. -/
def gates (X : FVec Ideal ⟨3, ![8, 4352, 128]⟩ .f32) (b : Fin 8) (h : Fin 4) (R : Fin 4352) : ℝ :=
  EReal.toReal (X (ix3 b R ⟨4 + h.val, by omega⟩))

/-- One head's step sizes. -/
def betas (X : FVec Ideal ⟨3, ![8, 4352, 128]⟩ .f32) (b : Fin 8) (h : Fin 4) (R : Fin 4352) : ℝ :=
  EReal.toReal (X (ix3 b R ⟨12 + h.val, by omega⟩))

/-- The state of one batch row and head after `i` tokens. -/
def stateOf (K V : FVec Ideal ⟨3, ![8, 4352, 512]⟩ .f32) (SM : FVec Ideal ⟨3, ![8, 4352, 128]⟩ .f32) (b : Fin 8) (h : Fin 4) (i : ℕ) :
    Fin 128 → Fin 128 → ℝ :=
  seqS (rows K b h) (rows V b h) (gates SM b h) (betas SM b h) i

/-- The output of the gated delta rule at batch row `b`, row `R`, head `h`, channel `e`. -/
def outOf (Q K V : FVec Ideal ⟨3, ![8, 4352, 512]⟩ .f32) (SM : FVec Ideal ⟨3, ![8, 4352, 128]⟩ .f32) (b : Fin 8) (R : Fin 4352) (h : Fin 4)
    (e : Fin 128) : ℝ :=
  seqO (rows Q b h) (rows K b h) (rows V b h) (gates SM b h) (betas SM b h) R e

end Cert.Gdn

end

end
-- ==== Proof.GdnGate.lean ====
module

public import proofs.«01_k».proof.Proof.GdnSpec
public import proofs.«01_k».proof.Proof.Gen.KernelIdeal.Value

/-! The gates of a block as the kernel lays them out: cumulated along the rows, one column per head and batch row. -/

@[expose] public section

set_option maxRecDepth 16384

noncomputable section

namespace Cert.Gdn

open Idealize.ShloMosaic Idealize.ShloMosaic.TcCoe Idealize.SL.Sem
open Cert.KernelIdeal Cert.KernelIdeal.Gen

/-- A payload of the eight batch rows' cumulated gates, at an input block. -/
abbrev on {α : Type} (f : FVec Ideal S64x128 .f32 → FVec Ideal S64x128 .f32 → FVec Ideal S64x128 .f32 → FVec Ideal S64x128 .f32 →
    FVec Ideal S64x128 .f32 → FVec Ideal S64x128 .f32 → FVec Ideal S64x128 .f32 → FVec Ideal S1x64x128 .f32 → α)
    (x3 : Vec Ideal S8x64x128 .f32) : α :=
  f (k0_pay10 x3) (k0_pay11 x3) (k0_pay12 x3) (k0_pay13 x3) (k0_pay14 x3) (k0_pay15 x3) (k0_pay16 x3) (k0_pay17 x3)

/-- The cumulated log gates as a column per head and batch row. -/
def gcol (x3 : Vec Ideal S8x64x128 .f32) : FVec Ideal S32x64x1 .f32 :=
    k0_pay123 (on k0_pay18 x3) (on k0_pay27 x3) (on k0_pay30 x3) (on k0_pay33 x3) (on k0_pay36 x3)
      (k0_pay39 (on k0_pay18 x3)) (k0_pay42 (on k0_pay18 x3)) (k0_pay45 (on k0_pay18 x3))
      (k0_pay48 (on k0_pay18 x3)) (k0_pay51 (on k0_pay18 x3)) (k0_pay54 (on k0_pay18 x3))
      (k0_pay57 (on k0_pay18 x3)) (k0_pay60 (on k0_pay18 x3)) (k0_pay63 (on k0_pay18 x3))
      (k0_pay66 (on k0_pay18 x3)) (k0_pay69 (on k0_pay18 x3)) (k0_pay72 (on k0_pay18 x3))
      (k0_pay75 (on k0_pay18 x3)) (k0_pay78 (on k0_pay18 x3)) (k0_pay81 (on k0_pay18 x3))
      (k0_pay84 (on k0_pay18 x3)) (k0_pay87 (on k0_pay18 x3)) (k0_pay91 (k0_pay90 (on k0_pay18 x3)))
      (k0_pay94 (on k0_pay18 x3)) (k0_pay97 (on k0_pay18 x3)) (k0_pay100 (on k0_pay18 x3))
      (k0_pay103 (on k0_pay18 x3)) (k0_pay106 (on k0_pay18 x3)) (k0_pay109 (on k0_pay18 x3))
      (k0_pay112 (on k0_pay18 x3)) (k0_pay115 (on k0_pay18 x3))

/-- The step sizes as a column per head and batch row. -/
def bcol (x3 : Vec Ideal S8x64x128 .f32) : FVec Ideal S32x64x1 .f32 :=
    k0_pay135 (k0_pay29 x3) (k0_pay32 x3) (k0_pay35 x3) (k0_pay38 x3) (k0_pay41 x3) (k0_pay44 x3) (k0_pay47 x3)
      (k0_pay50 x3) (k0_pay53 x3) (k0_pay56 x3) (k0_pay59 x3) (k0_pay62 x3) (k0_pay65 x3) (k0_pay68 x3)
      (k0_pay71 x3) (k0_pay74 x3) (k0_pay77 x3) (k0_pay80 x3) (k0_pay83 x3) (k0_pay86 x3) (k0_pay89 x3)
      (k0_pay93 x3) (k0_pay96 x3) (k0_pay99 x3) (k0_pay102 x3) (k0_pay105 x3) (k0_pay108 x3) (k0_pay111 x3)
      (k0_pay114 x3) (k0_pay118 (k0_pay117 x3)) (k0_pay120 x3) (k0_pay122 x3)

/-- The differences of cumulated log gates, row against column, per head and batch row. -/
def gdiff (x3 : Vec Ideal S8x64x128 .f32) : FVec Ideal S32x64x64 .f32 :=
    k0_pay136 (k0_pay61 (on k0_pay22 x3)) (k0_pay64 (on k0_pay23 x3)) (k0_pay67 (on k0_pay24 x3))
      (k0_pay70 (on k0_pay25 x3)) (k0_pay73 (on k0_pay26 x3)) (k0_pay76 (on k0_pay19 x3))
      (k0_pay79 (on k0_pay20 x3)) (k0_pay82 (on k0_pay21 x3)) (k0_pay85 (on k0_pay22 x3))
      (k0_pay88 (on k0_pay23 x3)) (k0_pay92 (on k0_pay24 x3)) (k0_pay95 (on k0_pay25 x3))
      (k0_pay98 (on k0_pay26 x3)) (k0_pay101 (on k0_pay19 x3)) (k0_pay104 (on k0_pay20 x3))
      (k0_pay107 (on k0_pay21 x3)) (k0_pay110 (on k0_pay22 x3)) (k0_pay113 (on k0_pay23 x3))
      (k0_pay116 (on k0_pay24 x3)) (k0_pay119 (on k0_pay25 x3)) (k0_pay121 (on k0_pay26 x3)) (gcol x3)
      (k0_pay124 (on k0_pay28 x3)) (k0_pay125 (on k0_pay31 x3)) (k0_pay126 (on k0_pay34 x3))
      (k0_pay127 (on k0_pay37 x3)) (k0_pay128 (k0_pay40 (on k0_pay23 x3)))
      (k0_pay129 (k0_pay43 (on k0_pay24 x3))) (k0_pay130 (k0_pay46 (on k0_pay25 x3)))
      (k0_pay131 (k0_pay49 (on k0_pay26 x3))) (k0_pay132 (k0_pay52 (on k0_pay19 x3)))
      (k0_pay133 (k0_pay55 (on k0_pay20 x3))) (k0_pay134 (k0_pay58 (on k0_pay21 x3)))

/-- The order mask of a block run backward: row `r` comes at or after column `c`. -/
theorem later_at (r c : Fin 64) : (k0_pay7 : IVec S64x64 1) (ix2 r c) = if r ≤ c then 1#1 else 0#1 := by
  revert r c
  decide +kernel

/-- The strict order mask. -/
theorem strict_at (r c : Fin 64) : (k0_pay8 : IVec S64x64 1) (ix2 r c) = if r < c then 1#1 else 0#1 := by
  revert r c
  decide +kernel

/-- Two readings of an array at indices with the same coordinates. -/
theorem at3 {φ : FTy} {n0 n1 n2 : ℕ} (x : FVec Ideal ⟨3, ![n0, n1, n2]⟩ φ) {a a' : Fin n0} {b b' : Fin n1} {c c' : Fin n2}
    (ha : a.val = a'.val) (hb : b.val = b'.val) (hc : c.val = c'.val) : x (ix3 a b c) = x (ix3 a' b' c') := by
  rw [Fin.ext ha, Fin.ext hb, Fin.ext hc]

/-- Two readings of a matrix at indices with the same coordinates. -/
theorem at2 {φ : FTy} {n0 n1 : ℕ} (x : FVec Ideal ⟨2, ![n0, n1]⟩ φ) {a a' : Fin n0} {b b' : Fin n1}
    (ha : a.val = a'.val) (hb : b.val = b'.val) : x (ix2 a b) = x (ix2 a' b') := by
  rw [Fin.ext ha, Fin.ext hb]

/-- An index is the one its three coordinates name. -/
theorem ix3_ext {n0 n1 n2 : ℕ} {i : (⟨3, ![n0, n1, n2]⟩ : Shape).Idx} {a : Fin n0} {b : Fin n1} {c : Fin n2}
    (h0 : (i 0).val = a.val) (h1 : (i 1).val = b.val) (h2 : (i 2).val = c.val) : i = ix3 a b c := by
  have e0 : (i 0 : Fin n0) = a := Fin.ext h0
  have e1 : (i 1 : Fin n1) = b := Fin.ext h1
  have e2 : (i 2 : Fin n2) = c := Fin.ext h2
  rw [eq_ix3 i]
  exact congr (congr (congrArg ix3 e0) e1) e2

/-- Column `l` of batch row `b` among the eight rows' columns laid side by side. -/
abbrev lane (b : Fin 8) (l : Fin 128) : Fin 1024 := ⟨128 * b.val + l.val, by omega⟩

/-- The cumulated gates of all batch rows side by side: each row's sum over the rows from it to the block's end. -/
theorem pay9_at (x3 : Vec Ideal S8x64x128 .f32) (b : Fin 8) (r : Fin 64) (l : Fin 128) :
    k0_pay9 (F := Ideal) x3 (ix2 r (lane b l)) = ∑ c : Fin 64, (if r ≤ c then (1 : EReal) else 0) * x3 (ix3 b c l) := by
  unfold k0_pay9
  generalize hX : concatenate S64x1024 1 _ _ = X
  have h : ∀ c, X (ix2 c (lane b l)) = x3 (ix3 b c l) := by
    intro c
    rw [← hX]
    pointwise
    fin_vals b with hb
    all_goals simp only [hb, Nat.reduceMul, Nat.reduceSub, Nat.reduceLT, ↓reduceDIte]
    all_goals (repeat rw [dif_neg (by omega)])
    all_goals (try rw [dif_pos (by omega)])
    all_goals exact at3 x3 hb.symm rfl (by simp only; omega)
  clear hX
  pointwise [later_at, h]
  refine Finset.sum_congr rfl fun c _ => Ideal.mul_congr ?_ rfl
  split_ifs
  · show (((BitVec.setWidth 32 1#1).toInt : ℝ) : EReal) = 1
    norm_num
  · show (((BitVec.setWidth 32 0#1).toInt : ℝ) : EReal) = 0
    norm_num

/-- The cumulated gates, batch row by batch row. -/
theorem gcum_at (x3 : Vec Ideal S8x64x128 .f32) (b : Fin 8) (r : Fin 64) (l : Fin 128) :
    on k0_pay18 x3 (ix3 b r l) = ∑ c : Fin 64, (if r ≤ c then (1 : EReal) else 0) * x3 (ix3 b c l) := by
  rw [← pay9_at]
  generalize hY : k0_pay9 (F := Ideal) x3 = Y
  unfold k0_pay18
  concat_tiles i hi
  all_goals (try subst hY)
  all_goals replace hi : b.val = _ := hi
  all_goals replace hi1 : (i 1).val = r.val := hi1
  all_goals replace hi2 : (i 2).val = l.val := hi2
  all_goals pointwise [k0_pay10, k0_pay11, k0_pay12, k0_pay13, k0_pay14, k0_pay15, k0_pay16, k0_pay17]
  all_goals exact at2 _ hi1 (by simp only; omega)

/-- The batch row and the head of a kernel batch entry. -/
abbrev bOf (x : Fin 32) : Fin 8 := ⟨x.val % 8, Nat.mod_lt _ (by decide)⟩
abbrev hOf (x : Fin 32) : Fin 4 := ⟨x.val / 8, by omega⟩

/-- The step sizes, per head and batch row. -/
theorem bcol_at (x3 : Vec Ideal S8x64x128 .f32) (x : Fin 32) (r : Fin 64) :
    bcol x3 (ix3 x r 0) = x3 (ix3 (bOf x) r ⟨12 + (hOf x).val, by omega⟩) := by
  unfold bcol k0_pay135
  concat_tiles i hx
  all_goals rw [ix3_ext (i := i) (a := 0) (b := r) (c := 0) hx0 hx1 hx2]
  all_goals replace hx : x.val = _ := hx
  all_goals pointwise [k0_pay29, k0_pay32, k0_pay35, k0_pay38, k0_pay41, k0_pay44, k0_pay47, k0_pay50, k0_pay53, k0_pay56, k0_pay59, k0_pay62, k0_pay65, k0_pay68, k0_pay71, k0_pay74, k0_pay77, k0_pay80, k0_pay83, k0_pay86, k0_pay89, k0_pay93, k0_pay96, k0_pay99, k0_pay102, k0_pay105, k0_pay108, k0_pay111, k0_pay114, k0_pay118, k0_pay117, k0_pay120, k0_pay122]
  all_goals exact at3 x3 (by simp only; omega) rfl (by simp only; omega)

/-- The cumulated log gates, per head and batch row. -/
theorem gcol_at (x3 : Vec Ideal S8x64x128 .f32) (x : Fin 32) (r : Fin 64) :
    gcol x3 (ix3 x r 0) = on k0_pay18 x3 (ix3 (bOf x) r ⟨4 + (hOf x).val, by omega⟩) := by
  unfold gcol k0_pay123
  concat_tiles i hx
  all_goals rw [ix3_ext (i := i) (a := 0) (b := r) (c := 0) hx0 hx1 hx2]
  all_goals replace hx : x.val = _ := hx
  all_goals pointwise [k0_pay27, k0_pay30, k0_pay33, k0_pay36, k0_pay39, k0_pay42, k0_pay45, k0_pay48, k0_pay51, k0_pay54, k0_pay57, k0_pay60, k0_pay63, k0_pay66, k0_pay69, k0_pay72, k0_pay75, k0_pay78, k0_pay81, k0_pay84, k0_pay87, k0_pay91, k0_pay90, k0_pay94, k0_pay97, k0_pay100, k0_pay103, k0_pay106, k0_pay109, k0_pay112, k0_pay115]
  all_goals exact at3 (on k0_pay18 x3) (by simp only; omega) rfl (by simp only; omega)

/-- The differences of the cumulated log gates, per head and batch row. -/
theorem gdiff_at (x3 : Vec Ideal S8x64x128 .f32) (x : Fin 32) (r c : Fin 64) :
    gdiff x3 (ix3 x r c) = gcol x3 (ix3 x r 0) - on k0_pay18 x3 (ix3 (bOf x) c ⟨4 + (hOf x).val, by omega⟩) := by
  unfold gdiff k0_pay136
  generalize hX : concatenate S32x1x64 0 _ _ = X
  have h : X (ix3 x 0 c) = on k0_pay18 x3 (ix3 (bOf x) c ⟨4 + (hOf x).val, by omega⟩) := by
    rw [← hX]
    concat_tiles i hx
    all_goals rw [ix3_ext (i := i) (a := 0) (b := 0) (c := c) hx0 hx1 hx2]
    all_goals replace hx : x.val = _ := hx
    all_goals pointwise [k0_pay61, k0_pay22, k0_pay64, k0_pay23, k0_pay67, k0_pay24, k0_pay70, k0_pay25, k0_pay73, k0_pay26, k0_pay76, k0_pay19, k0_pay79, k0_pay20, k0_pay82, k0_pay21, k0_pay85, k0_pay88, k0_pay92, k0_pay95, k0_pay98, k0_pay101, k0_pay104, k0_pay107, k0_pay110, k0_pay113, k0_pay116, k0_pay119, k0_pay121, k0_pay124, k0_pay28, k0_pay125, k0_pay31, k0_pay126, k0_pay34, k0_pay127, k0_pay37, k0_pay128, k0_pay40, k0_pay129, k0_pay43, k0_pay130, k0_pay46, k0_pay131, k0_pay49, k0_pay132, k0_pay52, k0_pay133, k0_pay55, k0_pay134, k0_pay58]
    all_goals exact at3 (on k0_pay18 x3) (by simp only; omega) rfl (by simp only; omega)
  clear hX
  pointwise [h]

end Cert.Gdn

end

end
-- ==== Proof.GdnPay.lean ====
module

public import proofs.«01_k».proof.Proof.GdnGate
public import proofs.«01_k».proof.Proof.GdnSeq
public import proofs.«01_k».proof.Proof.Gen.KernelIdeal.Value

/-! Stacks of real matrices through the kernel's operations, and what one block puts out. -/

@[expose] public section

set_option maxRecDepth 16384

noncomputable section

namespace Cert.Gdn

open Idealize.ShloMosaic Idealize.ShloMosaic.TcCoe Idealize.SL.Sem
open Cert.KernelIdeal Cert.KernelIdeal.Gen

/-- A stack of 32 matrices whose every entry is the real one given. -/
def Is {n m : ℕ} {φ : FTy} (v : FVec Ideal ⟨3, ![32, n, m]⟩ φ) (A : Fin 32 → Fin n → Fin m → ℝ) : Prop :=
  ∀ x r c, v (ix3 x r c) = ((A x r c : ℝ) : EReal)

theorem Is.congr {n m : ℕ} {φ : FTy} {v : FVec Ideal ⟨3, ![32, n, m]⟩ φ} {A B : Fin 32 → Fin n → Fin m → ℝ} (h : Is v A)
    (e : ∀ x r c, A x r c = B x r c) : Is v B := fun x r c => (h x r c).trans (by rw [e])

section ops

variable {n m : ℕ} {φ : FTy} {a b : FVec Ideal ⟨3, ![32, n, m]⟩ φ} {A B : Fin 32 → Fin n → Fin m → ℝ}

theorem Is.addf (ha : Is a A) (hb : Is b B) : Is (addf a b) fun x r c => A x r c + B x r c := fun x r c =>
  (congrArg₂ (fun u v : EReal => u + v) (ha x r c) (hb x r c)).trans (EReal.coe_add _ _).symm

theorem Is.subf (ha : Is a A) (hb : Is b B) : Is (subf a b) fun x r c => A x r c - B x r c := fun x r c =>
  (congrArg₂ (fun u v : EReal => u - v) (ha x r c) (hb x r c)).trans (EReal.coe_sub _ _).symm

theorem Is.mulf (ha : Is a A) (hb : Is b B) : Is (mulf a b) fun x r c => A x r c * B x r c := fun x r c =>
  (congrArg₂ (fun u v : EReal => u * v) (ha x r c) (hb x r c)).trans (EReal.coe_mul _ _).symm

theorem Is.exp (ha : Is a A) : Is (exp a) fun x r c => Real.exp (A x r c) := fun x r c =>
  (congrArg (fun u : EReal => Ideal.exp u) (ha x r c)).trans (Ideal.exp_coe _)

theorem Is.bf16 {a : FVec Ideal ⟨3, ![32, n, m]⟩ .f32} (ha : Is a A) (h : FTy.bf16.bits < FTy.f32.bits) : Is (truncf .bf16 a h) A := ha

end ops

/-- A masked matrix: the entries the mask leaves out are zero. -/
theorem Is.mask {a : FVec Ideal S32x64x64 .f32} {A : Fin 32 → Fin 64 → Fin 64 → ℝ} {M : IVec S64x64 1} {P : Fin 64 → Fin 64 → Prop}
    [∀ r c, Decidable (P r c)] (ha : Is a A) (hM : ∀ r c, M (ix2 r c) = if P r c then 1#1 else 0#1) :
    Is (select (broadcastTo S32x64x64 (shapeCast S1x64x64 M shapeCasts_S64x64_S1x64x64) broadcasts_S1x64x64_S32x64x64) a
      (broadcast S32x64x64 (Scalar.ofBits .f32 0x00000000#32))) fun x r c => if P r c then A x r c else 0 := by
  intro x r c
  pointwise [hM]
  have h := ha x r c
  split_ifs with hp
  · exact h
  · rfl

/-! The products of stacked matrices: of real matrices, the real sums of products. -/

theorem Is.mm64 {a : FVec Ideal S32x64x64 .bf16} {b : FVec Ideal S32x64x64 .bf16} {A : Fin 32 → Fin 64 → Fin 64 → ℝ}
    {B : Fin 32 → Fin 64 → Fin 64 → ℝ} (ha : Is a A) (hb : Is b B) :
    Is (matmul dot_S32x64x64_S32x64x64_S32x64x64_2_1_1_2_0_0 none a b (constant S32x64x64 .f32 0x00000000#32)) fun x r c => ∑ d, A x r d * B x d c := by
  intro x r c
  have ha' : ∀ x r c, a (ix3 x r c) = ((A x r c : ℝ) : EReal) := ha
  have hb' : ∀ x r c, b (ix3 x r c) = ((B x r c : ℝ) : EReal) := hb
  pointwise [ha', hb']
  exact coe_dot _ _

theorem Is.mmT {a : FVec Ideal S32x128x128 .bf16} {b : FVec Ideal S32x64x128 .bf16} {A : Fin 32 → Fin 128 → Fin 128 → ℝ}
    {B : Fin 32 → Fin 64 → Fin 128 → ℝ} (ha : Is a A) (hb : Is b B) :
    Is (matmul dot_S32x128x128_S32x64x128_S32x128x64_2_2_1_1_0_0 none a b (constant S32x128x64 .f32 0x00000000#32)) fun x r c => ∑ d, A x r d * B x c d := by
  intro x r c
  have ha' : ∀ x r c, a (ix3 x r c) = ((A x r c : ℝ) : EReal) := ha
  have hb' : ∀ x r c, b (ix3 x r c) = ((B x r c : ℝ) : EReal) := hb
  pointwise [ha', hb']
  exact coe_dot _ _

theorem Is.mmStack {a : FVec Ideal S32x128x64 .bf16} {b : FVec Ideal S32x64x64 .bf16} {A : Fin 32 → Fin 128 → Fin 64 → ℝ}
    {B : Fin 32 → Fin 64 → Fin 64 → ℝ} (ha : Is a A) (hb : Is b B) :
    Is (matmul dot_S32x128x64_S32x64x64_S32x128x64_2_1_1_2_0_0 none a b (constant S32x128x64 .f32 0x00000000#32)) fun x r c => ∑ d, A x r d * B x d c := by
  intro x r c
  have ha' : ∀ x r c, a (ix3 x r c) = ((A x r c : ℝ) : EReal) := ha
  have hb' : ∀ x r c, b (ix3 x r c) = ((B x r c : ℝ) : EReal) := hb
  pointwise [ha', hb']
  exact coe_dot _ _

theorem Is.mmWide {a : FVec Ideal S32x64x64 .bf16} {b : FVec Ideal S32x64x256 .bf16} {A : Fin 32 → Fin 64 → Fin 64 → ℝ}
    {B : Fin 32 → Fin 64 → Fin 256 → ℝ} (ha : Is a A) (hb : Is b B) :
    Is (matmul dot_S32x64x64_S32x64x256_S32x64x256_2_1_1_2_0_0 none a b (constant S32x64x256 .f32 0x00000000#32)) fun x r c => ∑ d, A x r d * B x d c := by
  intro x r c
  have ha' : ∀ x r c, a (ix3 x r c) = ((A x r c : ℝ) : EReal) := ha
  have hb' : ∀ x r c, b (ix3 x r c) = ((B x r c : ℝ) : EReal) := hb
  pointwise [ha', hb']
  exact coe_dot _ _

theorem Is.mmState {a : FVec Ideal S32x128x128 .bf16} {b : FVec Ideal S32x128x128 .bf16} {A : Fin 32 → Fin 128 → Fin 128 → ℝ}
    {B : Fin 32 → Fin 128 → Fin 128 → ℝ} (ha : Is a A) (hb : Is b B) :
    Is (matmul dot_S32x128x128_S32x128x128_S32x128x128_2_1_1_2_0_0 none a b (constant S32x128x128 .f32 0x00000000#32)) fun x r c => ∑ d, A x r d * B x d c := by
  intro x r c
  have ha' : ∀ x r c, a (ix3 x r c) = ((A x r c : ℝ) : EReal) := ha
  have hb' : ∀ x r c, b (ix3 x r c) = ((B x r c : ℝ) : EReal) := hb
  pointwise [ha', hb']
  exact coe_dot _ _

theorem Is.mmNew {a : FVec Ideal S32x64x64 .bf16} {b : FVec Ideal S32x64x128 .bf16} {A : Fin 32 → Fin 64 → Fin 64 → ℝ}
    {B : Fin 32 → Fin 64 → Fin 128 → ℝ} (ha : Is a A) (hb : Is b B) :
    Is (matmul dot_S32x64x64_S32x64x128_S32x64x128_2_1_1_2_0_0 none a b (constant S32x64x128 .f32 0x00000000#32)) fun x r c => ∑ d, A x r d * B x d c := by
  intro x r c
  have ha' : ∀ x r c, a (ix3 x r c) = ((A x r c : ℝ) : EReal) := ha
  have hb' : ∀ x r c, b (ix3 x r c) = ((B x r c : ℝ) : EReal) := hb
  pointwise [ha', hb']
  exact coe_dot _ _

theorem Is.mmOuter {a : FVec Ideal S32x64x128 .bf16} {b : FVec Ideal S32x64x128 .bf16} {A : Fin 32 → Fin 64 → Fin 128 → ℝ}
    {B : Fin 32 → Fin 64 → Fin 128 → ℝ} (ha : Is a A) (hb : Is b B) :
    Is (matmul dot_S32x64x128_S32x64x128_S32x128x128_1_1_2_2_0_0 none a b (constant S32x128x128 .f32 0x00000000#32)) fun x r c => ∑ d, A x d r * B x d c := by
  intro x r c
  have ha' : ∀ x r c, a (ix3 x r c) = ((A x r c : ℝ) : EReal) := ha
  have hb' : ∀ x r c, b (ix3 x r c) = ((B x r c : ℝ) : EReal) := hb
  pointwise [ha', hb']
  exact coe_dot _ _

theorem Is.stack128 {a b : FVec Ideal S32x64x128 .f32} {A B : Fin 32 → Fin 64 → Fin 128 → ℝ} (ha : Is a A) (hb : Is b B) :
    Is (concatenate S32x128x128 1 [⟨S32x64x128, a⟩, ⟨S32x64x128, b⟩] concatenates_S32x64x128_S32x64x128_S32x128x128_d1)
      fun x r c => if h : r.val < 64 then A x ⟨r.val, h⟩ c else B x ⟨r.val - 64, by omega⟩ c := by
  intro x r c
  have ha' : ∀ x r c, a (ix3 x r c) = ((A x r c : ℝ) : EReal) := ha
  have hb' : ∀ x r c, b (ix3 x r c) = ((B x r c : ℝ) : EReal) := hb
  pointwise [ha', hb']
  split_ifs <;> rfl

theorem Is.top128 {v : FVec Ideal S32x128x128 .f32} {A : Fin 32 → Fin 128 → Fin 128 → ℝ} (h : Is v A) :
    Is (extractStridedSlice S32x64x128 ![0, 0, 0] v slices_S32x128x128_o0_0_0_S32x64x128)
      fun x r c => A x ⟨r.val, by omega⟩ c := by
  intro x r c
  have h' : ∀ x r c, v (ix3 x r c) = ((A x r c : ℝ) : EReal) := h
  pointwise [h']

theorem Is.low128 {v : FVec Ideal S32x128x128 .f32} {A : Fin 32 → Fin 128 → Fin 128 → ℝ} (h : Is v A) :
    Is (extractStridedSlice S32x64x128 ![0, 64, 0] v slices_S32x128x128_o0_64_0_S32x64x128)
      fun x r c => A x ⟨64 + r.val, by omega⟩ c := by
  intro x r c
  have h' : ∀ x r c, v (ix3 x r c) = ((A x r c : ℝ) : EReal) := h
  pointwise [h']

theorem Is.stack64 {a b : FVec Ideal S32x64x64 .f32} {A B : Fin 32 → Fin 64 → Fin 64 → ℝ} (ha : Is a A) (hb : Is b B) :
    Is (concatenate S32x128x64 1 [⟨S32x64x64, a⟩, ⟨S32x64x64, b⟩] concatenates_S32x64x64_S32x64x64_S32x128x64_d1)
      fun x r c => if h : r.val < 64 then A x ⟨r.val, h⟩ c else B x ⟨r.val - 64, by omega⟩ c := by
  intro x r c
  have ha' : ∀ x r c, a (ix3 x r c) = ((A x r c : ℝ) : EReal) := ha
  have hb' : ∀ x r c, b (ix3 x r c) = ((B x r c : ℝ) : EReal) := hb
  pointwise [ha', hb']
  split_ifs <;> rfl

theorem Is.top64 {v : FVec Ideal S32x128x64 .f32} {A : Fin 32 → Fin 128 → Fin 64 → ℝ} (h : Is v A) :
    Is (extractStridedSlice S32x64x64 ![0, 0, 0] v slices_S32x128x64_o0_0_0_S32x64x64)
      fun x r c => A x ⟨r.val, by omega⟩ c := by
  intro x r c
  have h' : ∀ x r c, v (ix3 x r c) = ((A x r c : ℝ) : EReal) := h
  pointwise [h']

theorem Is.low64 {v : FVec Ideal S32x128x64 .f32} {A : Fin 32 → Fin 128 → Fin 64 → ℝ} (h : Is v A) :
    Is (extractStridedSlice S32x64x64 ![0, 64, 0] v slices_S32x128x64_o0_64_0_S32x64x64)
      fun x r c => A x ⟨64 + r.val, by omega⟩ c := by
  intro x r c
  have h' : ∀ x r c, v (ix3 x r c) = ((A x r c : ℝ) : EReal) := h
  pointwise [h']

theorem Is.side {a b : FVec Ideal S32x64x128 .f32} {A B : Fin 32 → Fin 64 → Fin 128 → ℝ} (ha : Is a A) (hb : Is b B) :
    Is (concatenate S32x64x256 2 [⟨S32x64x128, a⟩, ⟨S32x64x128, b⟩] concatenates_S32x64x128_S32x64x128_S32x64x256_d2)
      fun x r c => if h : c.val < 128 then A x r ⟨c.val, h⟩ else B x r ⟨c.val - 128, by omega⟩ := by
  intro x r c
  have ha' : ∀ x r c, a (ix3 x r c) = ((A x r c : ℝ) : EReal) := ha
  have hb' : ∀ x r c, b (ix3 x r c) = ((B x r c : ℝ) : EReal) := hb
  pointwise [ha', hb']
  split_ifs <;> rfl

/-- A column repeated along the rows. -/
theorem Is.spread {v : FVec Ideal S32x64x1 .f32} {A : Fin 32 → Fin 64 → ℝ} (h : Is v fun x r _ => A x r) :
    Is (broadcastTo S32x64x128 v broadcasts_S32x64x1_S32x64x128) fun x r _ => A x r := by
  intro x r c
  have h' : ∀ x r c, v (ix3 x r c) = ((A x r : ℝ) : EReal) := h
  pointwise [h']

/-! ### One block -/

section block

variable {x0 x1 x2 : Vec Ideal S8x64x512 .f32} {GC BE : FVec Ideal S32x64x1 .f32} {DI : FVec Ideal S32x64x64 .f32}
  {S : FVec Ideal S32x128x128 .f32} {q k v : Fin 32 → Fin 64 → Fin 128 → ℝ} {g β : Fin 32 → Fin 64 → ℝ}
  {s : Fin 32 → Fin 128 → Fin 128 → ℝ}

/-- The float word of zero. -/
abbrev z : Ideal .f32 := Scalar.ofBits .f32 0x00000000#32

theorem is138 (hd : Is DI fun x r c => acc (g x) r - acc (g x) c) :
    Is (k0_pay138 k0_pay7 DI z (k0_pay137 k0_pay7)) fun x r c => dec (g x) r c := by
  refine Is.congr (((hd.mask later_at).exp).mask later_at) fun x r c => ?_
  unfold dec
  split_ifs <;> rfl

theorem is142 (hk : Is (k0_pay140 x1) k) (hb : Is BE fun x r _ => β x r) :
    Is (k0_pay142 x1 BE) fun x r c => k x r c * β x r := hk.mulf hb.spread

theorem is143 (hq : Is (k0_pay139 x0) q) (hk : Is (k0_pay140 x1) k) (hb : Is BE fun x r _ => β x r) :
    Is (k0_pay143 x0 x1 BE) fun x r c => ∑ d, (if h : r.val < 64 then k x ⟨r.val, h⟩ d * β x ⟨r.val, h⟩ else q x ⟨r.val - 64, by omega⟩ d) * k x c d :=
  (((is142 hk hb).stack128 hq).bf16 _).mmT (hk.bf16 _)

theorem is144 (hq : Is (k0_pay139 x0) q) (hk : Is (k0_pay140 x1) k) (hb : Is BE fun x r _ => β x r)
    (hd : Is DI fun x r c => acc (g x) r - acc (g x) c) :
    Is (k0_pay144 x0 x1 k0_pay7 BE DI z (k0_pay137 k0_pay7)) fun x r c => (∑ d, q x r d * k x c d) * dec (g x) r c := by
  refine Is.congr ((is143 hq hk hb).low64.mulf (is138 hd)) fun x r c => ?_
  simp only [Nat.not_lt.mpr (Nat.le_add_right 64 _), dite_false, Nat.add_sub_cancel_left]

theorem is145 (hq : Is (k0_pay139 x0) q) (hk : Is (k0_pay140 x1) k) (hb : Is BE fun x r _ => β x r)
    (hd : Is DI fun x r c => acc (g x) r - acc (g x) c) :
    Is (k0_pay145 x0 x1 k0_pay7 k0_pay8 BE DI z (k0_pay137 k0_pay7)) fun x => nmat (k x) (g x) (β x) := by
  have hz : Is (n := 64) (m := 64) (broadcast S32x64x64 z) fun _ _ _ => 0 := fun x r c => by
    pointwise
    rfl
  refine Is.congr (hz.subf (((is143 hq hk hb).top64.mulf (is138 hd)).mask strict_at)) fun x r c => ?_
  unfold nmat
  simp only [r.isLt, dite_true]

/-! ### The inverse -/

/-- The row numbers. -/
abbrev io : IVec S64x64 32 := iota .tc S64x64 32 [0] iota_S64x64_d0_w32

theorem same3_at (r c : Fin 64) : (k0_pay147 : IVec S64x64 1) (ix2 r c) = if same 3 r c then 1#1 else 0#1 := by
  revert r c
  decide +kernel

theorem eye_at (r c : Fin 64) : (cmpi .eq io k0_pay146 : IVec S64x64 1) (ix2 r c) = if r = c then 1#1 else 0#1 := by
  revert r c
  decide +kernel

theorem off3_at (r c : Fin 64) : (andi (k0_pay149 io k0_pay146) (xori k0_pay147 (constantI S64x64 1 1#1)) : IVec S64x64 1) (ix2 r c)
    = if same (3 + 1) r c ∧ ¬ same 3 r c then 1#1 else 0#1 := by
  revert r c
  decide +kernel

theorem off4_at (r c : Fin 64) : (k0_pay152 io k0_pay146 : IVec S64x64 1) (ix2 r c)
    = if same (4 + 1) r c ∧ ¬ same 4 r c then 1#1 else 0#1 := by
  revert r c
  decide +kernel

theorem off5_at (r c : Fin 64) : (andi (cmpi .eq (shrsi io (broadcast S64x64 6#32)) (shrsi k0_pay146 (broadcast S64x64 6#32)))
      (xori (k0_pay151 io k0_pay146) (constantI S64x64 1 1#1)) : IVec S64x64 1) (ix2 r c)
    = if same (5 + 1) r c ∧ ¬ same 5 r c then 1#1 else 0#1 := by
  revert r c
  decide +kernel

variable {N : FVec Ideal S32x64x64 .f32} {n : Fin 32 → Mat}

theorem isMerge {a : FVec Ideal S32x64x64 .f32} {x : Fin 32 → Mat} (b : ℕ) {M : IVec S64x64 1} (hN : Is N n) (ha : Is a x)
    (hM : ∀ r c, M (ix2 r c) = if same (b + 1) r c ∧ ¬ same b r c then 1#1 else 0#1) :
    Is (addf a (matmul dot_S32x64x64_S32x64x64_S32x64x64_2_1_1_2_0_0 none (truncf .bf16
      (matmul dot_S32x64x64_S32x64x64_S32x64x64_2_1_1_2_0_0 none (truncf .bf16 a bitsLt_bf16_f32) (truncf .bf16
        (select (broadcastTo S32x64x64 (shapeCast S1x64x64 M shapeCasts_S64x64_S1x64x64) broadcasts_S1x64x64_S32x64x64) N
          (broadcast S32x64x64 z)) bitsLt_bf16_f32) (constant S32x64x64 .f32 0x00000000#32)) bitsLt_bf16_f32)
      (truncf .bf16 a bitsLt_bf16_f32) (constant S32x64x64 .f32 0x00000000#32))) fun i => merge b (n i) (x i) :=
  ha.addf ((((ha.bf16 _).mm64 ((hN.mask hM).bf16 _)).bf16 _).mm64 (ha.bf16 _))

theorem is150 {D : FVec Ideal S32x64x64 .f32} (hN : Is N n) (hD : Is D fun x => diag 3 (n x)) :
    Is (k0_pay150 N io k0_pay146 k0_pay147 D) fun x => merge 3 (n x) (inv8 (n x)) := by
  have h1 : Is (n := 64) (m := 64) (broadcastTo S32x64x64 (shapeCast S1x64x64 (select (cmpi .eq io k0_pay146)
      (broadcast S64x64 (Scalar.ofBits (F := Ideal) .f32 0x3F800000#32)) (broadcast S64x64 z)) shapeCasts_S64x64_S1x64x64)
        broadcasts_S1x64x64_S32x64x64) fun _ => (1 : Mat) := by
    intro x r c
    pointwise [eye_at]
    rw [Matrix.one_apply]
    split_ifs <;> rfl
  have h1p := h1.addf hD
  have hpp := (hD.bf16 bitsLt_bf16_f32).mm64 (hD.bf16 bitsLt_bf16_f32)
  have hst := ((h1p.stack64 hpp).bf16 bitsLt_bf16_f32).mmStack (hpp.bf16 bitsLt_bf16_f32)
  have h2 := h1p.addf hst.top64
  have h8 := h2.addf ((h2.bf16 bitsLt_bf16_f32).mm64 (hst.low64.bf16 bitsLt_bf16_f32))
  have h8' := h8.congr (B := fun x => inv8 (n x)) fun x r c => by
    simp only [Fin.isLt, dite_true, Nat.not_lt.mpr (Nat.le_add_right 64 _), dite_false, Nat.add_sub_cancel_left]
    rfl
  exact isMerge 3 hN h8' off3_at

/-- The inverse applied to the decayed keys beside the scaled values. -/
theorem is154 {K V : FVec Ideal S32x64x128 .f32} {X : FVec Ideal S32x64x64 .f32} (hN : Is N n)
    (hX : Is X fun x => merge 3 (n x) (inv8 (n x))) (hg : Is GC fun x r _ => acc (g x) r) (hb : Is BE fun x r _ => β x r)
    (hv : Is V v) (hK : Is K fun x r d => k x r d * β x r) :
    Is (k0_pay154 GC BE V K N io k0_pay146 X (k0_pay151 io k0_pay146) (k0_pay152 io k0_pay146)) fun x r c =>
      ∑ j, tri (n x) r j * (if h : c.val < 128 then k x j ⟨c.val, h⟩ * β x j * Real.exp (acc (g x) j)
        else v x j ⟨c.val - 128, by omega⟩ * β x j) :=
  ((isMerge 5 hN (isMerge 4 hN hX off4_at) off5_at).bf16 _).mmWide
    (((hK.mulf hg.exp.spread).side (hv.mulf hb.spread)).bf16 _)

/-- The rows' right-hand sides, solved. -/
def uu (n : Mat) (v : Fin 64 → Fin 128 → ℝ) (β : Fin 64 → ℝ) (r : Fin 64) (e : Fin 128) : ℝ := ∑ c, tri n r c * (v c e * β c)

/-- The rows' reads of the old state, solved. -/
def ww (n : Mat) (k : Fin 64 → Fin 128 → ℝ) (g β : Fin 64 → ℝ) (r : Fin 64) (d : Fin 128) : ℝ :=
  ∑ c, tri n r c * (k c d * β c * Real.exp (acc g c))

theorem is155 {K V : FVec Ideal S32x64x128 .f32} {X : FVec Ideal S32x64x64 .f32} (hN : Is N n)
    (hX : Is X fun x => merge 3 (n x) (inv8 (n x))) (hg : Is GC fun x r _ => acc (g x) r) (hb : Is BE fun x r _ => β x r)
    (hv : Is V v) (hK : Is K fun x r d => k x r d * β x r) :
    Is (k0_pay155 GC BE V K N io k0_pay146 X (k0_pay151 io k0_pay146) (k0_pay152 io k0_pay146)) fun x =>
      uu (n x) (v x) (β x) := by
  intro x r c
  have h := is154 hN hX hg hb hv hK x r ⟨128 + c.val, by omega⟩
  simp only [Nat.not_lt.mpr (Nat.le_add_right 128 _), dite_false, Nat.add_sub_cancel_left] at h
  unfold k0_pay155
  pointwise [h]
  rfl

theorem is157 {Q K V : FVec Ideal S32x64x128 .f32} {X : FVec Ideal S32x64x64 .f32} (hN : Is N n)
    (hX : Is X fun x => merge 3 (n x) (inv8 (n x))) (hg : Is GC fun x r _ => acc (g x) r) (hb : Is BE fun x r _ => β x r)
    (hq : Is Q q) (hv : Is V v) (hK : Is K fun x r d => k x r d * β x r) :
    Is (k0_pay157 GC BE Q V K N io k0_pay146 X (k0_pay151 io k0_pay146) (k0_pay152 io k0_pay146)) fun x r c =>
      if h : r.val < 64 then ww (n x) (k x) (g x) (β x) ⟨r.val, h⟩ c
      else q x ⟨r.val - 64, by omega⟩ c * Real.exp (acc (g x) ⟨r.val - 64, by omega⟩) := by
  have hw : Is (n := 64) (m := 128) (extractStridedSlice S32x64x128 ![0, 0, 0]
      (k0_pay154 GC BE V K N io k0_pay146 X (k0_pay151 io k0_pay146) (k0_pay152 io k0_pay146)) slices_S32x64x256_o0_0_0_S32x64x128)
        fun x => ww (n x) (k x) (g x) (β x) := by
    intro x r c
    have h := is154 hN hX hg hb hv hK x r ⟨c.val, by omega⟩
    simp only [c.isLt, dite_true] at h
    pointwise [h]
    rfl
  exact (hw.stack128 (hq.mulf hg.exp.spread)).bf16 _

variable {U : FVec Ideal S32x64x128 .f32} {Wq : FVec Ideal S32x128x128 .bf16} {u w : Fin 32 → Fin 64 → Fin 128 → ℝ}

/-- The old state read by the rows' keys and by their queries. -/
theorem is1 (hW : Is Wq fun x r c => if h : r.val < 64 then w x ⟨r.val, h⟩ c
      else q x ⟨r.val - 64, by omega⟩ c * Real.exp (acc (g x) ⟨r.val - 64, by omega⟩)) (hs : Is S s) :
    Is (k0_pay1 Wq (k0_pay158 S)) fun x r e => ∑ d, (if h : r.val < 64 then w x ⟨r.val, h⟩ d
      else q x ⟨r.val - 64, by omega⟩ d * Real.exp (acc (g x) ⟨r.val - 64, by omega⟩)) * s x d e :=
  hW.mmState (hs.bf16 _)

/-- What the rows write. -/
theorem is2 (hU : Is U u) (hW : Is Wq fun x r c => if h : r.val < 64 then w x ⟨r.val, h⟩ c
      else q x ⟨r.val - 64, by omega⟩ c * Real.exp (acc (g x) ⟨r.val - 64, by omega⟩)) (hs : Is S s) :
    Is (k0_pay2 U Wq (k0_pay158 S)) fun x r e => u x r e - ∑ d, w x r d * s x d e := by
  refine Is.congr (hU.subf (is1 hW hs).top128) fun x r e => ?_
  simp only [r.isLt, dite_true]

/-- The state the block leaves. -/
theorem is3 {K : FVec Ideal S32x64x128 .f32} (hg : Is GC fun x r _ => acc (g x) r) (hk : Is K k) (hU : Is U u)
    (hW : Is Wq fun x r c => if h : r.val < 64 then w x ⟨r.val, h⟩ c
      else q x ⟨r.val - 64, by omega⟩ c * Real.exp (acc (g x) ⟨r.val - 64, by omega⟩)) (hs : Is S s) :
    Is (k0_pay3 GC K U (k0_pay156 GC) S Wq (k0_pay158 S)) fun x d e => s x d e * Real.exp (acc (g x) 0)
      + ∑ r, k x r d * Real.exp (acc (g x) 0 - acc (g x) r) * (u x r e - ∑ d, w x r d * s x d e) := by
  have h1 : Is (n := 128) (m := 128) (broadcastTo S32x128x128 (exp (k0_pay156 GC)) broadcasts_S32x1x1_S32x128x128)
      fun x _ _ => Real.exp (acc (g x) 0) := by
    intro x r c
    have h := hg x 0 0
    pointwise [k0_pay156]
    exact (congrArg (fun u : EReal => Ideal.exp u) h).trans (Ideal.exp_coe _)
  have h2 : Is (n := 64) (m := 1) (broadcastTo S32x64x1 (k0_pay156 GC) broadcasts_S32x1x1_S32x64x1) fun x _ _ => acc (g x) 0 := by
    intro x r c
    have h := hg x 0 0
    pointwise [k0_pay156]
    exact h
  have h := (hs.mulf h1).addf
    (((hk.mulf (Is.spread (A := fun x r => Real.exp (acc (g x) 0 - acc (g x) r)) (h2.subf hg).exp)).bf16 bitsLt_bf16_f32).mmOuter
      ((is2 hU hW hs).bf16 bitsLt_bf16_f32))
  intro x d e
  refine Eq.trans ?_ (h x d e)
  unfold k0_pay3
  pointwise

/-- The heads of an output block side by side. -/
theorem is4 {T : FVec Ideal S32x64x64 .f32} {t : Fin 32 → Mat} (hT : Is T t) (hU : Is U u)
    (hW : Is Wq fun x r c => if h : r.val < 64 then w x ⟨r.val, h⟩ c
      else q x ⟨r.val - 64, by omega⟩ c * Real.exp (acc (g x) ⟨r.val - 64, by omega⟩)) (hs : Is S s)
    (b : Fin 8) (r : Fin 64) (h : Fin 4) (e : Fin 128) :
    k0_pay4 T U Wq (k0_pay158 S) (ix3 b r ⟨128 * h.val + e.val, by omega⟩)
      = (((∑ d, q ⟨8 * h.val + b.val, by omega⟩ r d * Real.exp (acc (g ⟨8 * h.val + b.val, by omega⟩) r) * s ⟨8 * h.val + b.val, by omega⟩ d e)
        + ∑ c, t ⟨8 * h.val + b.val, by omega⟩ r c * (u ⟨8 * h.val + b.val, by omega⟩ c e
          - ∑ d, w ⟨8 * h.val + b.val, by omega⟩ c d * s ⟨8 * h.val + b.val, by omega⟩ d e) : ℝ) : EReal) := by
  have hy := (is1 hW hs).low128.addf ((hT.bf16 bitsLt_bf16_f32).mmNew ((is2 hU hW hs).bf16 bitsLt_bf16_f32))
  simp only [Nat.not_lt.mpr (Nat.le_add_right 64 _), dite_false, Nat.add_sub_cancel_left] at hy
  rw [← hy]
  unfold k0_pay4
  generalize hY : (addf _ _ : FVec Ideal S32x64x128 .f32) = Y
  pointwise
  fin_vals h with hh
  all_goals simp only [hh, Nat.reduceMul, Nat.reduceSub, Nat.reduceLT, ↓reduceDIte]
  all_goals (repeat rw [dif_neg (by omega)])
  all_goals (try rw [dif_pos (by omega)])
  all_goals exact at3 Y (by simp only <;> omega) rfl (by simp only <;> omega)

/-! ### The block as a whole -/

section whole

variable (hq : Is (k0_pay139 x0) q) (hk : Is (k0_pay140 x1) k) (hv : Is (k0_pay141 x2) v) (hb : Is BE fun x r _ => β x r)
  (hg : Is GC fun x r _ => acc (g x) r) (hd : Is DI fun x r c => acc (g x) r - acc (g x) c) (hs : Is S s)

/-- The matrix of the rows' system, as the kernel computes it. -/
abbrev amat (x0 x1 : Vec Ideal S8x64x512 .f32) (BE : FVec Ideal S32x64x1 .f32) (DI : FVec Ideal S32x64x64 .f32) : FVec Ideal S32x64x64 .f32 :=
  k0_pay145 x0 x1 k0_pay7 k0_pay8 BE DI z (k0_pay137 k0_pay7)

/-- Its inverse in blocks of sixteen. -/
abbrev inv16 (x0 x1 : Vec Ideal S8x64x512 .f32) (BE : FVec Ideal S32x64x1 .f32) (DI : FVec Ideal S32x64x64 .f32) : FVec Ideal S32x64x64 .f32 :=
  k0_pay150 (amat x0 x1 BE DI) io k0_pay146 k0_pay147 (k0_pay148 x0 x1 k0_pay7 k0_pay8 BE DI z (k0_pay137 k0_pay7))

abbrev ublk (x0 x1 x2 : Vec Ideal S8x64x512 .f32) (GC BE : FVec Ideal S32x64x1 .f32) (DI : FVec Ideal S32x64x64 .f32) :
    FVec Ideal S32x64x128 .f32 :=
  k0_pay155 GC BE (k0_pay141 x2) (k0_pay142 x1 BE) (amat x0 x1 BE DI) io k0_pay146 (inv16 x0 x1 BE DI)
    (k0_pay151 io k0_pay146) (k0_pay152 io k0_pay146)

abbrev wblk (x0 x1 x2 : Vec Ideal S8x64x512 .f32) (GC BE : FVec Ideal S32x64x1 .f32) (DI : FVec Ideal S32x64x64 .f32) :
    FVec Ideal S32x128x128 .bf16 :=
  k0_pay157 GC BE (k0_pay139 x0) (k0_pay141 x2) (k0_pay142 x1 BE) (amat x0 x1 BE DI) io k0_pay146 (inv16 x0 x1 BE DI)
    (k0_pay151 io k0_pay146) (k0_pay152 io k0_pay146)

include hq hk hb hd

theorem isInv : Is (inv16 x0 x1 BE DI) fun x => merge 3 (nmat (k x) (g x) (β x)) (inv8 (nmat (k x) (g x) (β x))) :=
  is150 (is145 hq hk hb hd) ((is145 hq hk hb hd).mask same3_at)

include hv hg hs

/-- What a block puts out, from real inputs and a real state. -/
theorem block_out (b : Fin 8) (r : Fin 64) (h : Fin 4) (e : Fin 128) :
    k0_pay4 (k0_pay144 x0 x1 k0_pay7 BE DI z (k0_pay137 k0_pay7)) (ublk x0 x1 x2 GC BE DI) (wblk x0 x1 x2 GC BE DI) (k0_pay158 S)
        (ix3 b r ⟨128 * h.val + e.val, by omega⟩)
      = ((oblk (q ⟨8 * h.val + b.val, by omega⟩) (k ⟨8 * h.val + b.val, by omega⟩) (v ⟨8 * h.val + b.val, by omega⟩)
          (g ⟨8 * h.val + b.val, by omega⟩) (β ⟨8 * h.val + b.val, by omega⟩) (s ⟨8 * h.val + b.val, by omega⟩) r e : ℝ) : EReal) :=
  is4 (is144 hq hk hb hd) (is155 (is145 hq hk hb hd) (isInv hq hk hb hd) hg hb hv (is142 hk hb))
    (is157 (is145 hq hk hb hd) (isInv hq hk hb hd) hg hb hq hv (is142 hk hb)) hs b r h e

/-- The state a block leaves, from real inputs and a real state. -/
theorem block_state :
    Is (k0_pay3 GC (k0_pay140 x1) (ublk x0 x1 x2 GC BE DI) (k0_pay156 GC) S (wblk x0 x1 x2 GC BE DI) (k0_pay158 S))
      fun x => snext (k x) (v x) (g x) (β x) (s x) :=
  is3 hg hk (is155 (is145 hq hk hb hd) (isInv hq hk hb hd) hg hb hv (is142 hk hb))
    (is157 (is145 hq hk hb hd) (isInv hq hk hb hd) hg hb hq hv (is142 hk hb)) hs

end whole

end block

end Cert.Gdn

end

end
-- ==== Proof.GdnKer.lean ====
module

public import proofs.«01_k».proof.Proof.GdnSeq
public import proofs.«01_k».proof.Proof.GdnPay
public import Idealize.ShloMosaic.Lib.Pipeline.ReadBack

/-! The array the gated-delta-rule call leaves: its 68 blocks, run backward with a carried state, are the rule over the whole sequence. -/

@[expose] public section

set_option maxRecDepth 16384

noncomputable section

namespace Cert.Gdn

open Idealize.ShloMosaic Idealize.ShloMosaic.TcCoe Idealize.SL.Sem
open Cert.KernelIdeal Cert.KernelIdeal.Gen

theorem qrows_at (x0 : Vec Ideal S8x64x512 .f32) (x : Fin 32) (r : Fin 64) (d : Fin 128) :
    k0_pay139 x0 (ix3 x r d) = x0 (ix3 (bOf x) r ⟨128 * (hOf x).val + d.val, by omega⟩) := by
  pointwise [k0_pay139]
  split_ifs
  all_goals exact at3 x0 (by simp only <;> omega) rfl (by simp only <;> omega)

theorem krows_at (x0 : Vec Ideal S8x64x512 .f32) (x : Fin 32) (r : Fin 64) (d : Fin 128) :
    k0_pay140 x0 (ix3 x r d) = x0 (ix3 (bOf x) r ⟨128 * (hOf x).val + d.val, by omega⟩) := qrows_at x0 x r d

theorem vrows_at (x0 : Vec Ideal S8x64x512 .f32) (x : Fin 32) (r : Fin 64) (d : Fin 128) :
    k0_pay141 x0 (ix3 x r d) = x0 (ix3 (bOf x) r ⟨128 * (hOf x).val + d.val, by omega⟩) := qrows_at x0 x r d

variable (m : (ℓ : Loc nD τ sig) → Buf (Elt Ideal) ℓ) (c : Dev nD)

/-- The four arguments. -/
abbrev argQ : FVec Ideal S8x4352x512 .f32 := m ((c : Thread nD τ).loc main_arg0)
abbrev argK : FVec Ideal S8x4352x512 .f32 := m ((c : Thread nD τ).loc main_arg1)
abbrev argV : FVec Ideal S8x4352x512 .f32 := m ((c : Thread nD τ).loc main_arg2)
abbrev argSM : FVec Ideal S8x4352x128 .f32 := m ((c : Thread nD τ).loc main_arg3)

/-- Which block of each array a grid point works on: the blocks from the last to the first. -/
theorem idx : ∀ t : Fin cfg0.N, win0_0.index t = ![0, 67 - t.val, 0] ∧ win0_1.index t = ![0, 67 - t.val, 0]
    ∧ win0_2.index t = ![0, 67 - t.val, 0] ∧ win0_3.index t = ![0, 67 - t.val, 0] ∧ win0_4.index t = ![0, 67 - t.val, 0] :=
  (by decide +kernel : ∀ t : Fin grid0.N, _)

variable (t : Fin cfg0.N)

theorem blk0 (b : Fin 8) (r : Fin 64) (l : Fin 512) :
    (show FVec Ideal S8x64x512 .f32 from iblk m c 0 t) (ix3 b r l) = argQ m c (ix3 b (blkRow t.val r) l) := by
  refine Eq.trans (b := argQ m c (ix3 b ⟨(67 - t.val) * 64 + r.val, by omega⟩ l)) ?_ (at3 _ rfl (by show _ = 64 * (67 - t.val) + r.val; simp only; omega) rfl)
  blk_point [iblk, V, idx t]

theorem blk1 (b : Fin 8) (r : Fin 64) (l : Fin 512) :
    (show FVec Ideal S8x64x512 .f32 from iblk m c 1 t) (ix3 b r l) = argK m c (ix3 b (blkRow t.val r) l) := by
  refine Eq.trans (b := argK m c (ix3 b ⟨(67 - t.val) * 64 + r.val, by omega⟩ l)) ?_ (at3 _ rfl (by show _ = 64 * (67 - t.val) + r.val; simp only; omega) rfl)
  blk_point [iblk, V, idx t]

theorem blk2 (b : Fin 8) (r : Fin 64) (l : Fin 512) :
    (show FVec Ideal S8x64x512 .f32 from iblk m c 2 t) (ix3 b r l) = argV m c (ix3 b (blkRow t.val r) l) := by
  refine Eq.trans (b := argV m c (ix3 b ⟨(67 - t.val) * 64 + r.val, by omega⟩ l)) ?_ (at3 _ rfl (by show _ = 64 * (67 - t.val) + r.val; simp only; omega) rfl)
  blk_point [iblk, V, idx t]

theorem blk3 (b : Fin 8) (r : Fin 64) (l : Fin 128) :
    (show FVec Ideal S8x64x128 .f32 from iblk m c 3 t) (ix3 b r l) = argSM m c (ix3 b (blkRow t.val r) l) := by
  refine Eq.trans (b := argSM m c (ix3 b ⟨(67 - t.val) * 64 + r.val, by omega⟩ l)) ?_ (at3 _ rfl (by show _ = 64 * (67 - t.val) + r.val; simp only; omega) rfl)
  blk_point [iblk, V, idx t]

/-! ### The block's inputs are real -/

abbrev x0 : Vec Ideal S8x64x512 .f32 := iblk m c 0 t
abbrev x1 : Vec Ideal S8x64x512 .f32 := iblk m c 1 t
abbrev x2 : Vec Ideal S8x64x512 .f32 := iblk m c 2 t
abbrev x3 : Vec Ideal S8x64x128 .f32 := iblk m c 3 t

variable (hQ : Real3 (argQ m c)) (hK : Real3 (argK m c)) (hV : Real3 (argV m c)) (hS : Real3 (argSM m c))

include hQ in
theorem isQ : Is (k0_pay139 (x0 m c t)) fun x r d => rows (argQ m c) (bOf x) (hOf x) (blkRow t.val r) d := fun x r d =>
  (qrows_at _ x r d).trans ((blk0 m c t _ _ _).trans (hQ _ _ _))

include hK in
theorem isK : Is (k0_pay140 (x1 m c t)) fun x r d => rows (argK m c) (bOf x) (hOf x) (blkRow t.val r) d := fun x r d =>
  (krows_at _ x r d).trans ((blk1 m c t _ _ _).trans (hK _ _ _))

include hV in
theorem isV : Is (k0_pay141 (x2 m c t)) fun x r d => rows (argV m c) (bOf x) (hOf x) (blkRow t.val r) d := fun x r d =>
  (vrows_at _ x r d).trans ((blk2 m c t _ _ _).trans (hV _ _ _))

include hS

theorem isB : Is (bcol (x3 m c t)) fun x r _ => betas (argSM m c) (bOf x) (hOf x) (blkRow t.val r) := fun x r l => by
  have e : l = 0 := Subsingleton.elim _ _
  subst e
  exact (bcol_at _ x r).trans ((blk3 m c t _ _ _).trans (hS _ _ _))

theorem gcum_real (x : Fin 32) (r : Fin 64) : on k0_pay18 (x3 m c t) (ix3 (bOf x) r ⟨4 + (hOf x).val, by omega⟩)
    = ((acc (fun r => gates (argSM m c) (bOf x) (hOf x) (blkRow t.val r)) r : ℝ) : EReal) := by
  rw [gcum_at]
  unfold acc
  rw [← coe_sum]
  refine Finset.sum_congr rfl fun j _ => ?_
  have h : x3 m c t (ix3 (bOf x) j ⟨4 + (hOf x).val, by omega⟩) = ((gates (argSM m c) (bOf x) (hOf x) (blkRow t.val j) : ℝ) : EReal) :=
    (blk3 m c t _ _ _).trans (hS _ _ _)
  rw [h]
  split_ifs
  · exact one_mul _
  · exact zero_mul _

theorem isG : Is (gcol (x3 m c t)) fun x r _ => acc (fun r => gates (argSM m c) (bOf x) (hOf x) (blkRow t.val r)) r := fun x r l => by
  have e : l = 0 := Subsingleton.elim _ _
  subst e
  exact (gcol_at _ x r).trans (gcum_real m c t hS x r)

theorem isD : Is (gdiff (x3 m c t)) fun x r j => acc (fun r => gates (argSM m c) (bOf x) (hOf x) (blkRow t.val r)) r
    - acc (fun r => gates (argSM m c) (bOf x) (hOf x) (blkRow t.val r)) j := fun x r j => by
  rw [gdiff_at, gcum_real m c t hS, isG m c t hS x r 0]
  exact (EReal.coe_sub _ _).symm

/-! ### What a grid point leaves -/

omit hS

abbrev outBlk (S : FVec Ideal S32x128x128 .f32) : FVec Ideal S8x64x512 .f32 :=
  k0_pay4 (k0_pay144 (x0 m c t) (x1 m c t) k0_pay7 (bcol (x3 m c t)) (gdiff (x3 m c t)) z (k0_pay137 k0_pay7))
    (ublk (x0 m c t) (x1 m c t) (x2 m c t) (gcol (x3 m c t)) (bcol (x3 m c t)) (gdiff (x3 m c t)))
    (wblk (x0 m c t) (x1 m c t) (x2 m c t) (gcol (x3 m c t)) (bcol (x3 m c t)) (gdiff (x3 m c t))) (k0_pay158 S)

abbrev stateBlk (S : FVec Ideal S32x128x128 .f32) : FVec Ideal S32x128x128 .f32 :=
  k0_pay3 (gcol (x3 m c t)) (k0_pay140 (x1 m c t))
    (ublk (x0 m c t) (x1 m c t) (x2 m c t) (gcol (x3 m c t)) (bcol (x3 m c t)) (gdiff (x3 m c t))) (k0_pay156 (gcol (x3 m c t))) S
    (wblk (x0 m c t) (x1 m c t) (x2 m c t) (gcol (x3 m c t)) (bcol (x3 m c t)) (gdiff (x3 m c t))) (k0_pay158 S)

theorem outs_later (h : ¬ t.val % 68 = 0) :
    outsAt0 m c t.val t.isLt = (outBlk m c t (outsAt0 m c (t.val - 1) (Nat.lt_of_le_of_lt (Nat.sub_le _ _) t.isLt)).2,
      stateBlk m c t (outsAt0 m c (t.val - 1) (Nat.lt_of_le_of_lt (Nat.sub_le _ _) t.isLt)).2) := by
  rw [outsAt0_B m c t h]
  refine Prod.ext ?_ ?_
  · frame_out
    rw [read_unread_whole]
    rfl
  · frame_out
    rw [read_unread_whole]
    rfl

theorem outs_first (h : t.val % 68 = 0) :
    outsAt0 m c t.val t.isLt = (outBlk m c t k0_pay5, stateBlk m c t k0_pay5) := by
  rw [outsAt0_A m c t h]
  refine Prod.ext ?_ ?_
  · frame_out
    rfl
  · frame_out
    rfl

theorem points : cfg0.N = 68 := by decide +kernel

section step

variable {S : FVec Ideal S32x128x128 .f32}

include hQ hK hV hS

theorem step_state (h : Is S fun x => stateOf (argK m c) (argV m c) (argSM m c) (bOf x) (hOf x) (64 * t.val)) :
    Is (stateBlk m c t S) fun x => stateOf (argK m c) (argV m c) (argSM m c) (bOf x) (hOf x) (64 * (t.val + 1)) :=
  (block_state (isQ m c t hQ) (isK m c t hK) (isV m c t hV) (isB m c t hS) (isG m c t hS) (isD m c t hS) h).congr fun x d e =>
    congrFun (congrFun (seq_next _ _ _ _ (lt_of_lt_of_eq t.isLt points)) d) e

theorem step_out (h : Is S fun x => stateOf (argK m c) (argV m c) (argSM m c) (bOf x) (hOf x) (64 * t.val)) (x : Fin 32) (r : Fin 64) (e : Fin 128) :
    outBlk m c t S (ix3 (bOf x) r ⟨128 * (hOf x).val + e.val, by omega⟩)
      = ((outOf (argQ m c) (argK m c) (argV m c) (argSM m c) (bOf x) (blkRow t.val r) (hOf x) e : ℝ) : EReal) := by
  have h1 := block_out (isQ m c t hQ) (isK m c t hK) (isV m c t hV) (isB m c t hS) (isG m c t hS) (isD m c t hS) h (bOf x) r (hOf x) e
  have hx : (⟨8 * (hOf x).val + (bOf x).val, by omega⟩ : Fin 32) = x := Fin.ext (by show 8 * (x.val / 8) + x.val % 8 = x.val; omega)
  rw [hx] at h1
  exact h1.trans (congrArg _ (seq_out _ _ _ _ _ (lt_of_lt_of_eq t.isLt points) r e))

/-- The state carried out of every grid point. -/
theorem state_at : ∀ (n : ℕ) (hn : n < cfg0.N),
    Is (φ := .f32) (outsAt0 m c n hn).2 fun x => stateOf (argK m c) (argV m c) (argSM m c) (bOf x) (hOf x) (64 * (n + 1))
  | 0, hn => by
    have h := outs_first m c ⟨0, hn⟩ rfl
    rw [show outsAt0 m c 0 hn = _ from h]
    refine step_state m c ⟨0, hn⟩ hQ hK hV hS fun x d e => ?_
    pointwise [k0_pay5]
    rfl
  | n + 1, hn => by
    have h := outs_later m c ⟨n + 1, hn⟩ (by have := points; show ¬ (n + 1) % 68 = 0; omega)
    rw [show outsAt0 m c (n + 1) hn = _ from h]
    exact step_state m c ⟨n + 1, hn⟩ hQ hK hV hS (state_at n (Nat.lt_of_succ_lt hn))

/-- What every grid point puts out. -/
theorem out_at : (x : Fin 32) → (r : Fin 64) → (e : Fin 128) →
    (outsAt0 m c t.val t.isLt).1 (ix3 (bOf x) r ⟨128 * (hOf x).val + e.val, by omega⟩)
      = ((outOf (argQ m c) (argK m c) (argV m c) (argSM m c) (bOf x) (blkRow t.val r) (hOf x) e : ℝ) : EReal) := by
  by_cases h : t.val % 68 = 0
  · rw [outs_first m c t h]
    refine step_out m c t hQ hK hV hS fun x d e => ?_
    have h0 : t.val = 0 := by have := points; have := t.isLt; omega
    rw [h0]
    pointwise [k0_pay5]
    rfl
  · rw [outs_later m c t h]
    have h1 := state_at m c hQ hK hV hS (t.val - 1) (Nat.lt_of_le_of_lt (Nat.sub_le _ _) t.isLt)
    have h2 : t.val - 1 + 1 = t.val := by omega
    rw [h2] at h1
    exact step_out m c t hQ hK hV hS h1

/-- The call's result array: the gated delta rule of every row, head and channel. -/
theorem final : (dats m 0 c).arrAt 4 cfg0.N = fun i => ((outOf (argQ m c) (argK m c) (argV m c) (argSM m c) (i 0) (i 1)
    ⟨(i 2).val / 128, Nat.div_lt_of_lt_mul (i 2).isLt⟩ ⟨(i 2).val % 128, Nat.mod_lt _ (by decide)⟩ : ℝ) : EReal) := by
  refine (dats m 0 c).arrAt_eq_of_covers 4 _ (by decide +kernel) fun t _ y => ?_
  blk_simp
  rw [after0_4]
  obtain ⟨-, -, -, -, e⟩ := idx t
  have h0 : (((win0_4.blk t).view.emb y) 0 : ℕ) = (y 0 : ℕ) := by
    blk_simp [e]
  have h1 : (((win0_4.blk t).view.emb y) 1 : ℕ) = (67 - t.val) * 64 + (y 1 : ℕ) := by
    blk_simp [e]
  have h2 : (((win0_4.blk t).view.emb y) 2 : ℕ) = (y 2 : ℕ) := by
    blk_simp [e]
  have y0 : (y 0 : ℕ) < 8 := (y 0).isLt
  have y1 : (y 1 : ℕ) < 64 := (y 1).isLt
  have y2 : (y 2 : ℕ) < 512 := (y 2).isLt
  have h := out_at m c t hQ hK hV hS ⟨8 * ((y 2 : ℕ) / 128) + (y 0 : ℕ), by omega⟩ ⟨(y 1 : ℕ), y1⟩ ⟨(y 2 : ℕ) % 128, by omega⟩
  refine Eq.trans ?_ (h.trans ?_)
  · refine congrArg (outsAt0 m c t.val t.isLt).1 (ix3_ext ?_ ?_ ?_)
    · show (y 0 : ℕ) = (8 * ((y 2 : ℕ) / 128) + (y 0 : ℕ)) % 8
      omega
    · rfl
    · show (y 2 : ℕ) = 128 * ((8 * ((y 2 : ℕ) / 128) + (y 0 : ℕ)) / 8) + (y 2 : ℕ) % 128
      omega
  · refine congrArg (fun r : ℝ => (r : EReal)) ?_
    have a0 : bOf ⟨8 * ((y 2 : ℕ) / 128) + (y 0 : ℕ), by omega⟩ = ((win0_4.blk t).view.emb y) 0 :=
      Fin.ext (by rw [h0]; show (8 * ((y 2 : ℕ) / 128) + (y 0 : ℕ)) % 8 = _; omega)
    have a1 : blkRow t.val ⟨(y 1 : ℕ), y1⟩ = ((win0_4.blk t).view.emb y) 1 :=
      Fin.ext (by rw [h1]; show 64 * (67 - t.val) + (y 1 : ℕ) = _; omega)
    have e2 : win0_4.index t 2 = 0 := by rw [e]; rfl
    have a2 : hOf ⟨8 * ((y 2 : ℕ) / 128) + (y 0 : ℕ), by omega⟩ = ⟨(win0_4.index t 2 * 512 + (y 2 : ℕ)) / 128, by rw [e2]; omega⟩ :=
      Fin.ext (by show (8 * ((y 2 : ℕ) / 128) + (y 0 : ℕ)) / 8 = (win0_4.index t 2 * 512 + (y 2 : ℕ)) / 128; rw [e2]; omega)
    have a3 : (⟨(y 2 : ℕ) % 128, by omega⟩ : Fin 128) = ⟨(win0_4.index t 2 * 512 + (y 2 : ℕ)) % 128, by omega⟩ :=
      Fin.ext (by show (y 2 : ℕ) % 128 = (win0_4.index t 2 * 512 + (y 2 : ℕ)) % 128; rw [e2]; omega)
    rw [a0, a1, a2, a3]

end step

end Cert.Gdn

end

end
-- ==== Proof.GdnRef.lean ====
module

public import proofs.«01_k».proof.Proof.GdnSeq
public import proofs.«01_k».proof.Proof.Gen.ReferenceIdeal.Run
public import Idealize.ShloMosaic.Lib.DynamicIndex
public import Idealize.ShloMosaic.Lib.WordCmp

/-! The reference's scan: after `n` tokens its state and the rows it has put out are the gated delta rule's. -/

@[expose] public section

set_option maxRecDepth 16384

noncomputable section

namespace Cert.Gdn

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

/-! ### One token's entries of the arrays, at the run-time row -/

/-- The word that holds the row of the `n`-th token. -/
theorem row_word {n : ℕ} (hn : n < 4352) : (4352#32 - BitVec.ofNat 32 n) - 1#32 = BitVec.ofNat 32 (4351 - n) := by
  apply BitVec.eq_of_toNat_eq
  simp only [BitVec.toNat_sub, BitVec.toNat_ofNat]
  omega

/-- The starts of a block of one row, at the row's word. -/
theorem starts4 {n : ℕ} (hn : n < 4352) (i : IVec S_ 32) (hi : i = fun _ => BitVec.ofNat 32 (4351 - n)) (a : Fin 4) :
    ((![i, constantI S_ 32 0#32, constantI S_ 32 0#32, constantI S_ 32 0#32] : Fin 4 → IVec S_ 32) a (Shape.Idx.first h_S_)).toInt
      = ((![4351 - n, 0, 0, 0] : Fin 4 → ℕ) a : Int) := by
  subst hi
  fin_cases a
  · exact toInt_ofNat_of_lt (by omega)
  · rfl
  · rfl
  · rfl

theorem starts3 {n : ℕ} (hn : n < 4352) (i : IVec S_ 32) (hi : i = fun _ => BitVec.ofNat 32 (4351 - n)) (a : Fin 3) :
    ((![i, constantI S_ 32 0#32, constantI S_ 32 0#32] : Fin 3 → IVec S_ 32) a (Shape.Idx.first h_S_)).toInt
      = ((![4351 - n, 0, 0] : Fin 3 → ℕ) a : Int) := by
  subst hi
  fin_cases a
  · exact toInt_ofNat_of_lt (by omega)
  · rfl
  · rfl

theorem fits4 {n : ℕ} (hn : n < 4352) : S4352x8x4x128.Slices ![4351 - n, 0, 0, 0] S1x8x4x128 :=
  ⟨rfl, fun a => by
    fin_cases a
    · show 4351 - n + 1 ≤ 4352
      omega
    · exact le_refl 8
    · exact le_refl 4
    · exact le_refl 128⟩

theorem fits3 {n : ℕ} (hn : n < 4352) : S4352x8x4.Slices ![4351 - n, 0, 0] S1x8x4 :=
  ⟨rfl, fun a => by
    fin_cases a
    · show 4351 - n + 1 ≤ 4352
      omega
    · exact le_refl 8
    · exact le_refl 4⟩

/-- One token's rows, for all batch rows and heads. -/
theorem tok4 {n : ℕ} (hn : n < 4352) (x : FVec Ideal S4352x8x4x128 .f32) (i : IVec S_ 32) (hi : i = fun _ => BitVec.ofNat 32 (4351 - n))
    (b : Fin 8) (h : Fin 4) (d : Fin 128) :
    shapeCast S8x4x128 (Host.dynamicSlice S1x8x4x128 x
        (fun a => ((![i, constantI S_ 32 0#32, constantI S_ 32 0#32, constantI S_ 32 0#32] : Fin 4 → IVec S_ 32) a (Shape.Idx.first h_S_)).toInt)
        sliceFits_S4352x8x4x128_S1x8x4x128) shapeCasts_S1x8x4x128_S8x4x128 (ix3 b h d)
      = x (ix4 (back n) b h d) := by
  rw [Host.dynamicSlice_eq_extractStridedSlice S1x8x4x128 x _ ![4351 - n, 0, 0, 0] _ (fits4 hn) (starts4 hn i hi)]
  pointwise
  rfl

/-- One token's gates, for all batch rows and heads. -/
theorem tok3 {n : ℕ} (hn : n < 4352) (x : FVec Ideal S4352x8x4 .f32) (i : IVec S_ 32) (hi : i = fun _ => BitVec.ofNat 32 (4351 - n))
    (b : Fin 8) (h : Fin 4) :
    shapeCast S8x4 (Host.dynamicSlice S1x8x4 x
        (fun a => ((![i, constantI S_ 32 0#32, constantI S_ 32 0#32] : Fin 3 → IVec S_ 32) a (Shape.Idx.first h_S_)).toInt)
        sliceFits_S4352x8x4_S1x8x4) shapeCasts_S1x8x4_S8x4 (ix2 b h)
      = x (ix3 (back n) b h) := by
  rw [Host.dynamicSlice_eq_extractStridedSlice S1x8x4 x _ ![4351 - n, 0, 0] _ (fits3 hn) (starts3 hn i hi)]
  pointwise
  rfl

/-- The array with one row put in. -/
theorem put4 {n : ℕ} (hn : n < 4352) (x : FVec Ideal S4352x8x4x128 .f32) (u : FVec Ideal S1x8x4x128 .f32) (i : IVec S_ 32)
    (hi : i = fun _ => BitVec.ofNat 32 (4351 - n)) (R : Fin 4352) (b : Fin 8) (h : Fin 4) (d : Fin 128) :
    Host.dynamicUpdateSlice x u
        (fun a => ((![i, constantI S_ 32 0#32, constantI S_ 32 0#32, constantI S_ 32 0#32] : Fin 4 → IVec S_ 32) a (Shape.Idx.first h_S_)).toInt)
        updateFits_S4352x8x4x128_S1x8x4x128 (ix4 R b h d)
      = if R = back n then u (ix4 0 b h d) else x (ix4 R b h d) := by
  rw [WordCmp.dynamicUpdateSlice_eq_update x u _ _ ![4351 - n, 0, 0, 0] (fits4 hn) (starts4 hn i hi)]
  have hR : (R = back n) ↔ R.val = 4351 - n := Fin.ext_iff
  by_cases e : R = back n
  · rw [if_pos e]
    have e' := hR.1 e
    unfold updateSlice
    rw [dif_pos (by
      intro a
      fin_cases a
      · exact ⟨(le_of_eq e'.symm : 4351 - n ≤ R.val), (by omega : R.val < 4351 - n + 1)⟩
      · exact ⟨Nat.zero_le _, (by omega : b.val < 0 + 8)⟩
      · exact ⟨Nat.zero_le _, (by omega : h.val < 0 + 4)⟩
      · exact ⟨Nat.zero_le _, (by omega : d.val < 0 + 128)⟩)]
    refine congrArg u (funext fun a => ?_)
    fin_cases a
    · exact Fin.ext (by show R.val - (4351 - n) = 0; omega)
    · rfl
    · rfl
    · rfl
  · rw [if_neg e]
    have e' : ¬ R.val = 4351 - n := fun h => e (hR.2 h)
    unfold updateSlice
    rw [dif_neg]
    intro hall
    have h0 : 4351 - n ≤ R.val ∧ R.val < 4351 - n + 1 := hall 0
    omega

/-! ### One trip -/

variable (Q K W : FVec Ideal S8x4352x512 .f32) (G : FVec Ideal S8x4352x128 .f32)

/-- What the scan holds after `n` tokens: the arrays it reads as the arguments have them, the count, the delta rule's state, and the rows put out. -/
structure Holds (V : Valuation τ sig (Elt Ideal)) (n : ℕ) : Prop where
  q : ∀ R b h d, (V (Proc.devRef .tc main_v12_0) : FVec Ideal S4352x8x4x128 .f32) (ix4 R b h d) = ((rows Q b h R d : ℝ) : EReal)
  k : ∀ R b h d, (V (Proc.devRef .tc main_v12_1) : FVec Ideal S4352x8x4x128 .f32) (ix4 R b h d) = ((rows K b h R d : ℝ) : EReal)
  v : ∀ R b h d, (V (Proc.devRef .tc main_v12_2) : FVec Ideal S4352x8x4x128 .f32) (ix4 R b h d) = ((rows W b h R d : ℝ) : EReal)
  g : ∀ R b h, (V (Proc.devRef .tc main_v12_3) : FVec Ideal S4352x8x4 .f32) (ix3 R b h) = ((gates G b h R : ℝ) : EReal)
  β : ∀ R b h, (V (Proc.devRef .tc main_v12_4) : FVec Ideal S4352x8x4 .f32) (ix3 R b h) = ((betas G b h R : ℝ) : EReal)
  ctr : (V (Proc.devRef .tc main_v12_5) : IVec S_ 32) = fun _ => BitVec.ofNat 32 n
  s : ∀ b h d e, (V (Proc.devRef .tc main_v12_6) : FVec Ideal S8x4x128x128 .f32) (ix4 b h d e) = ((stateOf K W G b h n d e : ℝ) : EReal)
  o : ∀ R b h e, 4352 - n ≤ R.val →
    (V (Proc.devRef .tc main_v12_7) : FVec Ideal S4352x8x4x128 .f32) (ix4 R b h e) = ((outOf Q K W G b R h e : ℝ) : EReal)

variable {Q K W G} {V : Valuation τ sig (Elt Ideal)} {n : ℕ}

theorem Holds.row (H : Holds Q K W G V n) (hn : n < 4352) : res_main_while0b_v16 V = fun _ => BitVec.ofNat 32 (4351 - n) := by
  unfold res_main_while0b_v16
  have h := H.ctr
  rw [h]
  funext _
  exact row_word hn

theorem Holds.key (H : Holds Q K W G V n) (hn : n < 4352) (b : Fin 8) (h : Fin 4) (d : Fin 128) :
    (res_main_while0b_v18 V : FVec Ideal S8x4x128 .f32) (ix3 b h d) = ((rows K b h (back n) d : ℝ) : EReal) :=
  (tok4 hn _ _ (H.row hn) b h d).trans (H.k _ _ _ _)

/-- The state after the gate. -/
theorem Holds.gated (H : Holds Q K W G V n) (hn : n < 4352) (b : Fin 8) (h : Fin 4) (d e : Fin 128) :
    (res_main_while0b_v25 V : FVec Ideal S8x4x128x128 .f32) (ix4 b h d e)
      = ((stateOf K W G b h n d e * Real.exp (gates G b h (back n)) : ℝ) : EReal) := by
  unfold res_main_while0b_v25
  have hs := H.s b h d e
  have hg := (tok3 hn _ _ (H.row hn) b h).trans (H.g (back n) b h)
  generalize (shapeCast S8x4 (Host.dynamicSlice S1x8x4 (V (Proc.devRef .tc main_v12_3)) _ sliceFits_S4352x8x4_S1x8x4) _ : FVec Ideal S8x4 .f32) = gg at hg ⊢
  generalize (V (Proc.devRef .tc main_v12_6) : FVec Ideal S8x4x128x128 .f32) = ss at hs ⊢
  pointwise [hs, hg]
  rw [Ideal.exp_coe, ← EReal.coe_mul]

/-- The state after the token. -/
theorem Holds.state (H : Holds Q K W G V n) (hn : n < 4352) (b : Fin 8) (h : Fin 4) (d e : Fin 128) :
    (res_main_while0b_v36 V : FVec Ideal S8x4x128x128 .f32) (ix4 b h d e) = ((stateOf K W G b h (n + 1) d e : ℝ) : EReal) := by
  unfold res_main_while0b_v36
  have hS := fun d e => H.gated hn b h d e
  have hk := fun d => H.key hn b h d
  have hv := (tok4 hn _ _ (H.row hn) b h e).trans (H.v (back n) b h e)
  have hb := (tok3 hn _ _ (H.row hn) b h).trans (H.β (back n) b h)
  generalize (shapeCast S8x4 (Host.dynamicSlice S1x8x4 (V (Proc.devRef .tc main_v12_4)) _ sliceFits_S4352x8x4_S1x8x4) _ : FVec Ideal S8x4 .f32) = bb at hb ⊢
  generalize (shapeCast S8x4x128 (Host.dynamicSlice S1x8x4x128 (V (Proc.devRef .tc main_v12_2)) _ sliceFits_S4352x8x4x128_S1x8x4x128) _ : FVec Ideal S8x4x128 .f32) = vv at hv ⊢
  generalize (res_main_while0b_v25 V : FVec Ideal S8x4x128x128 .f32) = ss at hS ⊢
  generalize (res_main_while0b_v18 V : FVec Ideal S8x4x128 .f32) = kk at hk ⊢
  pointwise [hS, hk, hv, hb]
  rw [coe_dot, ← EReal.coe_sub, ← EReal.coe_mul, ← EReal.coe_mul, ← EReal.coe_add]
  rfl

/-- The row a trip puts out: the token's query read from the new state. -/
def rowOut (V : Valuation τ sig (Elt Ideal)) : FVec Ideal S8x4x128 .f32 :=
  Host.dotGeneral (F := Ideal) (φ₁ := .f32) (φ₂ := .f32) dot_S8x4x128_S8x4x128x128_S8x4x128_2_2_n_3_01_01 none (shapeCast S8x4x128 (Host.dynamicSlice S1x8x4x128 (V (Proc.devRef .tc main_v12_0) : FVec Ideal S4352x8x4x128 .f32) (fun k => (((![res_main_while0b_v16 V, constantI S_ 32 0#32, constantI S_ 32 0#32, constantI S_ 32 0#32] : Fin 4 → IVec S_ 32)) k (Shape.Idx.first h_S_)).toInt) sliceFits_S4352x8x4x128_S1x8x4x128) shapeCasts_S1x8x4x128_S8x4x128) (res_main_while0b_v36 V : FVec Ideal S8x4x128x128 .f32)

theorem trip_out (V : Valuation τ sig (Elt Ideal)) : step_main_v12_7 V
    = (Host.dynamicUpdateSlice (V (Proc.devRef .tc main_v12_7) : FVec Ideal S4352x8x4x128 .f32) (broadcastInDim S1x8x4x128 ![1, 2, 3] bcast_S8x4x128_S1x8x4x128_1_2_3 (rowOut V)) (fun k => (((![res_main_while0b_v16 V, constantI S_ 32 0#32, constantI S_ 32 0#32, constantI S_ 32 0#32] : Fin 4 → IVec S_ 32)) k (Shape.Idx.first h_S_)).toInt) updateFits_S4352x8x4x128_S1x8x4x128 : FVec Ideal S4352x8x4x128 .f32) := by
  unfold step_main_v12_7 rowOut
  exact id_eq _

theorem Holds.read (H : Holds Q K W G V n) (hn : n < 4352) (b : Fin 8) (h : Fin 4) (e : Fin 128) :
    rowOut V (ix3 b h e) = ((outOf Q K W G b (back n) h e : ℝ) : EReal) := by
  unfold rowOut
  have hS := fun d e => H.state hn b h d e
  have hq := fun d => (tok4 hn _ _ (H.row hn) b h d).trans (H.q (back n) b h d)
  generalize (shapeCast S8x4x128 (Host.dynamicSlice S1x8x4x128 (V (Proc.devRef .tc main_v12_0)) _ sliceFits_S4352x8x4x128_S1x8x4x128) _ : FVec Ideal S8x4x128 .f32) = qq at hq ⊢
  generalize (res_main_while0b_v36 V : FVec Ideal S8x4x128x128 .f32) = ss at hS ⊢
  pointwise [hS, hq]
  rw [coe_dot]
  have e1 : 4352 - (back n).val = n + 1 := by show 4352 - (4351 - n) = n + 1; omega
  unfold outOf seqO
  rw [e1]
  rfl

/-- One trip of the scan runs one token. -/
theorem Holds.step (H : Holds Q K W G V n) (hn : n < 4352) : Holds Q K W G (STEP V) (n + 1) where
  q R b h d := by rw [STEP_main_v12_0]; exact H.q R b h d
  k R b h d := by rw [STEP_main_v12_1]; exact H.k R b h d
  v R b h d := by rw [STEP_main_v12_2]; exact H.v R b h d
  g R b h := by rw [STEP_main_v12_3]; exact H.g R b h
  β R b h := by rw [STEP_main_v12_4]; exact H.β R b h
  ctr := by
    rw [STEP_main_v12_5]
    unfold step_main_v12_5
    have h := H.ctr
    rw [h]
    funext _
    exact (BitVec.ofNat_add n 1).symm
  s b h d e := by rw [STEP_main_v12_6]; exact H.state hn b h d e
  o R b h e hR := by
    rw [STEP_main_v12_7, trip_out]
    refine (put4 hn _ _ _ (H.row hn) R b h e).trans ?_
    by_cases hr : R = back n
    · rw [if_pos hr, hr]
      refine Eq.trans ?_ (H.read hn b h e)
      generalize rowOut V = Y
      pointwise
    · rw [if_neg hr]
      refine H.o R b h e ?_
      have : R.val ≠ 4351 - n := fun h => hr (Fin.ext h)
      omega

theorem Holds.iterate (H : Holds Q K W G V 0) : ∀ n : ℕ, n ≤ 4352 → Holds Q K W G (STEP^[n] V) n
  | 0, _ => H
  | n + 1, hn => by
    rw [Function.iterate_succ_apply']
    exact (H.iterate n (by omega)).step (by omega)

/-! ### The entry and the result -/

/-- Device `c`'s argument arrays. -/
abbrev refQ (m : (ℓ : Loc nD τ sig) → Buf (Elt Ideal) ℓ) (c : Dev nD) : FVec Ideal S8x4352x512 .f32 := m ((c.tc : Thread nD τ).loc main_arg0)
abbrev refK (m : (ℓ : Loc nD τ sig) → Buf (Elt Ideal) ℓ) (c : Dev nD) : FVec Ideal S8x4352x512 .f32 := m ((c.tc : Thread nD τ).loc main_arg1)
abbrev refV (m : (ℓ : Loc nD τ sig) → Buf (Elt Ideal) ℓ) (c : Dev nD) : FVec Ideal S8x4352x512 .f32 := m ((c.tc : Thread nD τ).loc main_arg2)
abbrev refSM (m : (ℓ : Loc nD τ sig) → Buf (Elt Ideal) ℓ) (c : Dev nD) : FVec Ideal S8x4352x128 .f32 := m ((c.tc : Thread nD τ).loc main_arg3)

section entry

variable (m : (ℓ : Loc nD τ sig) → Buf (Elt Ideal) ℓ) (c : Dev nD)

theorem entry_q : (entryContents preI m c (Proc.devRef .tc main_v12_0) : FVec Ideal S4352x8x4x128 .f32)
    = transpose S4352x8x4x128 [1, 0, 2, 3] (shapeCast S8x4352x4x128 (refQ m c) shapeCasts_S8x4352x512_S8x4352x4x128) transposes_S8x4352x4x128_S4352x8x4x128_1_0_2_3 := by
  simp only [entryContents, afterL_cons, afterL_nil]
  after_reads_simp
  rfl

theorem entry_k : (entryContents preI m c (Proc.devRef .tc main_v12_1) : FVec Ideal S4352x8x4x128 .f32)
    = transpose S4352x8x4x128 [1, 0, 2, 3] (shapeCast S8x4352x4x128 (refK m c) shapeCasts_S8x4352x512_S8x4352x4x128) transposes_S8x4352x4x128_S4352x8x4x128_1_0_2_3 := by
  simp only [entryContents, afterL_cons, afterL_nil]
  after_reads_simp
  rfl

theorem entry_v : (entryContents preI m c (Proc.devRef .tc main_v12_2) : FVec Ideal S4352x8x4x128 .f32)
    = transpose S4352x8x4x128 [1, 0, 2, 3] (shapeCast S8x4352x4x128 (refV m c) shapeCasts_S8x4352x512_S8x4352x4x128) transposes_S8x4352x4x128_S4352x8x4x128_1_0_2_3 := by
  simp only [entryContents, afterL_cons, afterL_nil]
  after_reads_simp
  rfl

theorem entry_g : (entryContents preI m c (Proc.devRef .tc main_v12_3) : FVec Ideal S4352x8x4 .f32)
    = transpose S4352x8x4 [1, 0, 2] (extractStridedSlice S8x4352x4 ![0, 0, 4] (refSM m c) slices_S8x4352x128_S8x4352x4_0_0_4) transposes_S8x4352x4_S4352x8x4_1_0_2 := by
  simp only [entryContents, afterL_cons, afterL_nil]
  after_reads_simp
  rfl

theorem entry_β : (entryContents preI m c (Proc.devRef .tc main_v12_4) : FVec Ideal S4352x8x4 .f32)
    = transpose S4352x8x4 [1, 0, 2] (extractStridedSlice S8x4352x4 ![0, 0, 12] (refSM m c) slices_S8x4352x128_S8x4352x4_0_0_12) transposes_S8x4352x4_S4352x8x4_1_0_2 := by
  simp only [entryContents, afterL_cons, afterL_nil]
  after_reads_simp
  rfl

theorem entry_s : (entryContents preI m c (Proc.devRef .tc main_v12_6) : FVec Ideal S8x4x128x128 .f32)
    = broadcastInDim S8x4x128x128 ![] bcast_S_S8x4x128x128 (constant (F := Ideal) S_ .f32 0x00000000#32) := by
  simp only [entryContents, afterL_cons, afterL_nil]
  after_reads_simp
  rfl

/-- The heads of an array of real rows, one token first. -/
theorem heads_at {X : FVec Ideal S8x4352x512 .f32} (hX : Real3 X) (R : Fin 4352) (b : Fin 8) (h : Fin 4) (d : Fin 128) :
    transpose S4352x8x4x128 [1, 0, 2, 3] (shapeCast S8x4352x4x128 X shapeCasts_S8x4352x512_S8x4352x4x128) transposes_S8x4352x4x128_S4352x8x4x128_1_0_2_3 (ix4 R b h d)
      = ((rows X b h R d : ℝ) : EReal) := by
  unfold rows
  rw [← hX]
  pointwise
  refine congrArg X (funext fun a => ?_)
  fin_cases a
  · rfl
  · rfl
  · exact Fin.ext (by show h.val * 128 + d.val = 128 * h.val + d.val; omega)

theorem holds_entry (hQ : Real3 (refQ m c)) (hK : Real3 (refK m c)) (hV : Real3 (refV m c)) (hS : Real3 (refSM m c)) :
    Holds (refQ m c) (refK m c) (refV m c) (refSM m c) (entryContents preI m c) 0 where
  q R b h d := by rw [entry_q]; exact heads_at hQ R b h d
  k R b h d := by rw [entry_k]; exact heads_at hK R b h d
  v R b h d := by rw [entry_v]; exact heads_at hV R b h d
  g R b h := by
    rw [entry_g]
    unfold gates
    rw [← hS]
    pointwise
  β R b h := by
    rw [entry_β]
    unfold betas
    rw [← hS]
    pointwise
  ctr := ctr_entry m c
  s b h d e := by
    rw [entry_s]
    pointwise
    exact EReal.coe_zero.symm
  o R b h e hR := absurd R.isLt (by omega)

/-- The reference's result is the gated delta rule's output. -/
theorem ref_result (hQ : Real3 (refQ m c)) (hK : Real3 (refK m c)) (hV : Real3 (refV m c)) (hS : Real3 (refSM m c)) :
    (out_main_v14 (STEP^[4352] (entryContents preI m c)) : FVec Ideal S8x4352x512 .f32)
      = fun i => ((outOf (refQ m c) (refK m c) (refV m c) (refSM m c) (i 0) (i 1) ⟨(i 2).val / 128, by have := (i 2).isLt; change (i 2).val < 512 at this; omega⟩
          ⟨(i 2).val % 128, by omega⟩ : ℝ) : EReal) := by
  have H := (holds_entry m c hQ hK hV hS).iterate 4352 (le_refl _)
  funext i
  refine Eq.trans ?_ (H.o _ _ _ _ (by omega))
  generalize (STEP^[4352] (entryContents preI m c)) = X
  unfold out_main_v14
  generalize (X (Proc.devRef .tc main_v12_7) : FVec Ideal S4352x8x4x128 .f32) = Y
  pointwise

end entry

end Cert.Gdn

end

end
-- ==== Proof.GdnFinite.lean ====
module

public import proofs.«01_k».proof.Pre_finite
public import proofs.«01_k».proof.Proof.GdnSeq

/-! The precondition says that every entry of the arguments is a real number. -/

@[expose] public section

set_option maxRecDepth 16384

noncomputable section

namespace Cert.Gdn

open Idealize.ShloMosaic

/-- An extended real whose absolute value is below infinity is a real number. -/
theorem real_of_abs {a : EReal} (h : Ideal.cmp .olt (max a (-a) : EReal) (Ideal.ofBits .f32 0x7F800000#32) = 1#1) :
    a = ((EReal.toReal a : ℝ) : EReal) := by
  have htop : Ideal.ofBits .f32 0x7F800000#32 = ⊤ := by simp [Ideal.ofBits, Ideal.ieee]
  rw [htop] at h
  induction a using EReal.rec with
  | bot => exact absurd h (by simp [Ideal.cmp])
  | coe r => rfl
  | top => exact absurd h (by simp [Ideal.cmp])

theorem real_of_finite [Cert.Pre_finite.Facts] {Q K W : FVec Ideal ⟨3, ![8, 4352, 512]⟩ .f32} {G : FVec Ideal ⟨3, ![8, 4352, 128]⟩ .f32}
    (h : Cert.Pre_finite.fn (F := Ideal) Q K W G = fun _ => 1#1) : Real3 Q ∧ Real3 K ∧ Real3 W ∧ Real3 G := by
  unfold Cert.Pre_finite.fn at h
  refine ⟨fun a b c => real_of_abs ?_, fun a b c => real_of_abs ?_, fun a b c => real_of_abs ?_, fun a b c => real_of_abs ?_⟩
  · refine Eq.trans ?_ (congrFun h (ix3 a b ⟨c.val, by omega⟩))
    pointwise
    rfl
  · refine Eq.trans ?_ (congrFun h (ix3 a b ⟨512 + c.val, by omega⟩))
    pointwise
    rfl
  · refine Eq.trans ?_ (congrFun h (ix3 a b ⟨1024 + c.val, by omega⟩))
    pointwise
    rw [dif_neg (by omega), dif_neg (by omega), dif_pos (by omega)]
    have e : (⟨1024 + c.val - 512 - 512, by omega⟩ : Fin 512) = c := Fin.ext (by show 1024 + c.val - 512 - 512 = c.val; omega)
    rw [e]
    rfl
  · refine Eq.trans ?_ (congrFun h (ix3 a b ⟨1536 + c.val, by omega⟩))
    pointwise
    rw [dif_neg (by omega), dif_neg (by omega), dif_neg (by omega)]
    have e : (⟨1536 + c.val - 512 - 512 - 512, by omega⟩ : Fin 128) = c := Fin.ext (by show 1536 + c.val - 512 - 512 - 512 = c.val; omega)
    rw [e]
    rfl

end Cert.Gdn

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite
public import proofs.«01_k».proof.Proof.FfnKer
public import proofs.«01_k».proof.Proof.FfnRef
public import proofs.«01_k».proof.Proof.FfnCtxKer
public import proofs.«01_k».proof.Proof.FfnCtxRef
public import proofs.«01_k».proof.Proof.FfnMixKer
public import proofs.«01_k».proof.Proof.FfnMixRef
public import proofs.«01_k».proof.Proof.FfnJointKer
public import proofs.«01_k».proof.Proof.FfnJointRef
public import proofs.«01_k».proof.Proof.ProjKer
public import proofs.«01_k».proof.Proof.ProjRef
public import proofs.«01_k».proof.Proof.GdnKer
public import proofs.«01_k».proof.Proof.GdnRef
public import proofs.«01_k».proof.Proof.GdnFinite
public import Idealize.ShloMosaic.Adequacy
public import Idealize.ShloMosaic.Init

@[expose] public section

noncomputable section

namespace Cert.Proof

open Idealize.ShloMosaic Idealize.SL.Sem

/-- The closing call of the last layer computes the reference's output projection and feed-forward half step. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨_, Cert.Kernel2Ideal.Value.run_blocks (F := Ideal) m g, ?_⟩
  refine (θ_run (Cert.Reference2Ideal.defs (F := Ideal)) _ _).mono (fun r h c => ?_)
    (Cert.Reference2Ideal.Value.run (F := Ideal) m' g')
  obtain ⟨hv, hk⟩ := h c
  refine ⟨?_, hk⟩
  refine hv.trans (Eq.trans ?_ (Cert.Ffn.Last.final m c).symm)
  obtain ⟨e0, e1, e2, e3, e4, e5, e6, e7, e8, e9, e10⟩ := hargs c
  rw [← e0, ← e1, ← e2, ← e3, ← e4, ← e5, ← e6, ← e7, ← e8, ← e9, ← e10]
  refine (Cert.Reference2Ideal.Value.val2_main_v104 _).symm.trans ?_
  exact Cert.Ffn.LastRef.result_eq (StableHlo.launchContents m' c)

/-- The feed-forward call with context computes the reference's half step of the latent and of the context tokens. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨_, _, (θ_run (Cert.Kernel3Ideal.defs (F := Ideal)) _ _).mono (fun r h => h.1) (Cert.Ffn.Ctx.run_ends (F := Ideal) m g), ?_⟩
  refine (θ_run (Cert.Reference3Ideal.defs (F := Ideal)) _ _).mono (fun r h c => ?_)
    (Cert.Reference3Ideal.Value.run (F := Ideal) m' g')
  obtain ⟨h0, h1, hk⟩ := h c
  obtain ⟨e0, e1, e2, e3, e4, e5, e6⟩ := hargs c
  refine ⟨(h0.trans (Cert.Ffn.CtxRef.result_lat m' c)).trans (Eq.trans ?_ (Cert.Ffn.Ctx.final_lat m c).symm),
    (h1.trans (Cert.Ffn.CtxRef.result_ctx m' c)).trans (Eq.trans ?_ (Cert.Ffn.Ctx.final_ctx m c).symm), hk⟩
  · rw [← e0, ← e2, ← e3, ← e4, ← e5, ← e6]
    rfl
  · rw [← e1, ← e2, ← e3, ← e4, ← e5, ← e6]
    rfl

/-- The feed-forward call with context and mixing computes the reference's half step of the mixed latent and context tokens. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨_, _, (θ_run (Cert.Kernel4Ideal.defs (F := Ideal)) _ _).mono (fun r h => h.1) (Cert.Ffn.Mix.run_ends (F := Ideal) m g), ?_⟩
  refine (θ_run (Cert.Reference4Ideal.defs (F := Ideal)) _ _).mono (fun r h c => ?_)
    (Cert.Reference4Ideal.Value.run (F := Ideal) m' g')
  obtain ⟨h0, h1, hk⟩ := h c
  obtain ⟨e0, e1, e2, e3, e4, e5, e6, e7, e8, e9, e10, e11, e12⟩ := hargs c
  refine ⟨(h0.trans (Cert.Ffn.MixRef.result_lat (StableHlo.launchContents m' c))).trans (Eq.trans ?_ (Cert.Ffn.Mix.final_lat m c).symm),
    (h1.trans (Cert.Ffn.MixRef.result_ctx (StableHlo.launchContents m' c))).trans (Eq.trans ?_ (Cert.Ffn.Mix.final_ctx m c).symm), hk⟩
  · rw [← e0, ← e2, ← e4, ← e5, ← e6, ← e7, ← e8, ← e9, ← e10, ← e11, ← e12]
    rfl
  · rw [← e1, ← e3, ← e4, ← e5, ← e6, ← e7, ← e8, ← e9, ← e10, ← e11, ← e12]
    rfl

/-- The feed-forward call with context and both halves of the mixing in joint arrays computes the reference's half step of the
    mixed latent and context tokens. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨_, _, (θ_run (Cert.Kernel5Ideal.defs (F := Ideal)) _ _).mono (fun r h => h.1) (Cert.Ffn.Joint.run_ends (F := Ideal) m g), ?_⟩
  refine (θ_run (Cert.Reference5Ideal.defs (F := Ideal)) _ _).mono (fun r h c => ?_)
    (Cert.Reference5Ideal.Value.run (F := Ideal) m' g')
  obtain ⟨h0, h1, hk⟩ := h c
  obtain ⟨e0, e1, e2, e3, e4, e5, e6, e7, e8, e9, e10, e11⟩ := hargs c
  refine ⟨(h0.trans (Cert.Ffn.JointRef.result_lat (StableHlo.launchContents m' c))).trans (Eq.trans ?_ (Cert.Ffn.Joint.final_lat m c).symm),
    (h1.trans (Cert.Ffn.JointRef.result_ctx (StableHlo.launchContents m' c))).trans (Eq.trans ?_ (Cert.Ffn.Joint.final_ctx m c).symm), hk⟩
  · rw [← e0, ← e2, ← e3, ← e4, ← e5, ← e6, ← e7, ← e8, ← e9, ← e10, ← e11]
    rfl
  · rw [← e1, ← e2, ← e3, ← e4, ← e5, ← e6, ← e7, ← e8, ← e9, ← e10, ← e11]
    rfl

/-- The input projection of the retention layers computes the reference's queries, keys, values and gates, and other half's input. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨_, _, _, _, Cert.Kernel6Ideal.Value.run_blocks (F := Ideal) m g, ?_⟩
  refine (θ_run (Cert.Reference6Ideal.defs (F := Ideal)) _ _).mono (fun r h c => ?_)
    (Cert.Reference6Ideal.Value.run (F := Ideal) m' g')
  obtain ⟨h0, h1, h2, h3, hk⟩ := h c
  obtain ⟨e0, e1, e2, e3⟩ := hargs c
  have eH : Cert.Proj.Ref.argH m' c = Cert.Proj.argH m c := e0
  have eC : Cert.Proj.Ref.argC m' c = Cert.Proj.argC m c := e1
  have eM : Cert.Proj.Ref.argM m' c = Cert.Proj.argM m c := e2
  have eW : Cert.Proj.Ref.argW m' c = Cert.Proj.argW m c := e3
  have hq := Cert.Proj.Ref.q_eq m' c
  have hk' := Cert.Proj.Ref.k_eq m' c
  have hvg := Cert.Proj.Ref.vg_eq m' c
  have hu := Cert.Proj.Ref.u_eq m' c
  rw [eH, eC, eM, eW] at hq hk'
  refine ⟨(h0.trans hq).trans (Cert.Proj.final_q m c).symm, (h1.trans hk').trans (Cert.Proj.final_k m c).symm,
    (h2.trans hvg).trans (Eq.trans ?_ (Cert.Proj.final_vg m c).symm), (h3.trans hu).trans (Eq.trans ?_ (Cert.Proj.final_u m c).symm), hk⟩
  · rw [eH, eC, eM, eW]
    rfl
  · rw [eH, eC, eM, eW]
    rfl

/-- The gated delta rule's kernel, block by block, computes what the reference computes token by token, of finite arguments. -/
theorem algebraic1 : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨_, Cert.KernelIdeal.Value.run_blocks (F := Ideal) m g, ?_⟩
  refine (θ_run (Cert.ReferenceIdeal.defs (F := Ideal)) _ _).mono (fun r h c => ?_)
    (Cert.ReferenceIdeal.Value.run (F := Ideal) m' g')
  obtain ⟨hv, hk⟩ := h c
  refine ⟨?_, hk⟩
  obtain ⟨hQ, hK, hV, hS⟩ := Cert.Gdn.real_of_finite (hpre c)
  obtain ⟨e0, e1, e2, e3⟩ := hargs c
  refine hv.trans (Eq.trans (Cert.Gdn.ref_result m' c (by rw [Cert.Gdn.refQ, e0]; exact hQ) (by rw [Cert.Gdn.refK, e1]; exact hK)
    (by rw [Cert.Gdn.refV, e2]; exact hV) (by rw [Cert.Gdn.refSM, e3]; exact hS)) (Eq.trans ?_ (Cert.Gdn.final m c hQ hK hV hS).symm))
  rw [Cert.Gdn.refQ, Cert.Gdn.refK, Cert.Gdn.refV, Cert.Gdn.refSM, e0, e1, e2, e3]
  rfl

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

set_option smartUnfolding false in
/-- The kernel of the feed-forward call with context has its idealization's text, so its frame is the same run's. -/
theorem frame_kernel3 : Cert.quiescent_Kernel3 (hKernel3 := Cert.Kernel3.Gen.facts) := fun m ρ _ =>
  Cert.Ffn.Ctx.frame_any (F := Bits) m ρ

set_option smartUnfolding false in
/-- The kernel of the feed-forward call with context and mixing has its idealization's text, so its frame is the same run's. -/
theorem frame_kernel4 : Cert.quiescent_Kernel4 (hKernel4 := Cert.Kernel4.Gen.facts) := fun m ρ _ =>
  Cert.Ffn.Mix.frame_any (F := Bits) m ρ

set_option smartUnfolding false in
/-- The kernel of the call with both halves in joint arrays has its idealization's text, so its frame is the same run's. -/
theorem frame_kernel5 : Cert.quiescent_Kernel5 (hKernel5 := Cert.Kernel5.Gen.facts) := fun m ρ _ =>
  Cert.Ffn.Joint.frame_any (F := Bits) m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run m ρ),
  frame_kernel3, fun m ρ _ => Cert.Ffn.Ctx.frame_any m ρ,
  fun m ρ _ => (θ_run Cert.Reference3Ideal.defs _ _).mono (fun r h => ⟨fun c => (h c).2.2, sem_eq_zero_of_no_sems (by decide) r.2⟩)
    (Cert.Reference3Ideal.Value.run m ρ),
  frame_kernel4, fun m ρ _ => Cert.Ffn.Mix.frame_any m ρ,
  fun m ρ _ => (θ_run Cert.Reference4Ideal.defs _ _).mono (fun r h => ⟨fun c => (h c).2.2, sem_eq_zero_of_no_sems (by decide) r.2⟩)
    (Cert.Reference4Ideal.Value.run m ρ),
  frame_kernel5, fun m ρ _ => Cert.Ffn.Joint.frame_any m ρ,
  fun m ρ _ => (θ_run Cert.Reference5Ideal.defs _ _).mono (fun r h => ⟨fun c => (h c).2.2, sem_eq_zero_of_no_sems (by decide) r.2⟩)
    (Cert.Reference5Ideal.Value.run m ρ),
  fun m ρ _ => Cert.Kernel6.Gen.frame m ρ, fun m ρ _ => Cert.Kernel6Ideal.Gen.frame m ρ,
  fun m ρ _ => (θ_run Cert.Reference6Ideal.defs _ _).mono (fun r h => ⟨fun c => (h c).2.2.2.2, sem_eq_zero_of_no_sems (by decide) r.2⟩)
    (Cert.Reference6Ideal.Value.run m ρ),
  trivial, algebraic1, trivial, algebraic2, trivial, algebraic3, trivial, algebraic4, trivial, algebraic5, trivial, algebraic6⟩

end Cert.Proof

end
